-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gating_is_finite [hPre_gating_is_finite : Cert.Pre_gating_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gating_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gating_is_finite [hPre_gating_is_finite : Cert.Pre_gating_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gating_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_gating_is_finite [hKernelIdeal : Cert.KernelIdeal.Facts] [hPre_gating_is_finite : Cert.Pre_gating_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gating_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_gating_is_finite [hReferenceIdeal : Cert.ReferenceIdeal.Facts] [hPre_gating_is_finite : Cert.Pre_gating_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gating_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_gating_is_finite [hKernelIdeal : Cert.KernelIdeal.Facts] [hReferenceIdeal : Cert.ReferenceIdeal.Facts] [hPre_gating_is_finite : Cert.Pre_gating_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gating_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_gating_is_finite : Cert.Pre_gating_is_finite.Facts),
    quiescent_Kernel (hKernel := hKernel)
    ∧ quiescent_KernelIdeal (hKernelIdeal := hKernelIdeal)
    ∧ quiescent_KernelIdeal_pre_gating_is_finite (hKernelIdeal := hKernelIdeal) (hPre_gating_is_finite := hPre_gating_is_finite)
    ∧ quiescent_ReferenceIdeal (hReferenceIdeal := hReferenceIdeal)
    ∧ quiescent_ReferenceIdeal_pre_gating_is_finite (hReferenceIdeal := hReferenceIdeal) (hPre_gating_is_finite := hPre_gating_is_finite)
    ∧ preserves_Kernel_KernelIdeal
    ∧ algebraic_KernelIdeal_ReferenceIdeal_pre_gating_is_finite (hKernelIdeal := hKernelIdeal) (hReferenceIdeal := hReferenceIdeal) (hPre_gating_is_finite := hPre_gating_is_finite)
-- ==== Pre_gating_is_finite.lean ====
abbrev S16x768 : Shape := ⟨2, ![16, 768]⟩
abbrev S16x16x768 : Shape := ⟨3, ![16, 16, 768]⟩
abbrev S16x16 : Shape := ⟨2, ![16, 16]⟩
abbrev S16x3x16 : Shape := ⟨3, ![16, 3, 16]⟩
abbrev S768x768 : Shape := ⟨2, ![768, 768]⟩
abbrev S768 : Shape := ⟨1, ![768]⟩
abbrev S3x768x8 : Shape := ⟨3, ![3, 768, 8]⟩
abbrev S8x768x1024 : Shape := ⟨3, ![8, 768, 1024]⟩
abbrev S8x1024 : Shape := ⟨2, ![8, 1024]⟩
abbrev S8x1024x768 : Shape := ⟨3, ![8, 1024, 768]⟩
abbrev S8x768 : Shape := ⟨2, ![8, 768]⟩
abbrev S3x768x512 : Shape := ⟨3, ![3, 768, 512]⟩
abbrev S3x512 : Shape := ⟨2, ![3, 512]⟩
abbrev S3x512x2 : Shape := ⟨3, ![3, 512, 2]⟩
abbrev S3x2 : Shape := ⟨2, ![3, 2]⟩
abbrev S_ : Shape := ⟨0, ![]⟩

class Facts : Prop where
  reducesTo_S16x16x768_S_d0_1_2 : S16x16x768.ReducesTo [0, 1, 2] S_
  h_S_ : 0 < S_.numel
  reducesTo_S768x768_S_d0_1 : S768x768.ReducesTo [0, 1] S_
  reducesTo_S768_S_d0 : S768.ReducesTo [0] S_
  reducesTo_S3x768x8_S_d0_1_2 : S3x768x8.ReducesTo [0, 1, 2] S_

variable [Facts]

def fn_part1 {F : FTy → Type} [FloatOps F] (main_arg8 : FVec F S3x768x8 .f32) (main_v14 : IVec S_ 1) (main_v15 : FVec F S768 .f32) : IVec S_ 1 :=
  let main_cst_7 : FVec F S_ .f32 := constant S_ .f32 0xFF800000#32
  let main_v16 : FVec F S_ .f32 := (fun x v => Host.reduce FloatOps.maximumf x v reducesTo_S768_S_d0 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  let main_v19 : FVec F S3x768x8 .f32 := Host.absf main_arg8
  let main_cst_9 : FVec F S_ .f32 := constant S_ .f32 0xFF800000#32
  let main_v20 : FVec F S_ .f32 := (fun x v => Host.reduce FloatOps.maximumf x v reducesTo_S3x768x8_S_d0_1_2 h_S_) main_v19 main_cst_9
  let main_cst_10 : FVec F S_ .f32 := constant S_ .f32 0x7F800000#32
  let main_v21 : IVec S_ 1 := cmpf .olt main_v20 main_cst_10
  let main_v22 : IVec S_ 1 := andi main_v18 main_v21
  main_v22

def fn {F : FTy → Type} [FloatOps F] (main_arg0 : FVec F S16x768 .f32) (main_arg1 : FVec F S16x16x768 .f32) (main_arg2 : FVec F S16x16 .f32) (main_arg3 : FVec F S16x3x16 .f32) (main_arg4 : FVec F S768x768 .f32) (main_arg5 : FVec F S768 .f32) (main_arg6 : FVec F S768x768 .f32) (main_arg7 : FVec F S768 .f32) (main_arg8 : FVec F S3x768x8 .f32) (main_arg9 : FVec F S8x768x1024 .f32) (main_arg10 : FVec F S8x1024 .f32) (main_arg11 : FVec F S8x1024x768 .f32) (main_arg12 : FVec F S8x768 .f32) (main_arg13 : FVec F S3x768x512 .f32) (main_arg14 : FVec F S3x512 .f32) (main_arg15 : FVec F S3x512x2 .f32) (main_arg16 : FVec F S3x2 .f32) : IVec S_ 1 :=
  let main_v0 : FVec F S16x16x768 .f32 := Host.absf main_arg1
  let main_cst : FVec F S_ .f32 := constant S_ .f32 0xFF800000#32
  let main_v1 : FVec F S_ .f32 := (fun x v => Host.reduce FloatOps.maximumf x v reducesTo_S16x16x768_S_d0_1_2 h_S_) main_v0 main_cst
  let main_cst_0 : FVec F S_ .f32 := constant S_ .f32 0x7F800000#32
  let main_v2 : IVec S_ 1 := cmpf .olt main_v1 main_cst_0
  let main_v3 : FVec F S768x768 .f32 := Host.absf main_arg4
  let main_cst_1 : FVec F S_ .f32 := constant S_ .f32 0xFF800000#32
  let main_v4 : FVec F S_ .f32 := (fun x v => Host.reduce FloatOps.maximumf x v reducesTo_S768x768_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S768 .f32 := Host.absf main_arg5
  let main_cst_3 : FVec F S_ .f32 := constant S_ .f32 0xFF800000#32
  let main_v8 : FVec F S_ .f32 := (fun x v => Host.reduce FloatOps.maximumf x v reducesTo_S768_S_d0 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S768x768 .f32 := Host.absf main_arg6
  let main_cst_5 : FVec F S_ .f32 := constant S_ .f32 0xFF800000#32
  let main_v12 : FVec F S_ .f32 := (fun x v => Host.reduce FloatOps.maximumf x v reducesTo_S768x768_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S768 .f32 := Host.absf main_arg7
  fn_part1 (F := F) main_arg8 main_v14 main_v15
-- ==== Kernel.lean ====
abbrev S16x768 : Shape := ⟨2, ![16, 768]⟩
abbrev S16x16x768 : Shape := ⟨3, ![16, 16, 768]⟩
abbrev S16x16 : Shape := ⟨2, ![16, 16]⟩
abbrev S16x3x16 : Shape := ⟨3, ![16, 3, 16]⟩
abbrev S768x768 : Shape := ⟨2, ![768, 768]⟩
abbrev S768 : Shape := ⟨1, ![768]⟩
abbrev S3x768x8 : Shape := ⟨3, ![3, 768, 8]⟩
abbrev S8x768x1024 : Shape := ⟨3, ![8, 768, 1024]⟩
abbrev S8x1024 : Shape := ⟨2, ![8, 1024]⟩
abbrev S8x1024x768 : Shape := ⟨3, ![8, 1024, 768]⟩
abbrev S8x768 : Shape := ⟨2, ![8, 768]⟩
abbrev S3x768x512 : Shape := ⟨3, ![3, 768, 512]⟩
abbrev S3x512 : Shape := ⟨2, ![3, 512]⟩
abbrev S3x512x2 : Shape := ⟨3, ![3, 512, 2]⟩
abbrev S3x2 : Shape := ⟨2, ![3, 2]⟩
abbrev S256x768 : Shape := ⟨2, ![256, 768]⟩
abbrev S3x16x16 : Shape := ⟨3, ![3, 16, 16]⟩
abbrev S768x3x8 : Shape := ⟨3, ![768, 3, 8]⟩
abbrev S768x24 : Shape := ⟨2, ![768, 24]⟩
abbrev S3x512x1 : Shape := ⟨3, ![3, 512, 1]⟩
abbrev S512x3 : Shape := ⟨2, ![512, 3]⟩
abbrev S3x1 : Shape := ⟨2, ![3, 1]⟩
abbrev S3 : Shape := ⟨1, ![3]⟩
abbrev S1x3 : Shape := ⟨2, ![1, 3]⟩
abbrev S1x768 : Shape := ⟨2, ![1, 768]⟩
abbrev S8x1x1024 : Shape := ⟨3, ![8, 1, 1024]⟩
abbrev S8x1x768 : Shape := ⟨3, ![8, 1, 768]⟩
abbrev S1x1 : Shape := ⟨2, ![1, 1]⟩
abbrev S_ : Shape := ⟨0, ![]⟩
abbrev S1x1x1024 : Shape := ⟨3, ![1, 1, 1024]⟩
abbrev S1x1x768 : Shape := ⟨3, ![1, 1, 768]⟩
abbrev S1x768x512 : Shape := ⟨3, ![1, 768, 512]⟩
abbrev S3x256x2 : Shape := ⟨3, ![3, 256, 2]⟩
abbrev S3x256x768 : Shape := ⟨3, ![3, 256, 768]⟩
abbrev S2x768x1024 : Shape := ⟨3, ![2, 768, 1024]⟩
abbrev S2x1024x768 : Shape := ⟨3, ![2, 1024, 768]⟩
abbrev S2x4 : Shape := ⟨2, ![2, 4]⟩
abbrev S768x512 : Shape := ⟨2, ![768, 512]⟩
abbrev S1x512x768 : Shape := ⟨3, ![1, 512, 768]⟩
abbrev S512x768 : Shape := ⟨2, ![512, 768]⟩
abbrev S256x24 : Shape := ⟨2, ![256, 24]⟩
abbrev S256x8 : Shape := ⟨2, ![256, 8]⟩
abbrev S256 : Shape := ⟨1, ![256]⟩
abbrev S256x1 : Shape := ⟨2, ![256, 1]⟩
abbrev S256x2 : Shape := ⟨2, ![256, 2]⟩
abbrev S1x256x2 : Shape := ⟨3, ![1, 256, 2]⟩
abbrev S8 : Shape := ⟨1, ![8]⟩
abbrev S1x8 : Shape := ⟨2, ![1, 8]⟩
abbrev S1x1x8 : Shape := ⟨3, ![1, 1, 8]⟩
abbrev S1 : Shape := ⟨1, ![1]⟩
abbrev S1x1x1 : Shape := ⟨3, ![1, 1, 1]⟩
abbrev S1x768x1024 : Shape := ⟨3, ![1, 768, 1024]⟩
abbrev S768x1024 : Shape := ⟨2, ![768, 1024]⟩
abbrev S256x512 : Shape := ⟨2, ![256, 512]⟩
abbrev S1x1024 : Shape := ⟨2, ![1, 1024]⟩
abbrev S1x512 : Shape := ⟨2, ![1, 512]⟩
abbrev S1x1024x768 : Shape := ⟨3, ![1, 1024, 768]⟩
abbrev S1024x768 : Shape := ⟨2, ![1024, 768]⟩
abbrev S1x256x1 : Shape := ⟨3, ![1, 256, 1]⟩
abbrev S1x256x768 : Shape := ⟨3, ![1, 256, 768]⟩
abbrev S256x16 : Shape := ⟨2, ![256, 16]⟩
abbrev S16x256 : Shape := ⟨2, ![16, 256]⟩
abbrev S512 : Shape := ⟨1, ![512]⟩
abbrev S512x1 : Shape := ⟨2, ![512, 1]⟩
abbrev S1x16x16 : Shape := ⟨3, ![1, 16, 16]⟩
abbrev S16 : Shape := ⟨1, ![16]⟩
abbrev S16x1 : Shape := ⟨2, ![16, 1]⟩
abbrev S256x3 : Shape := ⟨2, ![256, 3]⟩
abbrev S1x256x3 : Shape := ⟨3, ![1, 256, 3]⟩

abbrev nBuf : Space → Nat
  | .hbm => 33
  | .vmem => 24
  | .smem => 1
  | _ => 0

abbrev bufTy : (tb : Table) → Fin (tcTables nBuf tb) → BufTy
  | .hbm, ⟨0, _⟩ => ⟨S16x768, .f32⟩
  | .hbm, ⟨1, _⟩ => ⟨S16x16x768, .f32⟩
  | .hbm, ⟨2, _⟩ => ⟨S16x16, .f32⟩
  | .hbm, ⟨3, _⟩ => ⟨S16x3x16, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S3x768x8, .f32⟩
  | .hbm, ⟨9, _⟩ => ⟨S8x768x1024, .f32⟩
  | .hbm, ⟨10, _⟩ => ⟨S8x1024, .f32⟩
  | .hbm, ⟨11, _⟩ => ⟨S8x1024x768, .f32⟩
  | .hbm, ⟨12, _⟩ => ⟨S8x768, .f32⟩
  | .hbm, ⟨13, _⟩ => ⟨S3x768x512, .f32⟩
  | .hbm, ⟨14, _⟩ => ⟨S3x512, .f32⟩
  | .hbm, ⟨15, _⟩ => ⟨S3x512x2, .f32⟩
  | .hbm, ⟨16, _⟩ => ⟨S3x2, .f32⟩
  | .hbm, ⟨17, _⟩ => ⟨S256x768, .f32⟩
  | .hbm, ⟨18, _⟩ => ⟨S3x16x16, .f32⟩
  | .hbm, ⟨19, _⟩ => ⟨S768x3x8, .f32⟩
  | .hbm, ⟨20, _⟩ => ⟨S768x24, .f32⟩
  | .hbm, ⟨21, _⟩ => ⟨S3x512x1, .f32⟩
  | .hbm, ⟨22, _⟩ => ⟨S3x512, .f32⟩
  | .hbm, ⟨23, _⟩ => ⟨S512x3, .f32⟩
  | .hbm, ⟨24, _⟩ => ⟨S3x1, .f32⟩
  | .hbm, ⟨25, _⟩ => ⟨S3, .f32⟩
  | .hbm, ⟨26, _⟩ => ⟨S1x3, .f32⟩
  | .hbm, ⟨27, _⟩ => ⟨S1x768, .f32⟩
  | .hbm, ⟨28, _⟩ => ⟨S1x768, .f32⟩
  | .hbm, ⟨29, _⟩ => ⟨S8x1x1024, .f32⟩
  | .hbm, ⟨30, _⟩ => ⟨S8x1x768, .f32⟩
  | .hbm, ⟨31, _⟩ => ⟨S1x1, .f32⟩
  | .hbm, ⟨32, _⟩ => ⟨S_, .f32⟩
  | .local _ .vmem, ⟨0, _⟩ => ⟨S256x768, .f32⟩
  | .local _ .vmem, ⟨1, _⟩ => ⟨S3x16x16, .f32⟩
  | .local _ .vmem, ⟨2, _⟩ => ⟨S768x768, .f32⟩
  | .local _ .vmem, ⟨3, _⟩ => ⟨S1x768, .f32⟩
  | .local _ .vmem, ⟨4, _⟩ => ⟨S768x768, .f32⟩
  | .local _ .vmem, ⟨5, _⟩ => ⟨S1x768, .f32⟩
  | .local _ .vmem, ⟨6, _⟩ => ⟨S768x24, .f32⟩
  | .local _ .vmem, ⟨7, _⟩ => ⟨S1x1x1024, .f32⟩
  | .local _ .vmem, ⟨8, _⟩ => ⟨S1x1x1024, .f32⟩
  | .local _ .vmem, ⟨9, _⟩ => ⟨S1x1x768, .f32⟩
  | .local _ .vmem, ⟨10, _⟩ => ⟨S1x1x768, .f32⟩
  | .local _ .vmem, ⟨11, _⟩ => ⟨S1x768x512, .f32⟩
  | .local _ .vmem, ⟨12, _⟩ => ⟨S1x768x512, .f32⟩
  | .local _ .vmem, ⟨13, _⟩ => ⟨S3x512, .f32⟩
  | .local _ .vmem, ⟨14, _⟩ => ⟨S512x3, .f32⟩
  | .local _ .vmem, ⟨15, _⟩ => ⟨S1x3, .f32⟩
  | .local _ .vmem, ⟨16, _⟩ => ⟨S1x1, .f32⟩
  | .local _ .vmem, ⟨17, _⟩ => ⟨S256x768, .bf16⟩
  | .local _ .vmem, ⟨18, _⟩ => ⟨S3x256x2, .i32⟩
  | .local _ .vmem, ⟨19, _⟩ => ⟨S3x256x2, .f32⟩
  | .local _ .vmem, ⟨20, _⟩ => ⟨S3x256x768, .bf16⟩
  | .local _ .vmem, ⟨21, _⟩ => ⟨S3x768x512, .f32⟩
  | .local _ .vmem, ⟨22, _⟩ => ⟨S2x768x1024, .f32⟩
  | .local _ .vmem, ⟨23, _⟩ => ⟨S2x1024x768, .f32⟩
  | .local _ .smem, ⟨0, _⟩ => ⟨S3, .f32⟩
  | _, _ => ⟨S16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v0 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch3 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c3_i32 : BitVec 32 := 3#32
  let v9 : BitVec 1 := Scalar.cmpi .slt arg0 c3_i32
  let v10 : BitVec 32 := Scalar.extui v9
  let c0_i32_4 : BitVec 32 := 0#32
  let v11 : BitVec 1 := Scalar.cmpi .ne v10 c0_i32_4
  v11

def k0_off1 (i : grid0.Coords) : Fin 3 → Nat :=
  let arg0 : BitVec 32 := BitVec.ofNat 32 (i 0).val
  let v169 : Index := Scalar.indexCast arg0
  let c0_111 : Index := 0#32
  let c0_112 : Index := 0#32
  ![v169.toNat, 0, 0]
def k0_cond4 (i : grid0.Coords) : BitVec 1 :=
  let arg0 : BitVec 32 := BitVec.ofNat 32 (i 0).val
  let c7_i32 : BitVec 32 := 7#32
  let v12 : BitVec 1 := Scalar.cmpi .slt arg0 c7_i32
  let v13 : BitVec 32 := Scalar.extui v12
  let c0_i32_5 : BitVec 32 := 0#32
  let v14 : BitVec 1 := Scalar.cmpi .ne v13 c0_i32_5
  v14

def k0_off2 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_109 : BitVec 32 := 0#32
  ![v2.toNat, 0]
def k0_off3 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_110 : BitVec 32 := 0#32
  let c0_i32_111 : BitVec 32 := 0#32
  ![v2.toNat, 0, 0]
def k0_off4 (i : grid0.Coords) : Fin 3 → Nat :=
  let arg0 : BitVec 32 := BitVec.ofNat 32 (i 0).val
  let c1_i32_108 : BitVec 32 := 1#32
  let v167 : BitVec 32 := Scalar.addi arg0 c1_i32_108
  let c0_i32_112 : BitVec 32 := 0#32
  let c0_i32_113 : BitVec 32 := 0#32
  ![v167.toNat, 0, 0]
def k0_off5 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_114 : BitVec 32 := 1#32
  ![v2.toNat, 1]
def k0_off6 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_115 : BitVec 32 := 0#32
  let c512_i32_116 : BitVec 32 := 512#32
  ![v2.toNat, 0, 512]
def k0_off7 (i : grid0.Coords) : Fin 3 → Nat :=
  let arg0 : BitVec 32 := BitVec.ofNat 32 (i 0).val
  let c1_i32_108 : BitVec 32 := 1#32
  let v167 : BitVec 32 := Scalar.addi arg0 c1_i32_108
  let c0_i32_117 : BitVec 32 := 0#32
  let c512_i32_118 : BitVec 32 := 512#32
  ![v167.toNat, 0, 512]
def k0_off8 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2_i32_119 : BitVec 32 := 2#32
  ![v2.toNat, 2]
def k0_off9 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_120 : BitVec 32 := 0#32
  let c0_i32_121 : BitVec 32 := 0#32
  ![v2.toNat, 0, 0]
def k0_off10 (i : grid0.Coords) : Fin 3 → Nat :=
  let arg0 : BitVec 32 := BitVec.ofNat 32 (i 0).val
  let c1_i32_108 : BitVec 32 := 1#32
  let v167 : BitVec 32 := Scalar.addi arg0 c1_i32_108
  let c0_i32_122 : BitVec 32 := 0#32
  let c0_i32_123 : BitVec 32 := 0#32
  ![v167.toNat, 0, 0]
def k0_off11 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c3_i32_124 : BitVec 32 := 3#32
  ![v2.toNat, 3]
def k0_off12 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c512_i32_125 : BitVec 32 := 512#32
  let c0_i32_126 : BitVec 32 := 0#32
  ![v2.toNat, 512, 0]
def k0_off13 (i : grid0.Coords) : Fin 3 → Nat :=
  let arg0 : BitVec 32 := BitVec.ofNat 32 (i 0).val
  let c1_i32_108 : BitVec 32 := 1#32
  let v167 : BitVec 32 := Scalar.addi arg0 c1_i32_108
  let c512_i32_127 : BitVec 32 := 512#32
  let c0_i32_128 : BitVec 32 := 0#32
  ![v167.toNat, 512, 0]
def k0_off14 (i : grid0.Coords) : Fin 2 → Nat :=
  let arg0 : BitVec 32 := BitVec.ofNat 32 (i 0).val
  let c2_i32 : BitVec 32 := 2#32
  let v0 : BitVec 32 := Scalar.remsi arg0 c2_i32
  let c0_i32_7 : BitVec 32 := 0#32
  ![v0.toNat, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let c0_i32_8 : BitVec 32 := 0#32
  let c0_i32_9 : BitVec 32 := 0#32
  ![v0.toNat, 0, 0]
def k0_off16 (i : grid0.Coords) : Fin 3 → Nat :=
  let arg0 : BitVec 32 := BitVec.ofNat 32 (i 0).val
  let c0_i32_10 : BitVec 32 := 0#32
  let c0_i32_11 : BitVec 32 := 0#32
  ![arg0.toNat, 0, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v22 : Index := Scalar.indexCast v0
  let c0_12 : Index := 0#32
  let c0_13 : Index := 0#32
  ![v22.toNat, 0, 0]
def k0_off18 (i : grid0.Coords) : Fin 2 → Nat :=
  let arg0 : BitVec 32 := BitVec.ofNat 32 (i 0).val
  let c2_i32 : BitVec 32 := 2#32
  let v0 : BitVec 32 := Scalar.remsi arg0 c2_i32
  let c1_i32_18 : BitVec 32 := 1#32
  ![v0.toNat, 1]
def k0_off19 (i : grid0.Coords) : Fin 3 → Nat :=
  let arg0 : BitVec 32 := BitVec.ofNat 32 (i 0).val
  let c2_i32 : BitVec 32 := 2#32
  let v0 : BitVec 32 := Scalar.remsi arg0 c2_i32
  let c0_i32_19 : BitVec 32 := 0#32
  let c512_i32 : BitVec 32 := 512#32
  ![v0.toNat, 0, 512]
def k0_off20 (i : grid0.Coords) : Fin 3 → Nat :=
  let arg0 : BitVec 32 := BitVec.ofNat 32 (i 0).val
  let c0_i32_20 : BitVec 32 := 0#32
  let c512_i32_21 : BitVec 32 := 512#32
  ![arg0.toNat, 0, 512]
def k0_off21 (i : grid0.Coords) : Fin 2 → Nat :=
  let arg0 : BitVec 32 := BitVec.ofNat 32 (i 0).val
  let c2_i32 : BitVec 32 := 2#32
  let v0 : BitVec 32 := Scalar.remsi arg0 c2_i32
  let c2_i32_29 : BitVec 32 := 2#32
  ![v0.toNat, 2]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c0_i32_30 : BitVec 32 := 0#32
  let c0_i32_31 : BitVec 32 := 0#32
  ![v0.toNat, 0, 0]
def k0_off23 (i : grid0.Coords) : Fin 3 → Nat :=
  let arg0 : BitVec 32 := BitVec.ofNat 32 (i 0).val
  let c0_i32_32 : BitVec 32 := 0#32
  let c0_i32_33 : BitVec 32 := 0#32
  ![arg0.toNat, 0, 0]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v60 : Index := Scalar.indexCast v0
  let c0_34 : Index := 0#32
  let c0_35 : Index := 0#32
  ![v60.toNat, 0, 0]
def k0_off25 (i : grid0.Coords) : Fin 2 → Nat :=
  let arg0 : BitVec 32 := BitVec.ofNat 32 (i 0).val
  let c2_i32 : BitVec 32 := 2#32
  let v0 : BitVec 32 := Scalar.remsi arg0 c2_i32
  let c3_i32_37 : BitVec 32 := 3#32
  ![v0.toNat, 3]
def k0_off26 (i : grid0.Coords) : Fin 3 → Nat :=
  let arg0 : BitVec 32 := BitVec.ofNat 32 (i 0).val
  let c2_i32 : BitVec 32 := 2#32
  let v0 : BitVec 32 := Scalar.remsi arg0 c2_i32
  let c512_i32_38 : BitVec 32 := 512#32
  let c0_i32_39 : BitVec 32 := 0#32
  ![v0.toNat, 512, 0]
def k0_off27 (i : grid0.Coords) : Fin 3 → Nat :=
  let arg0 : BitVec 32 := BitVec.ofNat 32 (i 0).val
  let c512_i32_40 : BitVec 32 := 512#32
  let c0_i32_41 : BitVec 32 := 0#32
  ![arg0.toNat, 512, 0]
def k0_cond5 (i : grid0.Coords) : BitVec 1 :=
  let arg0 : BitVec 32 := BitVec.ofNat 32 (i 0).val
  let c7_i32_106 : BitVec 32 := 7#32
  let v164 : BitVec 1 := Scalar.cmpi .eq arg0 c7_i32_106
  let v165 : BitVec 32 := Scalar.extui v164
  let c0_i32_107 : BitVec 32 := 0#32
  let v166 : BitVec 1 := Scalar.cmpi .ne v165 c0_i32_107
  v166

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x768x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16x768 : Shape := ⟨2, ![16, 768]⟩
abbrev S16x16x768 : Shape := ⟨3, ![16, 16, 768]⟩
abbrev S16x16 : Shape := ⟨2, ![16, 16]⟩
abbrev S16x3x16 : Shape := ⟨3, ![16, 3, 16]⟩
abbrev S768x768 : Shape := ⟨2, ![768, 768]⟩
abbrev S768 : Shape := ⟨1, ![768]⟩
abbrev S3x768x8 : Shape := ⟨3, ![3, 768, 8]⟩
abbrev S8x768x1024 : Shape := ⟨3, ![8, 768, 1024]⟩
abbrev S8x1024 : Shape := ⟨2, ![8, 1024]⟩
abbrev S8x1024x768 : Shape := ⟨3, ![8, 1024, 768]⟩
abbrev S8x768 : Shape := ⟨2, ![8, 768]⟩
abbrev S3x768x512 : Shape := ⟨3, ![3, 768, 512]⟩
abbrev S3x512 : Shape := ⟨2, ![3, 512]⟩
abbrev S3x512x2 : Shape := ⟨3, ![3, 512, 2]⟩
abbrev S3x2 : Shape := ⟨2, ![3, 2]⟩
abbrev S_ : Shape := ⟨0, ![]⟩
abbrev S16x3 : Shape := ⟨2, ![16, 3]⟩
abbrev S16x3x1 : Shape := ⟨3, ![16, 3, 1]⟩
abbrev S256x768 : Shape := ⟨2, ![256, 768]⟩
abbrev S1x768 : Shape := ⟨2, ![1, 768]⟩
abbrev S1x768x8 : Shape := ⟨3, ![1, 768, 8]⟩
abbrev S768x8 : Shape := ⟨2, ![768, 8]⟩
abbrev S256x8 : Shape := ⟨2, ![256, 8]⟩
abbrev S256x2 : Shape := ⟨2, ![256, 2]⟩
abbrev S256 : Shape := ⟨1, ![256]⟩
abbrev S256x1 : Shape := ⟨2, ![256, 1]⟩
abbrev S256x2x1 : Shape := ⟨3, ![256, 2, 1]⟩
abbrev S256x2x2 : Shape := ⟨3, ![256, 2, 2]⟩
abbrev S256x8x1024 : Shape := ⟨3, ![256, 8, 1024]⟩
abbrev S1x8x1024 : Shape := ⟨3, ![1, 8, 1024]⟩
abbrev S8x768x256 : Shape := ⟨3, ![8, 768, 256]⟩
abbrev S256x8x768 : Shape := ⟨3, ![256, 8, 768]⟩
abbrev S1x8x768 : Shape := ⟨3, ![1, 8, 768]⟩
abbrev S8 : Shape := ⟨1, ![8]⟩
abbrev S1 : Shape := ⟨1, ![1]⟩
abbrev S1x768x512 : Shape := ⟨3, ![1, 768, 512]⟩
abbrev S768x512 : Shape := ⟨2, ![768, 512]⟩
abbrev S256x512 : Shape := ⟨2, ![256, 512]⟩
abbrev S1x512 : Shape := ⟨2, ![1, 512]⟩
abbrev S512 : Shape := ⟨1, ![512]⟩
abbrev S1x512x2 : Shape := ⟨3, ![1, 512, 2]⟩
abbrev S512x2 : Shape := ⟨2, ![512, 2]⟩
abbrev S1x2 : Shape := ⟨2, ![1, 2]⟩
abbrev S2 : Shape := ⟨1, ![2]⟩
abbrev S16x1x16 : Shape := ⟨3, ![16, 1, 16]⟩
abbrev S16 : Shape := ⟨1, ![16]⟩

abbrev nBuf : Space → Nat
  | .hbm => 537
  | .vmem => 0
  | .smem => 0
  | _ => 0

abbrev hbmTy0_0 (i : Nat) : BufTy := match i % 128 with
  | 0 => ⟨S16x768, .f32⟩
  | 1 => ⟨S16x16x768, .f32⟩
  | 2 => ⟨S16x16, .f32⟩
  | 3 => ⟨S16x3x16, .f32⟩
  | 4 => ⟨S768x768, .f32⟩
  | 5 => ⟨S768, .f32⟩
  | 6 => ⟨S768x768, .f32⟩
  | 7 => ⟨S768, .f32⟩
  | 8 => ⟨S3x768x8, .f32⟩
  | 9 => ⟨S8x768x1024, .f32⟩
  | 10 => ⟨S8x1024, .f32⟩
  | 11 => ⟨S8x1024x768, .f32⟩
  | 12 => ⟨S8x768, .f32⟩
  | 13 => ⟨S3x768x512, .f32⟩
  | 14 => ⟨S3x512, .f32⟩
  | 15 => ⟨S3x512x2, .f32⟩
  | 16 => ⟨S3x2, .f32⟩
  | 17 => ⟨S_, .f32⟩
  | 18 => ⟨S16x3, .f32⟩
  | 19 => ⟨S16x3x1, .f32⟩
  | 20 => ⟨S16x3x16, .f32⟩
  | 21 => ⟨S16x3x16, .i1⟩
  | 22 => ⟨S16x3x16, .f32⟩
  | 23 => ⟨S256x768, .f32⟩
  | 24 => ⟨S256x768, .f32⟩
  | 25 => ⟨S1x768, .f32⟩
  | 26 => ⟨S256x768, .f32⟩
  | 27 => ⟨S256x768, .f32⟩
  | 28 => ⟨S_, .f32⟩
  | 29 => ⟨S256x768, .f32⟩
  | 30 => ⟨S256x768, .f32⟩
  | 31 => ⟨S256x768, .f32⟩
  | 32 => ⟨S1x768, .f32⟩
  | 33 => ⟨S256x768, .f32⟩
  | 34 => ⟨S256x768, .f32⟩
  | 35 => ⟨S1x768x8, .f32⟩
  | 36 => ⟨S768x8, .f32⟩
  | 37 => ⟨S256x8, .f32⟩
  | 38 => ⟨S256x2, .f32⟩
  | 39 => ⟨S256x2, .i32⟩
  | 40 => ⟨S_, .f32⟩
  | 41 => ⟨S256, .f32⟩
  | 42 => ⟨S_, .f32⟩
  | 43 => ⟨S256, .f32⟩
  | 44 => ⟨S256, .f32⟩
  | 45 => ⟨S256x1, .f32⟩
  | 46 => ⟨S256x2, .f32⟩
  | 47 => ⟨S256x2, .f32⟩
  | 48 => ⟨S256x2, .f32⟩
  | 49 => ⟨S_, .f32⟩
  | 50 => ⟨S256, .f32⟩
  | 51 => ⟨S256x1, .f32⟩
  | 52 => ⟨S256x2, .f32⟩
  | 53 => ⟨S256x2, .f32⟩
  | 54 => ⟨S_, .f32⟩
  | 55 => ⟨S256x8, .f32⟩
  | 56 => ⟨S256, .i32⟩
  | 57 => ⟨S256x1, .i32⟩
  | 58 => ⟨S_, .i32⟩
  | 59 => ⟨S256x1, .i32⟩
  | 60 => ⟨S256x1, .i1⟩
  | 61 => ⟨S_, .i32⟩
  | 62 => ⟨S256x1, .i32⟩
  | 63 => ⟨S256x1, .i32⟩
  | 64 => ⟨S256x1, .i32⟩
  | 65 => ⟨S_, .i32⟩
  | 66 => ⟨S256x2, .i32⟩
  | 67 => ⟨S256x2, .i1⟩
  | 68 => ⟨S_, .i32⟩
  | 69 => ⟨S256x2, .i32⟩
  | 70 => ⟨S256x2, .i32⟩
  | 71 => ⟨S256x2, .i32⟩
  | 72 => ⟨S256x2, .i32⟩
  | 73 => ⟨S256x2x1, .i32⟩
  | 74 => ⟨S256x2x1, .i32⟩
  | 75 => ⟨S256x2x2, .i32⟩
  | 76 => ⟨S256x8, .f32⟩
  | 77 => ⟨S256x8x1024, .f32⟩
  | 78 => ⟨S1x8x1024, .f32⟩
  | 79 => ⟨S256x8x1024, .f32⟩
  | 80 => ⟨S256x8x1024, .f32⟩
  | 81 => ⟨S_, .f32⟩
  | 82 => ⟨S256x8x1024, .f32⟩
  | 83 => ⟨S256x8x1024, .f32⟩
  | 84 => ⟨S8x768x256, .f32⟩
  | 85 => ⟨S256x8x768, .f32⟩
  | 86 => ⟨S1x8x768, .f32⟩
  | 87 => ⟨S256x8x768, .f32⟩
  | 88 => ⟨S256x8x768, .f32⟩
  | 89 => ⟨S256x768, .f32⟩
  | 90 => ⟨S_, .f32⟩
  | 91 => ⟨S8, .f32⟩
  | 92 => ⟨S_, .f32⟩
  | 93 => ⟨S256x8, .f32⟩
  | 94 => ⟨S256x8, .i1⟩
  | 95 => ⟨S256x8, .f32⟩
  | 96 => ⟨S_, .f32⟩
  | 97 => ⟨S8, .f32⟩
  | 98 => ⟨S_, .i32⟩
  | 99 => ⟨S_, .f32⟩
  | 100 => ⟨S_, .f32⟩
  | 101 => ⟨S1, .f32⟩
  | 102 => ⟨S_, .f32⟩
  | 103 => ⟨S1, .f32⟩
  | 104 => ⟨S1, .f32⟩
  | 105 => ⟨S8, .f32⟩
  | 106 => ⟨S8, .f32⟩
  | 107 => ⟨S8, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .i32⟩
  | _ => ⟨S16x768, .f32⟩

abbrev hbmTy0_1 (i : Nat) : BufTy := match i % 128 with
  | 0 => ⟨S_, .f32⟩
  | 1 => ⟨S_, .f32⟩
  | 2 => ⟨S1, .f32⟩
  | 3 => ⟨S_, .f32⟩
  | 4 => ⟨S1, .f32⟩
  | 5 => ⟨S1, .f32⟩
  | 6 => ⟨S8, .f32⟩
  | 7 => ⟨S8, .f32⟩
  | 8 => ⟨S8, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .i1⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S1x768x512, .f32⟩
  | 30 => ⟨S768x512, .f32⟩
  | 31 => ⟨S256x512, .f32⟩
  | 32 => ⟨S1x512, .f32⟩
  | 33 => ⟨S512, .f32⟩
  | 34 => ⟨S1x512, .f32⟩
  | 35 => ⟨S256x512, .f32⟩
  | 36 => ⟨S256x512, .f32⟩
  | 37 => ⟨S_, .f32⟩
  | 38 => ⟨S256x512, .f32⟩
  | 39 => ⟨S256x512, .f32⟩
  | 40 => ⟨S1x512x2, .f32⟩
  | 41 => ⟨S512x2, .f32⟩
  | 42 => ⟨S256x2, .f32⟩
  | 43 => ⟨S1x2, .f32⟩
  | 44 => ⟨S2, .f32⟩
  | 45 => ⟨S1x2, .f32⟩
  | 46 => ⟨S256x2, .f32⟩
  | 47 => ⟨S256x2, .f32⟩
  | 48 => ⟨S256x1, .f32⟩
  | 49 => ⟨S256, .f32⟩
  | 50 => ⟨S16x16, .f32⟩
  | 51 => ⟨S16x1x16, .f32⟩
  | 52 => ⟨S16x16, .f32⟩
  | 53 => ⟨S_, .f32⟩
  | 54 => ⟨S16x16, .f32⟩
  | 55 => ⟨S16x16, .f32⟩
  | 56 => ⟨S16x16, .f32⟩
  | 57 => ⟨S16x16, .f32⟩
  | 58 => ⟨S16x16, .f32⟩
  | 59 => ⟨S16x16, .f32⟩
  | 60 => ⟨S16x16, .f32⟩
  | 61 => ⟨S16x16, .f32⟩
  | 62 => ⟨S16x16, .f32⟩
  | 63 => ⟨S_, .f32⟩
  | 64 => ⟨S16, .f32⟩
  | 65 => ⟨S_, .f32⟩
  | 66 => ⟨S16, .f32⟩
  | 67 => ⟨S16, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S1x768x8, .f32⟩
  | 76 => ⟨S768x8, .f32⟩
  | 77 => ⟨S256x8, .f32⟩
  | 78 => ⟨S256x2, .f32⟩
  | 79 => ⟨S256x2, .i32⟩
  | 80 => ⟨S_, .f32⟩
  | 81 => ⟨S256, .f32⟩
  | 82 => ⟨S_, .f32⟩
  | 83 => ⟨S256, .f32⟩
  | 84 => ⟨S256, .f32⟩
  | 85 => ⟨S256x1, .f32⟩
  | 86 => ⟨S256x2, .f32⟩
  | 87 => ⟨S256x2, .f32⟩
  | 88 => ⟨S256x2, .f32⟩
  | 89 => ⟨S_, .f32⟩
  | 90 => ⟨S256, .f32⟩
  | 91 => ⟨S256x1, .f32⟩
  | 92 => ⟨S256x2, .f32⟩
  | 93 => ⟨S256x2, .f32⟩
  | 94 => ⟨S_, .f32⟩
  | 95 => ⟨S256x8, .f32⟩
  | 96 => ⟨S256, .i32⟩
  | 97 => ⟨S256x1, .i32⟩
  | 98 => ⟨S_, .i32⟩
  | 99 => ⟨S256x1, .i32⟩
  | 100 => ⟨S256x1, .i1⟩
  | 101 => ⟨S_, .i32⟩
  | 102 => ⟨S256x1, .i32⟩
  | 103 => ⟨S256x1, .i32⟩
  | 104 => ⟨S256x1, .i32⟩
  | 105 => ⟨S_, .i32⟩
  | 106 => ⟨S256x2, .i32⟩
  | 107 => ⟨S256x2, .i1⟩
  | 108 => ⟨S_, .i32⟩
  | 109 => ⟨S256x2, .i32⟩
  | 110 => ⟨S256x2, .i32⟩
  | 111 => ⟨S256x2, .i32⟩
  | 112 => ⟨S256x2, .i32⟩
  | 113 => ⟨S256x2x1, .i32⟩
  | 114 => ⟨S256x2x1, .i32⟩
  | 115 => ⟨S256x2x2, .i32⟩
  | 116 => ⟨S256x8, .f32⟩
  | 117 => ⟨S256x8x1024, .f32⟩
  | 118 => ⟨S1x8x1024, .f32⟩
  | 119 => ⟨S256x8x1024, .f32⟩
  | 120 => ⟨S256x8x1024, .f32⟩
  | 121 => ⟨S_, .f32⟩
  | 122 => ⟨S256x8x1024, .f32⟩
  | 123 => ⟨S256x8x1024, .f32⟩
  | 124 => ⟨S8x768x256, .f32⟩
  | 125 => ⟨S256x8x768, .f32⟩
  | 126 => ⟨S1x8x768, .f32⟩
  | 127 => ⟨S256x8x768, .f32⟩
  | _ => ⟨S16x768, .f32⟩

abbrev hbmTy0_2 (i : Nat) : BufTy := match i % 128 with
  | 0 => ⟨S256x8x768, .f32⟩
  | 1 => ⟨S256x768, .f32⟩
  | 2 => ⟨S_, .f32⟩
  | 3 => ⟨S8, .f32⟩
  | 4 => ⟨S_, .f32⟩
  | 5 => ⟨S256x8, .f32⟩
  | 6 => ⟨S256x8, .i1⟩
  | 7 => ⟨S256x8, .f32⟩
  | 8 => ⟨S_, .f32⟩
  | 9 => ⟨S8, .f32⟩
  | 10 => ⟨S_, .i32⟩
  | 11 => ⟨S_, .f32⟩
  | 12 => ⟨S_, .f32⟩
  | 13 => ⟨S1, .f32⟩
  | 14 => ⟨S_, .f32⟩
  | 15 => ⟨S1, .f32⟩
  | 16 => ⟨S1, .f32⟩
  | 17 => ⟨S8, .f32⟩
  | 18 => ⟨S8, .f32⟩
  | 19 => ⟨S8, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .i1⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .i32⟩
  | 40 => ⟨S_, .f32⟩
  | 41 => ⟨S_, .f32⟩
  | 42 => ⟨S1, .f32⟩
  | 43 => ⟨S_, .f32⟩
  | 44 => ⟨S1, .f32⟩
  | 45 => ⟨S1, .f32⟩
  | 46 => ⟨S8, .f32⟩
  | 47 => ⟨S8, .f32⟩
  | 48 => ⟨S8, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S1x768x512, .f32⟩
  | 70 => ⟨S768x512, .f32⟩
  | 71 => ⟨S256x512, .f32⟩
  | 72 => ⟨S1x512, .f32⟩
  | 73 => ⟨S512, .f32⟩
  | 74 => ⟨S1x512, .f32⟩
  | 75 => ⟨S256x512, .f32⟩
  | 76 => ⟨S256x512, .f32⟩
  | 77 => ⟨S_, .f32⟩
  | 78 => ⟨S256x512, .f32⟩
  | 79 => ⟨S256x512, .f32⟩
  | 80 => ⟨S1x512x2, .f32⟩
  | 81 => ⟨S512x2, .f32⟩
  | 82 => ⟨S256x2, .f32⟩
  | 83 => ⟨S1x2, .f32⟩
  | 84 => ⟨S2, .f32⟩
  | 85 => ⟨S1x2, .f32⟩
  | 86 => ⟨S256x2, .f32⟩
  | 87 => ⟨S256x2, .f32⟩
  | 88 => ⟨S256x1, .f32⟩
  | 89 => ⟨S256, .f32⟩
  | 90 => ⟨S16x16, .f32⟩
  | 91 => ⟨S16x1x16, .f32⟩
  | 92 => ⟨S16x16, .f32⟩
  | 93 => ⟨S_, .f32⟩
  | 94 => ⟨S16x16, .f32⟩
  | 95 => ⟨S16x16, .f32⟩
  | 96 => ⟨S16x16, .f32⟩
  | 97 => ⟨S16x16, .f32⟩
  | 98 => ⟨S16x16, .f32⟩
  | 99 => ⟨S16x16, .f32⟩
  | 100 => ⟨S16x16, .f32⟩
  | 101 => ⟨S16x16, .f32⟩
  | 102 => ⟨S16x16, .f32⟩
  | 103 => ⟨S_, .f32⟩
  | 104 => ⟨S16, .f32⟩
  | 105 => ⟨S_, .f32⟩
  | 106 => ⟨S16, .f32⟩
  | 107 => ⟨S16, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S1x768x8, .f32⟩
  | 115 => ⟨S768x8, .f32⟩
  | 116 => ⟨S256x8, .f32⟩
  | 117 => ⟨S256x2, .f32⟩
  | 118 => ⟨S256x2, .i32⟩
  | 119 => ⟨S_, .f32⟩
  | 120 => ⟨S256, .f32⟩
  | 121 => ⟨S_, .f32⟩
  | 122 => ⟨S256, .f32⟩
  | 123 => ⟨S256, .f32⟩
  | 124 => ⟨S256x1, .f32⟩
  | 125 => ⟨S256x2, .f32⟩
  | 126 => ⟨S256x2, .f32⟩
  | 127 => ⟨S256x2, .f32⟩
  | _ => ⟨S16x768, .f32⟩

abbrev hbmTy0_3 (i : Nat) : BufTy := match i % 128 with
  | 0 => ⟨S_, .f32⟩
  | 1 => ⟨S256, .f32⟩
  | 2 => ⟨S256x1, .f32⟩
  | 3 => ⟨S256x2, .f32⟩
  | 4 => ⟨S256x2, .f32⟩
  | 5 => ⟨S_, .f32⟩
  | 6 => ⟨S256x8, .f32⟩
  | 7 => ⟨S256, .i32⟩
  | 8 => ⟨S256x1, .i32⟩
  | 9 => ⟨S_, .i32⟩
  | 10 => ⟨S256x1, .i32⟩
  | 11 => ⟨S256x1, .i1⟩
  | 12 => ⟨S_, .i32⟩
  | 13 => ⟨S256x1, .i32⟩
  | 14 => ⟨S256x1, .i32⟩
  | 15 => ⟨S256x1, .i32⟩
  | 16 => ⟨S_, .i32⟩
  | 17 => ⟨S256x2, .i32⟩
  | 18 => ⟨S256x2, .i1⟩
  | 19 => ⟨S_, .i32⟩
  | 20 => ⟨S256x2, .i32⟩
  | 21 => ⟨S256x2, .i32⟩
  | 22 => ⟨S256x2, .i32⟩
  | 23 => ⟨S256x2, .i32⟩
  | 24 => ⟨S256x2x1, .i32⟩
  | 25 => ⟨S256x2x1, .i32⟩
  | 26 => ⟨S256x2x2, .i32⟩
  | 27 => ⟨S256x8, .f32⟩
  | 28 => ⟨S256x8x1024, .f32⟩
  | 29 => ⟨S1x8x1024, .f32⟩
  | 30 => ⟨S256x8x1024, .f32⟩
  | 31 => ⟨S256x8x1024, .f32⟩
  | 32 => ⟨S_, .f32⟩
  | 33 => ⟨S256x8x1024, .f32⟩
  | 34 => ⟨S256x8x1024, .f32⟩
  | 35 => ⟨S8x768x256, .f32⟩
  | 36 => ⟨S256x8x768, .f32⟩
  | 37 => ⟨S1x8x768, .f32⟩
  | 38 => ⟨S256x8x768, .f32⟩
  | 39 => ⟨S256x8x768, .f32⟩
  | 40 => ⟨S256x768, .f32⟩
  | 41 => ⟨S_, .f32⟩
  | 42 => ⟨S8, .f32⟩
  | 43 => ⟨S_, .f32⟩
  | 44 => ⟨S256x8, .f32⟩
  | 45 => ⟨S256x8, .i1⟩
  | 46 => ⟨S256x8, .f32⟩
  | 47 => ⟨S_, .f32⟩
  | 48 => ⟨S8, .f32⟩
  | 49 => ⟨S_, .i32⟩
  | 50 => ⟨S_, .f32⟩
  | 51 => ⟨S_, .f32⟩
  | 52 => ⟨S1, .f32⟩
  | 53 => ⟨S_, .f32⟩
  | 54 => ⟨S1, .f32⟩
  | 55 => ⟨S1, .f32⟩
  | 56 => ⟨S8, .f32⟩
  | 57 => ⟨S8, .f32⟩
  | 58 => ⟨S8, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .i1⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .i32⟩
  | 79 => ⟨S_, .f32⟩
  | 80 => ⟨S_, .f32⟩
  | 81 => ⟨S1, .f32⟩
  | 82 => ⟨S_, .f32⟩
  | 83 => ⟨S1, .f32⟩
  | 84 => ⟨S1, .f32⟩
  | 85 => ⟨S8, .f32⟩
  | 86 => ⟨S8, .f32⟩
  | 87 => ⟨S8, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S1x768x512, .f32⟩
  | 109 => ⟨S768x512, .f32⟩
  | 110 => ⟨S256x512, .f32⟩
  | 111 => ⟨S1x512, .f32⟩
  | 112 => ⟨S512, .f32⟩
  | 113 => ⟨S1x512, .f32⟩
  | 114 => ⟨S256x512, .f32⟩
  | 115 => ⟨S256x512, .f32⟩
  | 116 => ⟨S_, .f32⟩
  | 117 => ⟨S256x512, .f32⟩
  | 118 => ⟨S256x512, .f32⟩
  | 119 => ⟨S1x512x2, .f32⟩
  | 120 => ⟨S512x2, .f32⟩
  | 121 => ⟨S256x2, .f32⟩
  | 122 => ⟨S1x2, .f32⟩
  | 123 => ⟨S2, .f32⟩
  | 124 => ⟨S1x2, .f32⟩
  | 125 => ⟨S256x2, .f32⟩
  | 126 => ⟨S256x2, .f32⟩
  | 127 => ⟨S256x1, .f32⟩
  | _ => ⟨S16x768, .f32⟩

abbrev hbmTy0_4 (i : Nat) : BufTy := match i % 128 with
  | 0 => ⟨S256, .f32⟩
  | 1 => ⟨S16x16, .f32⟩
  | 2 => ⟨S16x1x16, .f32⟩
  | 3 => ⟨S16x16, .f32⟩
  | 4 => ⟨S_, .f32⟩
  | 5 => ⟨S16x16, .f32⟩
  | 6 => ⟨S16x16, .f32⟩
  | 7 => ⟨S16x16, .f32⟩
  | 8 => ⟨S16x16, .f32⟩
  | 9 => ⟨S16x16, .f32⟩
  | 10 => ⟨S16x16, .f32⟩
  | 11 => ⟨S16x16, .f32⟩
  | 12 => ⟨S16x16, .f32⟩
  | 13 => ⟨S16x16, .f32⟩
  | 14 => ⟨S_, .f32⟩
  | 15 => ⟨S16, .f32⟩
  | 16 => ⟨S_, .f32⟩
  | 17 => ⟨S16, .f32⟩
  | 18 => ⟨S16, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | _ => ⟨S16x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x768, .f32⟩

abbrev bufTy : (tb : Table) → Fin (tcTables nBuf tb) → BufTy
  | .hbm, ⟨i, _⟩ => hbmTy i
  | _, _ => ⟨S16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call0_cst : Ref sig .tc := ⟨.hbm, 28, rfl⟩
abbrev main_call0_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_values : Ref sig .tc := ⟨.hbm, 38, rfl⟩
abbrev main_indices : Ref sig .tc := ⟨.hbm, 39, rfl⟩
abbrev main_cst_0 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c : Ref sig .tc := ⟨.hbm, 58, rfl⟩
abbrev main_v32 : Ref sig .tc := ⟨.hbm, 59, rfl⟩
abbrev main_v33 : Ref sig .tc := ⟨.hbm, 60, rfl⟩
abbrev main_c_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_5 : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_7 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_c_10 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_cst_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_cst_1 : Ref sig .tc := ⟨.hbm, 109, rfl⟩
abbrev main_call2_v8 : Ref sig .tc := ⟨.hbm, 110, rfl⟩
abbrev main_call2_cst_2 : Ref sig .tc := ⟨.hbm, 111, rfl⟩
abbrev main_call2_v9 : Ref sig .tc := ⟨.hbm, 112, rfl⟩
abbrev main_call2_v10 : Ref sig .tc := ⟨.hbm, 113, rfl⟩
abbrev main_call2_cst_3 : Ref sig .tc := ⟨.hbm, 114, rfl⟩
abbrev main_call2_v11 : Ref sig .tc := ⟨.hbm, 115, rfl⟩
abbrev main_call2_cst_4 : Ref sig .tc := ⟨.hbm, 116, rfl⟩
abbrev main_call2_call0_v0 : Ref sig .tc := ⟨.hbm, 117, rfl⟩
abbrev main_v63 : Ref sig .tc := ⟨.hbm, 118, rfl⟩
abbrev main_cst_11 : Ref sig .tc := ⟨.hbm, 119, rfl⟩
abbrev main_v64 : Ref sig .tc := ⟨.hbm, 120, rfl⟩
abbrev main_cst_12 : Ref sig .tc := ⟨.hbm, 121, rfl⟩
abbrev main_v65 : Ref sig .tc := ⟨.hbm, 122, rfl⟩
abbrev main_v66 : Ref sig .tc := ⟨.hbm, 123, rfl⟩
abbrev main_cst_13 : Ref sig .tc := ⟨.hbm, 124, rfl⟩
abbrev main_v67 : Ref sig .tc := ⟨.hbm, 125, rfl⟩
abbrev main_v68 : Ref sig .tc := ⟨.hbm, 126, rfl⟩
abbrev main_c_14 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_cst_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_cst_1 : Ref sig .tc := ⟨.hbm, 138, rfl⟩
abbrev main_call3_v8 : Ref sig .tc := ⟨.hbm, 139, rfl⟩
abbrev main_call3_cst_2 : Ref sig .tc := ⟨.hbm, 140, rfl⟩
abbrev main_call3_v9 : Ref sig .tc := ⟨.hbm, 141, rfl⟩
abbrev main_call3_v10 : Ref sig .tc := ⟨.hbm, 142, rfl⟩
abbrev main_call3_cst_3 : Ref sig .tc := ⟨.hbm, 143, rfl⟩
abbrev main_call3_v11 : Ref sig .tc := ⟨.hbm, 144, rfl⟩
abbrev main_call3_cst_4 : Ref sig .tc := ⟨.hbm, 145, rfl⟩
abbrev main_call3_call0_v0 : Ref sig .tc := ⟨.hbm, 146, rfl⟩
abbrev main_v69 : Ref sig .tc := ⟨.hbm, 147, rfl⟩
abbrev main_cst_15 : Ref sig .tc := ⟨.hbm, 148, rfl⟩
abbrev main_v70 : Ref sig .tc := ⟨.hbm, 149, rfl⟩
abbrev main_cst_16 : Ref sig .tc := ⟨.hbm, 150, rfl⟩
abbrev main_v71 : Ref sig .tc := ⟨.hbm, 151, rfl⟩
abbrev main_v72 : Ref sig .tc := ⟨.hbm, 152, rfl⟩
abbrev main_cst_17 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_call4_cst : Ref sig .tc := ⟨.hbm, 165, rfl⟩
abbrev main_call4_v0 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_cst_18 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_19 : Ref sig .tc := ⟨.hbm, 191, rfl⟩
abbrev main_v107 : Ref sig .tc := ⟨.hbm, 192, rfl⟩
abbrev main_cst_20 : Ref sig .tc := ⟨.hbm, 193, rfl⟩
abbrev main_v108 : Ref sig .tc := ⟨.hbm, 194, rfl⟩
abbrev main_v109 : Ref sig .tc := ⟨.hbm, 195, rfl⟩
abbrev main_cst_21 : Ref sig .tc := ⟨.hbm, 196, rfl⟩
abbrev main_v110 : Ref sig .tc := ⟨.hbm, 197, rfl⟩
abbrev main_cst_22 : Ref sig .tc := ⟨.hbm, 198, rfl⟩
abbrev main_v111 : Ref sig .tc := ⟨.hbm, 199, rfl⟩
abbrev main_cst_23 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_values_24 : Ref sig .tc := ⟨.hbm, 206, rfl⟩
abbrev main_indices_25 : Ref sig .tc := ⟨.hbm, 207, rfl⟩
abbrev main_cst_26 : Ref sig .tc := ⟨.hbm, 208, rfl⟩
abbrev main_v117 : Ref sig .tc := ⟨.hbm, 209, rfl⟩
abbrev main_cst_27 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_cst_28 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_cst_29 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_c_30 : Ref sig .tc := ⟨.hbm, 226, rfl⟩
abbrev main_v131 : Ref sig .tc := ⟨.hbm, 227, rfl⟩
abbrev main_v132 : Ref sig .tc := ⟨.hbm, 228, rfl⟩
abbrev main_c_31 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_c_32 : Ref sig .tc := ⟨.hbm, 233, rfl⟩
abbrev main_v136 : Ref sig .tc := ⟨.hbm, 234, rfl⟩
abbrev main_v137 : Ref sig .tc := ⟨.hbm, 235, rfl⟩
abbrev main_c_33 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_call5_cst : Ref sig .tc := ⟨.hbm, 249, rfl⟩
abbrev main_call5_v0 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_cst_34 : Ref sig .tc := ⟨.hbm, 258, rfl⟩
abbrev main_v157 : Ref sig .tc := ⟨.hbm, 259, rfl⟩
abbrev main_cst_35 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_cst_36 : Ref sig .tc := ⟨.hbm, 264, rfl⟩
abbrev main_v161 : Ref sig .tc := ⟨.hbm, 265, rfl⟩
abbrev main_c_37 : Ref sig .tc := ⟨.hbm, 266, rfl⟩
abbrev main_call6_cst : Ref sig .tc := ⟨.hbm, 267, rfl⟩
abbrev main_call6_v0 : Ref sig .tc := ⟨.hbm, 268, rfl⟩
abbrev main_call6_v1 : Ref sig .tc := ⟨.hbm, 269, rfl⟩
abbrev main_call6_cst_0 : Ref sig .tc := ⟨.hbm, 270, rfl⟩
abbrev main_call6_v2 : Ref sig .tc := ⟨.hbm, 271, rfl⟩
abbrev main_call6_v3 : Ref sig .tc := ⟨.hbm, 272, rfl⟩
abbrev main_call6_v4 : Ref sig .tc := ⟨.hbm, 273, rfl⟩
abbrev main_call6_v5 : Ref sig .tc := ⟨.hbm, 274, rfl⟩
abbrev main_call6_v6 : Ref sig .tc := ⟨.hbm, 275, rfl⟩
abbrev main_call6_v7 : Ref sig .tc := ⟨.hbm, 276, rfl⟩
abbrev main_call6_cst_1 : Ref sig .tc := ⟨.hbm, 277, rfl⟩
abbrev main_call6_v8 : Ref sig .tc := ⟨.hbm, 278, rfl⟩
abbrev main_call6_cst_2 : Ref sig .tc := ⟨.hbm, 279, rfl⟩
abbrev main_call6_v9 : Ref sig .tc := ⟨.hbm, 280, rfl⟩
abbrev main_call6_v10 : Ref sig .tc := ⟨.hbm, 281, rfl⟩
abbrev main_call6_cst_3 : Ref sig .tc := ⟨.hbm, 282, rfl⟩
abbrev main_call6_v11 : Ref sig .tc := ⟨.hbm, 283, rfl⟩
abbrev main_call6_cst_4 : Ref sig .tc := ⟨.hbm, 284, rfl⟩
abbrev main_call6_call0_v0 : Ref sig .tc := ⟨.hbm, 285, rfl⟩
abbrev main_v162 : Ref sig .tc := ⟨.hbm, 286, rfl⟩
abbrev main_cst_38 : Ref sig .tc := ⟨.hbm, 287, rfl⟩
abbrev main_v163 : Ref sig .tc := ⟨.hbm, 288, rfl⟩
abbrev main_cst_39 : Ref sig .tc := ⟨.hbm, 289, rfl⟩
abbrev main_v164 : Ref sig .tc := ⟨.hbm, 290, rfl⟩
abbrev main_v165 : Ref sig .tc := ⟨.hbm, 291, rfl⟩
abbrev main_cst_40 : Ref sig .tc := ⟨.hbm, 292, rfl⟩
abbrev main_v166 : Ref sig .tc := ⟨.hbm, 293, rfl⟩
abbrev main_v167 : Ref sig .tc := ⟨.hbm, 294, rfl⟩
abbrev main_c_41 : Ref sig .tc := ⟨.hbm, 295, rfl⟩
abbrev main_call7_cst : Ref sig .tc := ⟨.hbm, 296, rfl⟩
abbrev main_call7_v0 : Ref sig .tc := ⟨.hbm, 297, rfl⟩
abbrev main_call7_v1 : Ref sig .tc := ⟨.hbm, 298, rfl⟩
abbrev main_call7_cst_0 : Ref sig .tc := ⟨.hbm, 299, rfl⟩
abbrev main_call7_v2 : Ref sig .tc := ⟨.hbm, 300, rfl⟩
abbrev main_call7_v3 : Ref sig .tc := ⟨.hbm, 301, rfl⟩
abbrev main_call7_v4 : Ref sig .tc := ⟨.hbm, 302, rfl⟩
abbrev main_call7_v5 : Ref sig .tc := ⟨.hbm, 303, rfl⟩
abbrev main_call7_v6 : Ref sig .tc := ⟨.hbm, 304, rfl⟩
abbrev main_call7_v7 : Ref sig .tc := ⟨.hbm, 305, rfl⟩
abbrev main_call7_cst_1 : Ref sig .tc := ⟨.hbm, 306, rfl⟩
abbrev main_call7_v8 : Ref sig .tc := ⟨.hbm, 307, rfl⟩
abbrev main_call7_cst_2 : Ref sig .tc := ⟨.hbm, 308, rfl⟩
abbrev main_call7_v9 : Ref sig .tc := ⟨.hbm, 309, rfl⟩
abbrev main_call7_v10 : Ref sig .tc := ⟨.hbm, 310, rfl⟩
abbrev main_call7_cst_3 : Ref sig .tc := ⟨.hbm, 311, rfl⟩
abbrev main_call7_v11 : Ref sig .tc := ⟨.hbm, 312, rfl⟩
abbrev main_call7_cst_4 : Ref sig .tc := ⟨.hbm, 313, rfl⟩
abbrev main_call7_call0_v0 : Ref sig .tc := ⟨.hbm, 314, rfl⟩
abbrev main_v168 : Ref sig .tc := ⟨.hbm, 315, rfl⟩
abbrev main_cst_42 : Ref sig .tc := ⟨.hbm, 316, rfl⟩
abbrev main_v169 : Ref sig .tc := ⟨.hbm, 317, rfl⟩
abbrev main_cst_43 : Ref sig .tc := ⟨.hbm, 318, rfl⟩
abbrev main_v170 : Ref sig .tc := ⟨.hbm, 319, rfl⟩
abbrev main_v171 : Ref sig .tc := ⟨.hbm, 320, rfl⟩
abbrev main_cst_44 : Ref sig .tc := ⟨.hbm, 321, rfl⟩
abbrev main_v172 : Ref sig .tc := ⟨.hbm, 322, rfl⟩
abbrev main_v173 : Ref sig .tc := ⟨.hbm, 323, rfl⟩
abbrev main_v174 : Ref sig .tc := ⟨.hbm, 324, rfl⟩
abbrev main_v175 : Ref sig .tc := ⟨.hbm, 325, rfl⟩
abbrev main_v176 : Ref sig .tc := ⟨.hbm, 326, rfl⟩
abbrev main_v177 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_call8_cst : Ref sig .tc := ⟨.hbm, 333, rfl⟩
abbrev main_call8_v0 : Ref sig .tc := ⟨.hbm, 334, rfl⟩
abbrev main_v183 : Ref sig .tc := ⟨.hbm, 335, rfl⟩
abbrev main_v184 : Ref sig .tc := ⟨.hbm, 336, rfl⟩
abbrev main_v185 : Ref sig .tc := ⟨.hbm, 337, rfl⟩
abbrev main_v186 : Ref sig .tc := ⟨.hbm, 338, rfl⟩
abbrev main_v187 : Ref sig .tc := ⟨.hbm, 339, rfl⟩
abbrev main_v188 : Ref sig .tc := ⟨.hbm, 340, rfl⟩
abbrev main_v189 : Ref sig .tc := ⟨.hbm, 341, rfl⟩
abbrev main_v190 : Ref sig .tc := ⟨.hbm, 342, rfl⟩
abbrev main_v191 : Ref sig .tc := ⟨.hbm, 343, rfl⟩
abbrev main_v192 : Ref sig .tc := ⟨.hbm, 344, rfl⟩
abbrev main_v193 : Ref sig .tc := ⟨.hbm, 345, rfl⟩
abbrev main_v194 : Ref sig .tc := ⟨.hbm, 346, rfl⟩
abbrev main_v195 : Ref sig .tc := ⟨.hbm, 347, rfl⟩
abbrev main_v196 : Ref sig .tc := ⟨.hbm, 348, rfl⟩
abbrev main_cst_45 : Ref sig .tc := ⟨.hbm, 349, rfl⟩
abbrev main_v197 : Ref sig .tc := ⟨.hbm, 350, rfl⟩
abbrev main_v198 : Ref sig .tc := ⟨.hbm, 351, rfl⟩
abbrev main_v199 : Ref sig .tc := ⟨.hbm, 352, rfl⟩
abbrev main_v200 : Ref sig .tc := ⟨.hbm, 353, rfl⟩
abbrev main_v201 : Ref sig .tc := ⟨.hbm, 354, rfl⟩
abbrev main_v202 : Ref sig .tc := ⟨.hbm, 355, rfl⟩
abbrev main_v203 : Ref sig .tc := ⟨.hbm, 356, rfl⟩
abbrev main_v204 : Ref sig .tc := ⟨.hbm, 357, rfl⟩
abbrev main_v205 : Ref sig .tc := ⟨.hbm, 358, rfl⟩
abbrev main_cst_46 : Ref sig .tc := ⟨.hbm, 359, rfl⟩
abbrev main_v206 : Ref sig .tc := ⟨.hbm, 360, rfl⟩
abbrev main_cst_47 : Ref sig .tc := ⟨.hbm, 361, rfl⟩
abbrev main_v207 : Ref sig .tc := ⟨.hbm, 362, rfl⟩
abbrev main_v208 : Ref sig .tc := ⟨.hbm, 363, rfl⟩
abbrev main_cst_48 : Ref sig .tc := ⟨.hbm, 364, rfl⟩
abbrev main_v209 : Ref sig .tc := ⟨.hbm, 365, rfl⟩
abbrev main_v210 : Ref sig .tc := ⟨.hbm, 366, rfl⟩
abbrev main_cst_49 : Ref sig .tc := ⟨.hbm, 367, rfl⟩
abbrev main_v211 : Ref sig .tc := ⟨.hbm, 368, rfl⟩
abbrev main_v212 : Ref sig .tc := ⟨.hbm, 369, rfl⟩
abbrev main_v213 : Ref sig .tc := ⟨.hbm, 370, rfl⟩
abbrev main_v214 : Ref sig .tc := ⟨.hbm, 371, rfl⟩
abbrev main_v215 : Ref sig .tc := ⟨.hbm, 372, rfl⟩
abbrev main_values_50 : Ref sig .tc := ⟨.hbm, 373, rfl⟩
abbrev main_indices_51 : Ref sig .tc := ⟨.hbm, 374, rfl⟩
abbrev main_cst_52 : Ref sig .tc := ⟨.hbm, 375, rfl⟩
abbrev main_v216 : Ref sig .tc := ⟨.hbm, 376, rfl⟩
abbrev main_cst_53 : Ref sig .tc := ⟨.hbm, 377, rfl⟩
abbrev main_v217 : Ref sig .tc := ⟨.hbm, 378, rfl⟩
abbrev main_v218 : Ref sig .tc := ⟨.hbm, 379, rfl⟩
abbrev main_v219 : Ref sig .tc := ⟨.hbm, 380, rfl⟩
abbrev main_v220 : Ref sig .tc := ⟨.hbm, 381, rfl⟩
abbrev main_v221 : Ref sig .tc := ⟨.hbm, 382, rfl⟩
abbrev main_v222 : Ref sig .tc := ⟨.hbm, 383, rfl⟩
abbrev main_cst_54 : Ref sig .tc := ⟨.hbm, 384, rfl⟩
abbrev main_v223 : Ref sig .tc := ⟨.hbm, 385, rfl⟩
abbrev main_v224 : Ref sig .tc := ⟨.hbm, 386, rfl⟩
abbrev main_v225 : Ref sig .tc := ⟨.hbm, 387, rfl⟩
abbrev main_v226 : Ref sig .tc := ⟨.hbm, 388, rfl⟩
abbrev main_cst_55 : Ref sig .tc := ⟨.hbm, 389, rfl⟩
abbrev main_v227 : Ref sig .tc := ⟨.hbm, 390, rfl⟩
abbrev main_v228 : Ref sig .tc := ⟨.hbm, 391, rfl⟩
abbrev main_v229 : Ref sig .tc := ⟨.hbm, 392, rfl⟩
abbrev main_c_56 : Ref sig .tc := ⟨.hbm, 393, rfl⟩
abbrev main_v230 : Ref sig .tc := ⟨.hbm, 394, rfl⟩
abbrev main_v231 : Ref sig .tc := ⟨.hbm, 395, rfl⟩
abbrev main_c_57 : Ref sig .tc := ⟨.hbm, 396, rfl⟩
abbrev main_v232 : Ref sig .tc := ⟨.hbm, 397, rfl⟩
abbrev main_v233 : Ref sig .tc := ⟨.hbm, 398, rfl⟩
abbrev main_v234 : Ref sig .tc := ⟨.hbm, 399, rfl⟩
abbrev main_c_58 : Ref sig .tc := ⟨.hbm, 400, rfl⟩
abbrev main_v235 : Ref sig .tc := ⟨.hbm, 401, rfl⟩
abbrev main_v236 : Ref sig .tc := ⟨.hbm, 402, rfl⟩
abbrev main_c_59 : Ref sig .tc := ⟨.hbm, 403, rfl⟩
abbrev main_v237 : Ref sig .tc := ⟨.hbm, 404, rfl⟩
abbrev main_v238 : Ref sig .tc := ⟨.hbm, 405, rfl⟩
abbrev main_v239 : Ref sig .tc := ⟨.hbm, 406, rfl⟩
abbrev main_v240 : Ref sig .tc := ⟨.hbm, 407, rfl⟩
abbrev main_v241 : Ref sig .tc := ⟨.hbm, 408, rfl⟩
abbrev main_v242 : Ref sig .tc := ⟨.hbm, 409, rfl⟩
abbrev main_v243 : Ref sig .tc := ⟨.hbm, 410, rfl⟩
abbrev main_v244 : Ref sig .tc := ⟨.hbm, 411, rfl⟩
abbrev main_v245 : Ref sig .tc := ⟨.hbm, 412, rfl⟩
abbrev main_v246 : Ref sig .tc := ⟨.hbm, 413, rfl⟩
abbrev main_v247 : Ref sig .tc := ⟨.hbm, 414, rfl⟩
abbrev main_v248 : Ref sig .tc := ⟨.hbm, 415, rfl⟩
abbrev main_call9_cst : Ref sig .tc := ⟨.hbm, 416, rfl⟩
abbrev main_call9_v0 : Ref sig .tc := ⟨.hbm, 417, rfl⟩
abbrev main_v249 : Ref sig .tc := ⟨.hbm, 418, rfl⟩
abbrev main_v250 : Ref sig .tc := ⟨.hbm, 419, rfl⟩
abbrev main_v251 : Ref sig .tc := ⟨.hbm, 420, rfl⟩
abbrev main_v252 : Ref sig .tc := ⟨.hbm, 421, rfl⟩
abbrev main_v253 : Ref sig .tc := ⟨.hbm, 422, rfl⟩
abbrev main_v254 : Ref sig .tc := ⟨.hbm, 423, rfl⟩
abbrev main_v255 : Ref sig .tc := ⟨.hbm, 424, rfl⟩
abbrev main_cst_60 : Ref sig .tc := ⟨.hbm, 425, rfl⟩
abbrev main_v256 : Ref sig .tc := ⟨.hbm, 426, rfl⟩
abbrev main_cst_61 : Ref sig .tc := ⟨.hbm, 427, rfl⟩
abbrev main_v257 : Ref sig .tc := ⟨.hbm, 428, rfl⟩
abbrev main_v258 : Ref sig .tc := ⟨.hbm, 429, rfl⟩
abbrev main_v259 : Ref sig .tc := ⟨.hbm, 430, rfl⟩
abbrev main_cst_62 : Ref sig .tc := ⟨.hbm, 431, rfl⟩
abbrev main_v260 : Ref sig .tc := ⟨.hbm, 432, rfl⟩
abbrev main_c_63 : Ref sig .tc := ⟨.hbm, 433, rfl⟩
abbrev main_call10_cst : Ref sig .tc := ⟨.hbm, 434, rfl⟩
abbrev main_call10_v0 : Ref sig .tc := ⟨.hbm, 435, rfl⟩
abbrev main_call10_v1 : Ref sig .tc := ⟨.hbm, 436, rfl⟩
abbrev main_call10_cst_0 : Ref sig .tc := ⟨.hbm, 437, rfl⟩
abbrev main_call10_v2 : Ref sig .tc := ⟨.hbm, 438, rfl⟩
abbrev main_call10_v3 : Ref sig .tc := ⟨.hbm, 439, rfl⟩
abbrev main_call10_v4 : Ref sig .tc := ⟨.hbm, 440, rfl⟩
abbrev main_call10_v5 : Ref sig .tc := ⟨.hbm, 441, rfl⟩
abbrev main_call10_v6 : Ref sig .tc := ⟨.hbm, 442, rfl⟩
abbrev main_call10_v7 : Ref sig .tc := ⟨.hbm, 443, rfl⟩
abbrev main_call10_cst_1 : Ref sig .tc := ⟨.hbm, 444, rfl⟩
abbrev main_call10_v8 : Ref sig .tc := ⟨.hbm, 445, rfl⟩
abbrev main_call10_cst_2 : Ref sig .tc := ⟨.hbm, 446, rfl⟩
abbrev main_call10_v9 : Ref sig .tc := ⟨.hbm, 447, rfl⟩
abbrev main_call10_v10 : Ref sig .tc := ⟨.hbm, 448, rfl⟩
abbrev main_call10_cst_3 : Ref sig .tc := ⟨.hbm, 449, rfl⟩
abbrev main_call10_v11 : Ref sig .tc := ⟨.hbm, 450, rfl⟩
abbrev main_call10_cst_4 : Ref sig .tc := ⟨.hbm, 451, rfl⟩
abbrev main_call10_call0_v0 : Ref sig .tc := ⟨.hbm, 452, rfl⟩
abbrev main_v261 : Ref sig .tc := ⟨.hbm, 453, rfl⟩
abbrev main_cst_64 : Ref sig .tc := ⟨.hbm, 454, rfl⟩
abbrev main_v262 : Ref sig .tc := ⟨.hbm, 455, rfl⟩
abbrev main_cst_65 : Ref sig .tc := ⟨.hbm, 456, rfl⟩
abbrev main_v263 : Ref sig .tc := ⟨.hbm, 457, rfl⟩
abbrev main_v264 : Ref sig .tc := ⟨.hbm, 458, rfl⟩
abbrev main_cst_66 : Ref sig .tc := ⟨.hbm, 459, rfl⟩
abbrev main_v265 : Ref sig .tc := ⟨.hbm, 460, rfl⟩
abbrev main_v266 : Ref sig .tc := ⟨.hbm, 461, rfl⟩
abbrev main_c_67 : Ref sig .tc := ⟨.hbm, 462, rfl⟩
abbrev main_call11_cst : Ref sig .tc := ⟨.hbm, 463, rfl⟩
abbrev main_call11_v0 : Ref sig .tc := ⟨.hbm, 464, rfl⟩
abbrev main_call11_v1 : Ref sig .tc := ⟨.hbm, 465, rfl⟩
abbrev main_call11_cst_0 : Ref sig .tc := ⟨.hbm, 466, rfl⟩
abbrev main_call11_v2 : Ref sig .tc := ⟨.hbm, 467, rfl⟩
abbrev main_call11_v3 : Ref sig .tc := ⟨.hbm, 468, rfl⟩
abbrev main_call11_v4 : Ref sig .tc := ⟨.hbm, 469, rfl⟩
abbrev main_call11_v5 : Ref sig .tc := ⟨.hbm, 470, rfl⟩
abbrev main_call11_v6 : Ref sig .tc := ⟨.hbm, 471, rfl⟩
abbrev main_call11_v7 : Ref sig .tc := ⟨.hbm, 472, rfl⟩
abbrev main_call11_cst_1 : Ref sig .tc := ⟨.hbm, 473, rfl⟩
abbrev main_call11_v8 : Ref sig .tc := ⟨.hbm, 474, rfl⟩
abbrev main_call11_cst_2 : Ref sig .tc := ⟨.hbm, 475, rfl⟩
abbrev main_call11_v9 : Ref sig .tc := ⟨.hbm, 476, rfl⟩
abbrev main_call11_v10 : Ref sig .tc := ⟨.hbm, 477, rfl⟩
abbrev main_call11_cst_3 : Ref sig .tc := ⟨.hbm, 478, rfl⟩
abbrev main_call11_v11 : Ref sig .tc := ⟨.hbm, 479, rfl⟩
abbrev main_call11_cst_4 : Ref sig .tc := ⟨.hbm, 480, rfl⟩
abbrev main_call11_call0_v0 : Ref sig .tc := ⟨.hbm, 481, rfl⟩
abbrev main_v267 : Ref sig .tc := ⟨.hbm, 482, rfl⟩
abbrev main_cst_68 : Ref sig .tc := ⟨.hbm, 483, rfl⟩
abbrev main_v268 : Ref sig .tc := ⟨.hbm, 484, rfl⟩
abbrev main_cst_69 : Ref sig .tc := ⟨.hbm, 485, rfl⟩
abbrev main_v269 : Ref sig .tc := ⟨.hbm, 486, rfl⟩
abbrev main_v270 : Ref sig .tc := ⟨.hbm, 487, rfl⟩
abbrev main_cst_70 : Ref sig .tc := ⟨.hbm, 488, rfl⟩
abbrev main_v271 : Ref sig .tc := ⟨.hbm, 489, rfl⟩
abbrev main_v272 : Ref sig .tc := ⟨.hbm, 490, rfl⟩
abbrev main_v273 : Ref sig .tc := ⟨.hbm, 491, rfl⟩
abbrev main_v274 : Ref sig .tc := ⟨.hbm, 492, rfl⟩
abbrev main_v275 : Ref sig .tc := ⟨.hbm, 493, rfl⟩
abbrev main_v276 : Ref sig .tc := ⟨.hbm, 494, rfl⟩
abbrev main_v277 : Ref sig .tc := ⟨.hbm, 495, rfl⟩
abbrev main_v278 : Ref sig .tc := ⟨.hbm, 496, rfl⟩
abbrev main_v279 : Ref sig .tc := ⟨.hbm, 497, rfl⟩
abbrev main_v280 : Ref sig .tc := ⟨.hbm, 498, rfl⟩
abbrev main_v281 : Ref sig .tc := ⟨.hbm, 499, rfl⟩
abbrev main_call12_cst : Ref sig .tc := ⟨.hbm, 500, rfl⟩
abbrev main_call12_v0 : Ref sig .tc := ⟨.hbm, 501, rfl⟩
abbrev main_v282 : Ref sig .tc := ⟨.hbm, 502, rfl⟩
abbrev main_v283 : Ref sig .tc := ⟨.hbm, 503, rfl⟩
abbrev main_v284 : Ref sig .tc := ⟨.hbm, 504, rfl⟩
abbrev main_v285 : Ref sig .tc := ⟨.hbm, 505, rfl⟩
abbrev main_v286 : Ref sig .tc := ⟨.hbm, 506, rfl⟩
abbrev main_v287 : Ref sig .tc := ⟨.hbm, 507, rfl⟩
abbrev main_v288 : Ref sig .tc := ⟨.hbm, 508, rfl⟩
abbrev main_v289 : Ref sig .tc := ⟨.hbm, 509, rfl⟩
abbrev main_v290 : Ref sig .tc := ⟨.hbm, 510, rfl⟩
abbrev main_v291 : Ref sig .tc := ⟨.hbm, 511, rfl⟩
abbrev main_v292 : Ref sig .tc := ⟨.hbm, 512, rfl⟩
abbrev main_v293 : Ref sig .tc := ⟨.hbm, 513, rfl⟩
abbrev main_v294 : Ref sig .tc := ⟨.hbm, 514, rfl⟩
abbrev main_v295 : Ref sig .tc := ⟨.hbm, 515, rfl⟩
abbrev main_cst_71 : Ref sig .tc := ⟨.hbm, 516, rfl⟩
abbrev main_v296 : Ref sig .tc := ⟨.hbm, 517, rfl⟩
abbrev main_v297 : Ref sig .tc := ⟨.hbm, 518, rfl⟩
abbrev main_v298 : Ref sig .tc := ⟨.hbm, 519, rfl⟩
abbrev main_v299 : Ref sig .tc := ⟨.hbm, 520, rfl⟩
abbrev main_v300 : Ref sig .tc := ⟨.hbm, 521, rfl⟩
abbrev main_v301 : Ref sig .tc := ⟨.hbm, 522, rfl⟩
abbrev main_v302 : Ref sig .tc := ⟨.hbm, 523, rfl⟩
abbrev main_v303 : Ref sig .tc := ⟨.hbm, 524, rfl⟩
abbrev main_v304 : Ref sig .tc := ⟨.hbm, 525, rfl⟩
abbrev main_cst_72 : Ref sig .tc := ⟨.hbm, 526, rfl⟩
abbrev main_v305 : Ref sig .tc := ⟨.hbm, 527, rfl⟩
abbrev main_cst_73 : Ref sig .tc := ⟨.hbm, 528, rfl⟩
abbrev main_v306 : Ref sig .tc := ⟨.hbm, 529, rfl⟩
abbrev main_v307 : Ref sig .tc := ⟨.hbm, 530, rfl⟩
abbrev main_cst_74 : Ref sig .tc := ⟨.hbm, 531, rfl⟩
abbrev main_v308 : Ref sig .tc := ⟨.hbm, 532, rfl⟩
abbrev main_v309 : Ref sig .tc := ⟨.hbm, 533, rfl⟩
abbrev main_cst_75 : Ref sig .tc := ⟨.hbm, 534, rfl⟩
abbrev main_v310 : Ref sig .tc := ⟨.hbm, 535, rfl⟩
abbrev main_v311 : Ref sig .tc := ⟨.hbm, 536, rfl⟩

abbrev nD : Nat := 1
abbrev τ : Topo := Topo.v7x

variable {F : FTy → Type} [FloatOps F]
-- ==== Proof.Racy.lean ====
/-
  Hand-written, untrusted. A transfer whose destination is READ while it is in flight. The issuer gives half of the
  share of the destination's elements to the transfer for good (it comes back with the delivery), and puts the other
  half in an invariant, at contents nothing names. Each write of the transfer opens the invariant, has the full share
  for the one step, and closes it at what it wrote; a load in between opens it too, joins what it finds with elements
  held outright, and reads them at contents of which only the outright part is known. Two tokens, one
  the issuer's and one the transfer's until it lands, each say that the half is still in the invariant; both together
  take it out.
-/
module

public import Idealize.ShloMosaic.Lib.Pipeline.FrameBody
public import Idealize.ShloMosaic.Lib.Transfers
public import Idealize.ShloMosaic.Lib.Tactic

@[expose] public section

noncomputable section

namespace Cert.Racy

open Idealize.ShloMosaic Idealize.ShloMosaic.Transfers
open Idealize.SL Idealize.SL.RA
open Idealize.SL.BI (sProp Storable)
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (EC : UEmb Counters (MT nD τ sig Ix Val Name U Lvl))

/-- The two halves of the full share: the transfer's, and the one in the invariant. -/
abbrev hL : PosShare TreeShare := PosShare.left fullShare
abbrev hR : PosShare TreeShare := PosShare.right fullShare

/-- The invariant's body: the second half of the elements `S` at some contents, or both tokens for it, deposited. -/
def lentBody (ℓ : Loc nD τ sig) (S : Finset (Idx ℓ)) (δ δ' : ℕ) : sProp 𝕄 :=
  iprop((∃ f, ℓ ↦[S]{hR} f) ∨ (tok EC δ ∗ tok EC δ'))

instance lentBody_storable [EC.LandsIn (upEmb : UEmb _ 𝕄)] (ℓ : Loc nD τ sig) (S : Finset (Idx ℓ)) (δ δ' : ℕ) :
    Storable (upEmb : UEmb _ 𝕄) (lentBody EC ℓ S δ δ') := by
  unfold lentBody tok count; infer_instance

/-- What the issuer keeps of the elements `S` it has lent half of: the invariant, and its token. -/
def Lent (ℓ : Loc nD τ sig) (S : Finset (Idx ℓ)) (κ : Name) (δ δ' : ℕ) : sProp 𝕄 :=
  iprop(inv κ (lentBody EC ℓ S δ δ') ∗ tok EC δ)

/-- The full share is the two halves. -/
theorem halves {ℓ : Loc nD τ sig} {S : Finset (Idx ℓ)} {f : Buf Val ℓ} :
    (ℓ ↦[S]{fullShare} f : sProp 𝕄) ⊣⊢ iprop((ℓ ↦[S]{hL} f) ∗ ℓ ↦[S]{hR} f) :=
  pointsTo_share (PosShare.mem_left_op_right fullShare)

/-- Two halves of the same elements, whatever each says they hold, are the full share at what the first says. -/
theorem halves_join {ℓ : Loc nD τ sig} {S : Finset (Idx ℓ)} {f g : Buf Val ℓ} :
    iprop((ℓ ↦[S]{hL} f) ∗ ℓ ↦[S]{hR} g) ⊢ (ℓ ↦[S]{fullShare} f : sProp 𝕄) := by
  iintro ⟨H1, H2⟩
  ihave %h := (pointsTo_agree (Ix := Ix) (Name := Name) (U := U) (Lvl := Lvl)) $$ [H1 H2]
  · isplitl [H1] <;> iassumption
  ihave H2 := (Entails.of_eq (show (ℓ ↦[S]{hR} g : sProp 𝕄) = ℓ ↦[S]{hR} f from
    pointsTo_congr fun i hi => ((h i (Finset.mem_inter.mpr ⟨hi, hi⟩)).1).symm)) $$ H2
  iapply halves.2
  isplitl [H1] <;> iassumption

/-- Lending half of the elements `S`: the other half is kept, the lent one goes into a fresh invariant. -/
theorem lent_alloc [Infinite Name] [Preorder Lvl] [EC.LandsIn (upEmb : UEmb _ 𝕄)] {ℓ : Loc nD τ sig} {S : Finset (Idx ℓ)} {f : Buf Val ℓ} {E : Set Name} :
    (ℓ ↦[S]{fullShare} f : sProp 𝕄)
      ⊢ |={E}=> iprop(∃ κ δ δ', inv κ (lentBody EC ℓ S δ δ') ∗ tok EC δ ∗ tok EC δ' ∗ ℓ ↦[S]{hL} f) := by
  iintro H
  ihave H := halves.1 $$ H
  icases H with ⟨H1, H2⟩
  imod (count_alloc EC ∅) $$ [] with ⟨%δ, -, -, Hδ⟩; · iempintro
  imod (count_alloc EC ∅) $$ [] with ⟨%δ', -, -, Hδ'⟩; · iempintro
  imod (inv_alloc (P := lentBody EC ℓ S δ δ') (E := E)) $$ [H2] with ⟨%κ, Hinv⟩
  · unfold lentBody
    ileft; iexists f; iexact H2
  imodintro
  iexists κ, δ, δ'
  isplitl [Hinv]; · iexact Hinv
  isplitl [Hδ]; · iexact Hδ
  isplitl [Hδ'] <;> iassumption

/-- The transfer's writes: holding the first half of the elements at what has been written so far, each opens the
    invariant, writes at the full share, and closes it at what it wrote. -/
theorem lent_writeUpdate [Infinite Name] [Preorder Lvl] [EC.LandsIn (upEmb : UEmb _ 𝕄)] {c : Thread nD τ} {sp : Space} {s : Shape} {e : EltTy}
    {v : View sig c.2.kind sp s e} {w : s.Idx → Val e} {S : Finset (Idx (v.loc c))} {fd : Buf Val (v.loc c)}
    (hS : v.set ⊆ S) {κ : Name} {δ δ' : ℕ} :
    iprop(inv κ (lentBody EC (v.loc c) S δ δ') ∗ (v.loc c ↦[S]{hL} fd) ∗ tok EC δ')
      ⊢ (writeUpdate c v w iprop((v.loc c ↦[S]{hL} (v.write Val fd w Finset.univ)) ∗ tok EC δ') : sProp 𝕄) := by
  rw [writeUpdate, writeUpdateFrom_def]
  iintro ⟨#Hinv, Hpt, Hδ⟩
  iexists (fun M => iprop((v.loc c ↦[S]{hL} (v.write Val fd w M)) ∗ tok EC δ'))
  simp only [View.write_empty]
  isplitl [Hpt Hδ]; · isplitl [Hpt] <;> iassumption
  isplitr
  · rw [writeSteps_def]
    imodintro
    iintro %M %M' ⟨Hpt, Hδ⟩
    rw [← View.write_write_union]
    imod (inv_acc (Set.mem_univ κ)) $$ Hinv with ⟨Hb, Hclose⟩
    unfold lentBody
    icases Hb with (⟨%f, Hf⟩ | ⟨-, Hδ'⟩)
    · ihave Hpt := halves_join $$ [Hpt Hf]
      · isplitl [Hpt] <;> iassumption
      imodintro
      rw [storeSpec_apply]
      iexists S, (v.write Val fd w M)
      isplitl [Hpt]; · iexact Hpt
      isplitr; · ipureintro; exact fun i hi => hS (v.setOn_subset_set _ hi)
      iintro Hpt
      ihave Hpt := halves.1 $$ Hpt
      icases Hpt with ⟨H1, H2⟩
      imod Hclose $$ [H2]
      · ileft; iexists _; iexact H2
      imodintro
      isplitl [H1] <;> iassumption
    · iexfalso; iapply (tok_tok_false EC δ'); isplitl [Hδ] <;> iassumption
  · iintro H; iexact H

/-- TAKING THE HALF BACK, both tokens in hand: the elements at the full share, at what the delivered half says. -/
theorem lent_reclaim [Infinite Name] [Preorder Lvl] [EC.LandsIn (upEmb : UEmb _ 𝕄)] {ℓ : Loc nD τ sig} {S : Finset (Idx ℓ)} {f : Buf Val ℓ}
    {κ : Name} {δ δ' : ℕ} :
    iprop(Lent EC ℓ S κ δ δ' ∗ (ℓ ↦[S]{hL} f) ∗ tok EC δ') ⊢ |={Set.univ}=> (ℓ ↦[S]{fullShare} f : sProp 𝕄) := by
  unfold Lent
  iintro ⟨⟨#Hinv, Hδ⟩, Hpt, Hδ'⟩
  imod (inv_acc (Set.mem_univ κ)) $$ Hinv with ⟨Hb, Hclose⟩
  unfold lentBody
  icases Hb with (⟨%g, Hg⟩ | ⟨Hδ2, -⟩)
  · imod Hclose $$ [Hδ Hδ']
    · iright; isplitl [Hδ] <;> iassumption
    imodintro
    iapply halves_join
    isplitl [Hpt] <;> iassumption
  · iexfalso; iapply (tok_tok_false EC δ); isplitl [Hδ] <;> iassumption

/-! ## One such transfer with the source it reads -/

/-- A transfer in flight whose destination may be read meanwhile: it delivers the elements `S` of `ℓd` at `T`. The source
    array is lent at the share `q`, and the elements the transfer does not read wait beside it. -/
def Lane [Preorder Lvl] (c : Thread nD τ) (sm : SemLoc sig) (ι : Ix) (N : ℕ) (ℓd : Loc nD τ sig) (S : Finset (Idx ℓd)) (T : Buf Val ℓd)
    (ℓs : Loc nD τ sig) (q : PosShare TreeShare) (fs : Buf Val ℓs) : sProp 𝕄 :=
  iprop(∃ κ δ δ' B, Lent EC ℓd S κ δ δ' ∗ Flight EC c sm ι N iprop(((ℓd ↦[S]{hL} T) ∗ tok EC δ') ∗ (ℓs ↦[B]{q} fs))
    ∗ (ℓs ↦[Finset.univ \ B]{q} fs))

section Rules

variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- THE RACING ISSUE. Holding a share of the source's elements, elements covering the destination's at the full share
    and the cell's counter at zero, the core issues the transfer and continues holding its flight, which delivers the
    first half of the destination rewritten, the transfer's token and the source share, beside what it keeps of the
    second half. -/
theorem wp_dmaRacy [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} {fd : Buf Val (dst.view.loc c)}
    (ι : Ix) (N : ℕ) (hN : dst.view.amount sm = N) (hN0 : 0 < N) (hSd : dst.view.set ⊆ Sd) :
    iprop((src.view.loc c ↦[src.view.set]{q} fs) ∗ (dst.view.loc c ↦[Sd]{fullShare} fd) ∗ semVal (c, sm) 0)
      ⊢ iprop((∀ κ δ δ', (Lent EC (dst.view.loc c) Sd κ δ δ' ∗ Flight EC c sm ι N iprop(((dst.view.loc c ↦[Sd]{hL} (dst.view.write Val fd (src.view.read Val fs) Finset.univ)) ∗ tok EC δ')
                                    ∗ (src.view.loc c ↦[src.view.set]{q} fs)))
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  imod (lent_alloc EC (E := Set.univ)) $$ Hd with ⟨%κ', %γ', %δ', #Hl, Hγ', Hδ', Hd⟩
  imod (flight_alloc EC hN0 iprop(((dst.view.loc c ↦[Sd]{hL} (dst.view.write Val fd (src.view.read Val fs) Finset.univ)) ∗ tok EC δ')
      ∗ (src.view.loc c ↦[src.view.set]{q} fs)) (g := (c, sm))) $$ Hv with ⟨%γ, %δ, %κ, #Hinv, Hγ, Hδ⟩
  iapply (wp_enqueueDma 𝒱 c bd Set.univ ι N hN) $$ [Hs Hd Hδ'] [Hγ]
  · isplitl [Hs]; · iexact Hs
    iapply (lent_writeUpdate EC hSd)
    isplitr; · iexact Hl
    isplitl [Hd] <;> iassumption
  · iapply (flight_creditUpdate EC (δ := δ))
    isplitr; · iexact Hinv
    iexact Hγ
  iintro Hcred
  ispecialize Hk $$ %κ' %γ' %δ'
  iapply Hk
  isplitl [Hγ']
  · unfold Lent; isplitr; · iexact Hl
    iexact Hγ'
  iapply (flight_intro EC c (κ := κ))
  isplitr; · iexact Hinv
  isplitl [Hδ] <;> iassumption

/-- THE RACING LOAD. Of the elements read, those of `T` are held outright, at `g`, and those of `S` are lent to a
    transfer in flight: the program continues at what is read off contents that are `g` on `T`. -/
theorem wp_loadRacy [Infinite Name] [EC.LandsIn (upEmb : UEmb _ 𝕄)]
    {cs : CoreSpace} {m : Memref sig c.2.kind cs s e} {r : LoadRect s} {hl : m.view.LoadsAt r} {k : (r.shape.Idx → Val e) → Prog (TpuEff nD τ sig Val Λ c.2) α}
    {S T : Finset (Idx (m.view.loc c))} {g : Buf Val (m.view.loc c)} {κ : Name} {δ δ' : ℕ}
    (hd : Disjoint T S) (hS : m.view.setOn r.set ⊆ T ∪ S) :
    iprop(Lent EC (m.view.loc c) S κ δ δ' ∗ (m.view.loc c ↦[T]{fullShare} g))
      ⊢ iprop((∀ f, ⌜∀ i ∈ T, f i = g i⌝ -∗ (Lent EC (m.view.loc c) S κ δ δ' ∗ (m.view.loc c ↦[T]{fullShare} g))
              -∗ wp frame (wpE defs 𝒱 c bd) Set.univ (k (m.view.readAt Val r f)) Q)
        -∗ wp frame (wpE defs 𝒱 c bd) Set.univ (.op (.load m r hl) k) Q) := by
  unfold Lent
  iintro ⟨⟨#Hinv, Hδ⟩, Hg⟩ Hk
  imod (inv_acc (Set.mem_univ κ)) $$ Hinv with ⟨Hb, Hclose⟩
  unfold lentBody
  icases Hb with (⟨%f, Hf⟩ | ⟨Hδ2, -⟩)
  · ihave Hg := halves.1 $$ Hg
    icases Hg with ⟨HgL, HgR⟩
    ihave H := (pointsTo_join hd) $$ [HgR Hf]
    · isplitl [HgR] <;> iassumption
    imodintro
    iapply (fp_load c hS) $$ H
    iintro H
    ihave H := (pointsTo_union hd).1 $$ H
    icases H with ⟨H1, H2⟩
    ihave H1 := (Entails.of_eq (show (m.view.loc c ↦[T]{hR} (S.piecewise f g) : sProp 𝕄) = m.view.loc c ↦[T]{hR} g from
      pointsTo_congr fun i hi => Finset.piecewise_eq_of_notMem _ _ _ (Finset.disjoint_left.mp hd hi))) $$ H1
    imod Hclose $$ [H2]
    · ileft; iexists _; iexact H2
    imodintro
    iapply Hk $$ %(S.piecewise f g)
    · ipureintro; exact fun i hi => Finset.piecewise_eq_of_notMem _ _ _ (Finset.disjoint_left.mp hd hi)
    isplitl [Hδ]
    · isplitr; · iexact Hinv
      iexact Hδ
    iapply halves.2
    isplitl [HgL] <;> iassumption
  · iexfalso; iapply (tok_tok_false EC δ); isplitl [Hδ] <;> iassumption

/-- Starting a transfer whose delivery is known to be `T` on `S`. -/
theorem lane_issue [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {S : Finset (Idx (dst.view.loc c))} {T : Buf Val (dst.view.loc c)}
    (ι : Ix) (N : ℕ) (hN : dst.view.amount sm = N) (hN0 : 0 < N) (hS : dst.view.set ⊆ S)
    (hT : ∀ fd, ∀ i ∈ S, dst.view.write Val fd (src.view.read Val fs) Finset.univ i = T i) :
    iprop((src.view.loc c ↦{q} fs) ∗ (∃ fd, dst.view.loc c ↦[S]{fullShare} fd) ∗ semVal (c, sm) 0)
      ⊢ iprop((Lane EC c sm ι N (dst.view.loc c) S T (src.view.loc c) q fs -∗ wp frame (wpE defs 𝒱 c bd) Set.univ (k ⟨⟩) Q)
          -∗ wp frame (wpE defs 𝒱 c bd) Set.univ (.op (.enqueueDma src (.here dst) sm hsrc hdst hsem) k) Q) := by
  iintro ⟨Hs, ⟨%fd, Hd⟩, Hv⟩ Hk
  ihave Hs := (pointsTo_split_subset (Finset.subset_univ src.view.set)).1 $$ Hs
  icases Hs with ⟨Hs, Hr⟩
  iapply (wp_dmaRacy EC 𝒱 c bd ι N hN hN0 hS (fs := fs) (fd := fd) (q := q)) $$ [Hs Hd Hv]
  · isplitl [Hs]; · iexact Hs
    isplitl [Hd] <;> iassumption
  iintro %κ %δ %δ' ⟨Hl, Hf⟩
  iapply Hk
  unfold Lane
  iexists κ, δ, δ', _
  isplitl [Hl]; · iexact Hl
  isplitl [Hf]
  · rw [show (dst.view.loc c ↦[S]{hL} T : sProp 𝕄) = (dst.view.loc c ↦[S]{hL} dst.view.write Val fd (src.view.read Val fs) Finset.univ)
      from (pointsTo_congr (hT fd)).symm]
    iexact Hf
  · iexact Hr

/-- Waiting for it: the destination's elements whole at what it delivers, the source whole again, the counter at zero. -/
theorem lane_wait [Infinite Name] [EC.LandsIn (upEmb : UEmb _ 𝕄)] {s' : Shape} {e' : EltTy} {knd : Kind} {sem : DmaSem sig}
    {srcw : Memref sig c.2.kind sp' s' e'} {dstw : Memref sig knd sp s e} {hsrc : srcw.view.WordExact} {hdst : dstw.view.WordExact}
    {k : PUnit → Prog (TpuEff nD τ sig Val Λ c.2) α} (ι : Ix) {N : ℕ} (hN : dstw.view.dmaCredit = N) {W : Waits sig Ix}
    {ℓd : Loc nD τ sig} {S : Finset (Idx ℓd)} {T : Buf Val ℓd} {ℓs : Loc nD τ sig} {q : PosShare TreeShare} {fs : Buf Val ℓs} :
    iprop(Lane EC c (.dma sem) ι N ℓd S T ℓs q fs ∗ owes c 0 W)
      ⊢ iprop((iprop((ℓd ↦[S]{fullShare} T) ∗ (ℓs ↦{q} fs) ∗ semVal (c, .dma sem) 0 ∗ owes c 0 (insert (SemLoc.dma sem, ι) W))
                -∗ wp frame (wpE defs 𝒱 c bd) Set.univ (k ⟨⟩) Q)
          -∗ wp frame (wpE defs 𝒱 c bd) Set.univ (.op (.waitDma2 sem srcw dstw hsrc hdst) k) Q) := by
  unfold Lane
  iintro ⟨⟨%κ, %δ, %δ', %B, Hl, Hf, Hr⟩, HO⟩ Hk
  iapply (wp_waitLocal EC 𝒱 c bd ι hN) $$ [Hf HO]
  · isplitl [Hf] <;> iassumption
  iintro ⟨⟨⟨Hd, Ht⟩, Hs⟩, Hv, HO⟩
  imod (lent_reclaim EC) $$ [Hl Hd Ht] with Hd
  · isplitl [Hl]; · iexact Hl
    isplitl [Hd] <;> iassumption
  iapply Hk
  isplitl [Hd]; · iexact Hd
  isplitl [Hs Hr]
  · iapply (pointsTo_split_subset (Finset.subset_univ B)).2
    isplitl [Hs] <;> iassumption
  isplitl [Hv] <;> iassumption

/-- Reading the destination of a transfer in flight together with elements held outright. -/
theorem lane_load [Infinite Name] [EC.LandsIn (upEmb : UEmb _ 𝕄)]
    {cs : CoreSpace} {m : Memref sig c.2.kind cs s e} {r : LoadRect s} {hl : m.view.LoadsAt r} {k : (r.shape.Idx → Val e) → Prog (TpuEff nD τ sig Val Λ c.2) α}
    {S V : Finset (Idx (m.view.loc c))} {g : Buf Val (m.view.loc c)} {sm : SemLoc sig} {ι : Ix} {N : ℕ} {T : Buf Val (m.view.loc c)}
    {ℓs : Loc nD τ sig} {q : PosShare TreeShare} {fs : Buf Val ℓs}
    (hd : Disjoint V S) (hS : m.view.setOn r.set ⊆ V ∪ S) :
    iprop(Lane EC c sm ι N (m.view.loc c) S T ℓs q fs ∗ (m.view.loc c ↦[V]{fullShare} g))
      ⊢ iprop((∀ f, ⌜∀ i ∈ V, f i = g i⌝ -∗ (Lane EC c sm ι N (m.view.loc c) S T ℓs q fs ∗ (m.view.loc c ↦[V]{fullShare} g))
              -∗ wp frame (wpE defs 𝒱 c bd) Set.univ (k (m.view.readAt Val r f)) Q)
        -∗ wp frame (wpE defs 𝒱 c bd) Set.univ (.op (.load m r hl) k) Q) := by
  unfold Lane
  iintro ⟨⟨%κ, %δ, %δ', %B, Hl, Hf, Hr⟩, HV⟩ Hk
  iapply (wp_loadRacy EC 𝒱 c bd hd hS) $$ [Hl HV]
  · isplitl [Hl] <;> iassumption
  iintro %f %hf ⟨Hl, HV⟩
  ispecialize Hk $$ %f %hf
  iapply Hk
  isplitr [HV]
  · iexists κ, δ, δ', B
    isplitl [Hl]; · iexact Hl
    isplitl [Hf] <;> iassumption
  · iexact HV

end Rules

end Cert.Racy
-- ==== Proof.Kernel.Launch.lean ====
module

public import proofs.«01_k».proof.Proof.Gen.Kernel.Frame
public import proofs.«01_k».proof.Proof.Gen.Kernel.Skeleton
public import proofs.«01_k».proof.Proof.Kernel.Points

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body obligation -/

theorem idle_lo : ∀ t : Fin grid0.N, t.val < 7 → cfg0.idle 13 (cfg0.grid.coords t) = true := by decide
theorem idle_hi : ∀ t : Fin grid0.N, t.val = 7 → cfg0.idle 13 (cfg0.grid.coords t) = false := by decide

theorem leaves_lo (c : Dev nD) (t : Fin cfg0.N) (h : t.val < 7) : (dats m 0 c).leavesExact 13 t = iprop(∃ d, owns (c : Thread nD τ) (st0_13 t) fullShare ((dats m 0 c).before 13 t d)) :=
  Dat.leavesExact_idle _ 13 t (idle_lo t h) (by
    rcases hf : (cfg0.win 13).flush t with _ | _
    · rfl
    · have := (flush0_13 t).mp hf; omega)
theorem leaves_hi (c : Dev nD) (t : Fin cfg0.N) (h : t.val = 7) : (dats m 0 c).leavesExact 13 t = owns (c : Thread nD τ) (st0_13 t) fullShare (sOUT m c) := by
  unfold Dat.leavesExact
  rw [idle_hi t h]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ (dats m 0 c).leavesExact 13 t)

/-- The body at any point, whatever the output window is to hold after it. -/
theorem body_any (c : Dev nD) (t : Fin cfg0.N) (W : Waits sig Unit) (d) (Q : PUnit → sProp 𝕄) :
    iprop(inv0 m c t.val ∗ owes (c : Thread nD τ) 0 W ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ holds c (st0_13 t) ((dats m 0 c).before 13 t d)
      ∗ ((inv0 m c (t.val + 1) ∗ (∃ W, owes (c : Thread nD τ) 0 W) ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ (dats m 0 c).leavesExact 13 t) -∗ Q ⟨⟩))
      ⊢ wp frame (wpE (defs₀ (F := F)) Variants.none c none) Set.univ (bodyAt0 t) Q := by
  have hN : t.val < 8 := lt_of_lt_of_eq t.isLt N_0
  by_cases h7 : t.val = 7
  · rw [leaves_hi m c t h7]
    exact body_3 m c t h7 W _ Q
  · rw [leaves_lo m c t (by omega)]
    have step : (iprop((inv0 m c (t.val + 1) ∗ (∃ W, owes (c : Thread nD τ) 0 W) ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ (∃ d, owns (c : Thread nD τ) (st0_13 t) fullShare ((dats m 0 c).before 13 t d))) -∗ Q ⟨⟩) : sProp 𝕄)
        ⊢ iprop((inv0 m c (t.val + 1) ∗ (∃ W, owes (c : Thread nD τ) 0 W) ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ holds c (st0_13 t) ((dats m 0 c).before 13 t d)) -∗ Q ⟨⟩) := by
      iintro Hk ⟨HI, HW, H0, H1, H2, H3, H4, H5, H6, H7, H8, H9, H10, H11, H12, H13⟩
      iapply Hk
      isplitl [HI]; · iexact HI
      isplitl [HW]; · iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists d; iexact H13
    have low : iprop(inv0 m c t.val ∗ owes (c : Thread nD τ) 0 W ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ holds c (st0_13 t) ((dats m 0 c).before 13 t d)
      ∗ ((inv0 m c (t.val + 1) ∗ (∃ W, owes (c : Thread nD τ) 0 W) ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ holds c (st0_13 t) ((dats m 0 c).before 13 t d)) -∗ Q ⟨⟩))
      ⊢ wp frame (wpE (defs₀ (F := F)) Variants.none c none) Set.univ (bodyAt0 t) Q := by
      by_cases h0 : t.val = 0
      · exact body_0 m c t h0 W ((dats m 0 c).before 13 t d) Q
      · by_cases h3 : t.val < 3
        · exact body_1 m c t (by omega) h3 W ((dats m 0 c).before 13 t d) Q
        · exact body_2 m c t (by omega) h3 (by omega) W ((dats m 0 c).before 13 t d) Q
    refine BIBase.Entails.trans ?_ low
    iintro ⟨HI, HW, H0, H1, H2, H3, H4, H5, H6, H7, H8, H9, H10, H11, H12, H13, Hk⟩
    ihave Hk := step $$ Hk
    isplitl [HI]; · iexact HI
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact Hk

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = inv0 m c t.val from rfl, show (dats m 0 c).Φ t.succ = inv0 m c (t.val + 1) from rfl]
  unfold Dat.owesAt Pipeline.owesWithin
  rw [show (dats m 0 c).owed t.castSucc = 0 from rfl, show (dats m 0 c).owed t.succ = 0 from rfl]
  rw [after_0, after_1, after_2, after_3, after_4, after_5, after_6, after_7, after_8, after_9, after_10, after_11, after_12]
  simp only [before_0, before_1, before_2, before_3, before_4, before_5, before_6, before_7, before_8, before_9, before_10, before_11, before_12]
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_any m c t W d13 _)
  isplitl [HI]; · iexact HI
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨HI, ⟨%W', HW'⟩, H0, H1, H2, H3, H4, H5, H6, H7, H8, H9, H10, H11, H12, H13⟩
  isplitl [HI]; · iexact HI
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem tail_sub : ∀ ops ∈ ([hostOps1] : List (List (HloOp τ sig (Elt F)))), ∀ op ∈ ops, op.bufs ⊆ Pipeline.tailRefsBut sig Pipeline.Prefetch.none spec0 H0 := by
  intro ops hops op hop
  obtain rfl := List.mem_singleton.mp hops
  refine Pipeline.sub_tailRefsBut Pipeline.Prefetch.none spec0 H0 op ((List.forall_iff_forall_mem.mp hostOps1_sub) op hop) (fun k => k.elim0) ?_
  obtain rfl := List.mem_singleton.mp hop
  intro b hb
  rcases Finset.mem_insert.mp hb with rfl | hb
  · simp only [StableHlo.reshape_bufs, Finset.mem_insert, Finset.mem_singleton, not_or]
    exact ⟨StableHlo.devRef_ne_of_ne (by decide), StableHlo.devRef_ne_of_ne (by decide)⟩
  · obtain rfl := Finset.mem_singleton.mp hb
    simp only [StableHlo.reshape_bufs, Finset.mem_insert, Finset.mem_singleton, not_or]
    exact ⟨StableHlo.devRef_ne_of_ne (by decide), StableHlo.devRef_ne_of_ne (by decide)⟩

set_option maxHeartbeats 800000 in
theorem hmain_hand : Pipeline.HMainK (Ix := Unit) (Name := ℕ) (U := Pipeline.UD sig nD τ) (Lvl := ℕ) cfgs 0 (defs₀ (F := F)) Variants.none m (main (F := F)) (V m) (fun _ => Pipeline.chain ([hostOps1].map StableHlo.seq)) :=
  Pipeline.hmain_around cfgs 0 defs₀ Variants.none m main [hostOps0] [hostOps1] (by simp only [List.Forall]; exact hostOps0_sub) (by simp only [List.Forall]; exact hostOps0_fresh) main_chain

set_option maxHeartbeats 2000000 in
set_option backward.isDefEq.respectTransparency.types false in
/-- The program runs to its end; every array of the launch ends as the proof data say, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain_hand m) (hA := A_eq m) (hin := ends_in m) (hout := fun c => ends_out m c)
    (Q' := fun r => Pipeline.FramePost cfgs (dats m) 0 (Pipeline.afterTail₀ cfgs (dats m) 0 (V0 m) [hostOps1]) r ∧ r.2.sem = fun _ => 0) (hQ' := fun _ h => h)

/-- A buffer that no window stages and the last line does not write ends as the launch finds it. -/
theorem rest_kept {c : Dev nD} (b : Ref sig .tc) (hs : b.isScoped = false) (hw : ∀ w, Pipeline.arrRef spec0 w ≠ b) (hv : b ≠ main_v0) (hV : V m c b = m ((c : Thread nD τ).loc b)) {r : PUnit × MemSt nD τ sig (Elt F)}
    (h : Pipeline.FramePost cfgs (dats m) 0 (Pipeline.afterTail₀ cfgs (dats m) 0 (V0 m) [hostOps1]) r) :
    r.2.mem ((c : Thread nD τ).loc b) = m ((c : Thread nD τ).loc b) := by
  refine ((h c).2 b (Pipeline.mem_restRefs_of b hs hw)).trans (Eq.trans ?_ hV)
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hv)), Pipeline.withArrays_of_ne _ c (V0 m c) _ b hw]

/-- THE FRAME: the program runs to its end without a fault, leaves every argument as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => ⟨
    rest_kept m main_arg0 (by decide) (by decide) (by decide) (V_main_arg0 m c) h.1,
    rest_kept m main_arg1 (by decide) (by decide) (by decide) (V_main_arg1 m c) h.1,
    rest_kept m main_arg2 (by decide) (by decide) (by decide) (V_main_arg2 m c) h.1,
    rest_kept m main_arg3 (by decide) (by decide) (by decide) (V_main_arg3 m c) h.1,
    (h.1 c).1 2 |>.trans (((dats m 0 c).arrAt_in 2 rfl _).trans ((A_eq m c 2).trans (V_main_arg4 m c))),
    rest_kept m main_arg5 (by decide) (by decide) (by decide) (V_main_arg5 m c) h.1,
    (h.1 c).1 4 |>.trans (((dats m 0 c).arrAt_in 4 rfl _).trans ((A_eq m c 4).trans (V_main_arg6 m c))),
    rest_kept m main_arg7 (by decide) (by decide) (by decide) (V_main_arg7 m c) h.1,
    rest_kept m main_arg8 (by decide) (by decide) (by decide) (V_main_arg8 m c) h.1,
    rest_kept m main_arg9 (by decide) (by decide) (by decide) (V_main_arg9 m c) h.1,
    rest_kept m main_arg10 (by decide) (by decide) (by decide) (V_main_arg10 m c) h.1,
    rest_kept m main_arg11 (by decide) (by decide) (by decide) (V_main_arg11 m c) h.1,
    rest_kept m main_arg12 (by decide) (by decide) (by decide) (V_main_arg12 m c) h.1,
    (h.1 c).1 9 |>.trans (((dats m 0 c).arrAt_in 9 rfl _).trans ((A_eq m c 9).trans (V_main_arg13 m c))),
    (h.1 c).1 10 |>.trans (((dats m 0 c).arrAt_in 10 rfl _).trans ((A_eq m c 10).trans (V_main_arg14 m c))),
    rest_kept m main_arg15 (by decide) (by decide) (by decide) (V_main_arg15 m c) h.1,
    rest_kept m main_arg16 (by decide) (by decide) (by decide) (V_main_arg16 m c) h.1⟩, h.2⟩) (run_main m ρ)

end Cert.Kernel.Hand

end
-- ==== Proof.KernelIdeal.Core.lean ====
module

public import proofs.«01_k».proof.Proof.Gen.KernelIdeal.Frame
public import proofs.«01_k».proof.Proof.Gen.KernelIdeal.Skeleton
public import proofs.«01_k».proof.Proof.Racy

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev sc8 : Memref sig .tc .hbm S8x768x1024 .f32 := Memref.whole main_arg9
abbrev sc10 : Memref sig .tc .hbm S8x1024x768 .f32 := Memref.whole main_arg11
abbrev sc17 : Memref sig .tc .vmem S256x768 .bf16 := Memref.whole cc0_scratch0
abbrev sc18 : Memref sig .tc .vmem S3x256x2 .i32 := Memref.whole cc0_scratch1
abbrev sc19 : Memref sig .tc .vmem S3x256x2 .f32 := Memref.whole cc0_scratch2
abbrev sc20 : Memref sig .tc .smem S3 .f32 := Memref.whole cc0_scratch3
abbrev sc21 : Memref sig .tc .vmem S3x256x768 .bf16 := Memref.whole cc0_scratch4
abbrev sc22 : Memref sig .tc .vmem S3x768x512 .f32 := Memref.whole cc0_scratch5
abbrev sc23 : Memref sig .tc .vmem S2x768x1024 .f32 := Memref.whole cc0_scratch6
abbrev sc24 : Memref sig .tc .vmem S2x1024x768 .f32 := Memref.whole cc0_scratch7

/-! ## The views the transfers name -/

/-- A half of a slot of the first weights' scratch, as a transfer names it. -/
abbrev D23 (off : Fin 3 → ℕ) (inb : ∀ a, off a + S1x768x512.size a ≤ S2x768x1024.size a) : Memref sig .tc .vmem S768x512 .f32 :=
  (sc23.slice (Rect.unit (s := S2x768x1024) off S1x768x512.size inb) (fun _ => rfl)).squeeze S768x512 squeezes_S1x768x512_S768x512
/-- The half of an expert's first weights it is copied from. -/
abbrev H23 (off : Fin 3 → ℕ) (inb : ∀ a, off a + S1x768x512.size a ≤ S8x768x1024.size a) : Memref sig .tc .hbm S768x512 .f32 :=
  (sc8.slice (Rect.unit (s := S8x768x1024) off S1x768x512.size inb) (fun _ => rfl)).squeeze S768x512 squeezes_S1x768x512_S768x512
/-- A half of a slot of the second weights' scratch. -/
abbrev D24 (off : Fin 3 → ℕ) (inb : ∀ a, off a + S1x512x768.size a ≤ S2x1024x768.size a) : Memref sig .tc .vmem S512x768 .f32 :=
  (sc24.slice (Rect.unit (s := S2x1024x768) off S1x512x768.size inb) (fun _ => rfl)).squeeze S512x768 squeezes_S1x512x768_S512x768
/-- The half of an expert's second weights it is copied from. -/
abbrev H24 (off : Fin 3 → ℕ) (inb : ∀ a, off a + S1x512x768.size a ≤ S8x1024x768.size a) : Memref sig .tc .hbm S512x768 .f32 :=
  (sc10.slice (Rect.unit (s := S8x1024x768) off S1x512x768.size inb) (fun _ => rfl)).squeeze S512x768 squeezes_S1x512x768_S512x768
/-- The semaphore cell at an offset pair. -/
abbrev semAt (off : Fin 2 → ℕ) (inb : ∀ a, off a + S1x1.size a ≤ S2x4.size a) : DmaSem sig :=
  ((cc0_scratch8.slice (Rect.unit (s := S2x4) off S1x1.size inb)).squeeze S_ squeezes_S1x1_S_).sem

/-- What a transfer of a half of an expert's weights credits. -/
def N23 : ℕ := (D23 ![0, 0, 0] (by decide)).view.dmaCredit
def N24 : ℕ := (D24 ![0, 0, 0] (by decide)).view.dmaCredit

theorem N23_eq (off inb) : (D23 off inb).view.dmaCredit = N23 := rfl
theorem N24_eq (off inb) : (D24 off inb).view.dmaCredit = N24 := rfl
theorem N23_pos : 0 < N23 := View.dmaCredit_pos _ (by decide)
theorem N24_pos : 0 < N24 := View.dmaCredit_pos _ (by decide)

abbrev l23 (c : Dev nD) : Loc nD τ sig := sc23.view.loc (c : Thread nD τ)
abbrev l24 (c : Dev nD) : Loc nD τ sig := sc24.view.loc (c : Thread nD τ)
abbrev l8 (c : Dev nD) : Loc nD τ sig := sc8.view.loc (c : Thread nD τ)
abbrev l10 (c : Dev nD) : Loc nD τ sig := sc10.view.loc (c : Thread nD τ)

/-- The elements of half `h` of slot `sl`: columns `512 h …` of the first weights, rows `512 h …` of the second. -/
def half1 (c : Dev nD) (sl h : ℕ) : Finset (Idx (l23 c)) :=
  Finset.univ.filter fun y : S2x768x1024.Idx => (y 0).val = sl ∧ 512 * h ≤ (y 2).val ∧ (y 2).val < 512 * h + 512
def half2 (c : Dev nD) (sl h : ℕ) : Finset (Idx (l24 c)) :=
  Finset.univ.filter fun y : S2x1024x768.Idx => (y 0).val = sl ∧ 512 * h ≤ (y 1).val ∧ (y 1).val < 512 * h + 512

/-- The index of expert `e`'s weights at the place of an index of a slot. -/
def row1 (e : Fin 8) (y : S2x768x1024.Idx) : S8x768x1024.Idx := fun a => match a with | 0 => e | 1 => y 1 | 2 => y 2
def row2 (e : Fin 8) (y : S2x1024x768.Idx) : S8x1024x768.Idx := fun a => match a with | 0 => e | 1 => y 1 | 2 => y 2

/-- A slot holding expert `e`. -/
def T1 (c : Dev nD) (A : Buf (Elt F) (l8 c)) (e : Fin 8) : Buf (Elt F) (l23 c) := fun y : S2x768x1024.Idx =>
  (A : S8x768x1024.Idx → Elt F .f32) (row1 e y)
def T2 (c : Dev nD) (A : Buf (Elt F) (l10 c)) (e : Fin 8) : Buf (Elt F) (l24 c) := fun y : S2x1024x768.Idx =>
  (A : S8x1024x768.Idx → Elt F .f32) (row2 e y)

theorem D23_set (c : Dev nD) {off : Fin 3 → ℕ} (inb) {sl h : ℕ} (ho : off = ![sl, 0, 512 * h]) : (D23 off inb).view.set = half1 c sl h := by
  subst ho
  refine (View.set_reshape _ _).trans ((View.set_slice_whole _ _).trans ?_)
  ext y
  rw [Rect.mem_set_unit]
  refine Iff.trans ?_ (Finset.mem_filter.trans (and_iff_right (Finset.mem_univ _))).symm
  have h1 : (y 1).val < 768 := (y 1).isLt
  constructor
  · intro H
    have a := H 0; have b := H 2
    simp at a b
    exact ⟨by omega, by omega, by omega⟩
  · rintro ⟨a, b, d⟩ j
    fin_cases j
    · show sl ≤ (y 0).val ∧ (y 0).val < sl + 1; omega
    · show 0 ≤ (y 1).val ∧ (y 1).val < 0 + 768; omega
    · show 512 * h ≤ (y 2).val ∧ (y 2).val < 512 * h + 512; omega

theorem D24_set (c : Dev nD) {off : Fin 3 → ℕ} (inb) {sl h : ℕ} (ho : off = ![sl, 512 * h, 0]) : (D24 off inb).view.set = half2 c sl h := by
  subst ho
  refine (View.set_reshape _ _).trans ((View.set_slice_whole _ _).trans ?_)
  ext y
  rw [Rect.mem_set_unit]
  refine Iff.trans ?_ (Finset.mem_filter.trans (and_iff_right (Finset.mem_univ _))).symm
  have h1 : (y 2).val < 768 := (y 2).isLt
  constructor
  · intro H
    have a := H 0; have b := H 1
    simp at a b
    exact ⟨by omega, by omega, by omega⟩
  · rintro ⟨a, b, d⟩ j
    fin_cases j
    · show sl ≤ (y 0).val ∧ (y 0).val < sl + 1; omega
    · show 512 * h ≤ (y 1).val ∧ (y 1).val < 512 * h + 512; omega
    · show 0 ≤ (y 2).val ∧ (y 2).val < 0 + 768; omega

/-- What a transfer of half `h` of expert `e`'s first weights into slot `sl` leaves on that half. -/
theorem D23_write (c : Dev nD) {off off' : Fin 3 → ℕ} (inb inb') {sl h : ℕ} (e : Fin 8) (ho : off = ![sl, 0, 512 * h]) (ho' : off' = ![e.val, 0, 512 * h])
    (A : Buf (Elt F) (l8 c)) (fd : Buf (Elt F) (l23 c)) (i : Idx (l23 c)) (hi : i ∈ half1 c sl h) :
    (D23 off inb).view.write (Elt F) fd ((H23 off' inb').view.read (Elt F) A) Finset.univ i = T1 c A e i := by
  have hm : i ∈ (D23 off inb).view.set := by rw [D23_set c inb ho]; exact hi
  obtain ⟨x, -, rfl⟩ := Finset.mem_map.mp hm
  rw [View.write_emb_of_mem (h := Finset.mem_univ x)]
  subst ho ho'
  have key : ∀ u : S1x768x512.Idx, (Rect.unit (s := S8x768x1024) ![e.val, 0, 512 * h] S1x768x512.size inb').emb u
      = row1 e ((Rect.unit (s := S2x768x1024) ![sl, 0, 512 * h] S1x768x512.size inb).emb u) := fun u => by
    funext a
    refine Fin.ext ?_
    fin_cases a
    · show e.val + 1 * (u 0).val = e.val
      have : (u 0).val < 1 := (u 0).isLt
      omega
    · rfl
    · rfl
  exact congrArg A (key (Shape.reshapeEquiv squeezes_S1x768x512_S768x512.numel_eq x))

theorem D24_write (c : Dev nD) {off off' : Fin 3 → ℕ} (inb inb') {sl h : ℕ} (e : Fin 8) (ho : off = ![sl, 512 * h, 0]) (ho' : off' = ![e.val, 512 * h, 0])
    (A : Buf (Elt F) (l10 c)) (fd : Buf (Elt F) (l24 c)) (i : Idx (l24 c)) (hi : i ∈ half2 c sl h) :
    (D24 off inb).view.write (Elt F) fd ((H24 off' inb').view.read (Elt F) A) Finset.univ i = T2 c A e i := by
  have hm : i ∈ (D24 off inb).view.set := by rw [D24_set c inb ho]; exact hi
  obtain ⟨x, -, rfl⟩ := Finset.mem_map.mp hm
  rw [View.write_emb_of_mem (h := Finset.mem_univ x)]
  subst ho ho'
  have key : ∀ u : S1x512x768.Idx, (Rect.unit (s := S8x1024x768) ![e.val, 512 * h, 0] S1x512x768.size inb').emb u
      = row2 e ((Rect.unit (s := S2x1024x768) ![sl, 512 * h, 0] S1x512x768.size inb).emb u) := fun u => by
    funext a
    refine Fin.ext ?_
    fin_cases a
    · show e.val + 1 * (u 0).val = e.val
      have : (u 0).val < 1 := (u 0).isLt
      omega
    · rfl
    · rfl
  exact congrArg A (key (Shape.reshapeEquiv squeezes_S1x512x768_S512x768.numel_eq x))

/-! ## The offsets at a grid point -/

/-- The cell of piece `p` of slot `sl`. -/
def cell (sl : ℕ) (p : Fin 4) : DmaSem sig := semAt ![sl % 2, p.val] (by
  intro a; fin_cases a
  · have := Nat.mod_lt sl (show 0 < 2 by decide); show sl % 2 + 1 ≤ 2; omega
  · have := p.isLt; show p.val + 1 ≤ 4; omega)

theorem semAt_eq {off : Fin 2 → ℕ} (inb) {sl : ℕ} (p : Fin 4) (h : off = ![sl % 2, p.val]) : semAt off inb = cell sl p := by subst h; rfl
theorem off1_eq : ∀ t : Fin grid0.N, t.val < 3 → k0_off1 (grid0.coords t) = ![t.val, 0, 0] := by decide
theorem off2_eq : ∀ t : Fin grid0.N, t.val < 7 → k0_off2 (grid0.coords t) = ![(t.val + 1) % 2, 0] := by decide
theorem off3_eq : ∀ t : Fin grid0.N, t.val < 7 → k0_off3 (grid0.coords t) = ![(t.val + 1) % 2, 0, 0] := by decide
theorem off4_eq : ∀ t : Fin grid0.N, t.val < 7 → k0_off4 (grid0.coords t) = ![(t.val + 1), 0, 0] := by decide
theorem off5_eq : ∀ t : Fin grid0.N, t.val < 7 → k0_off5 (grid0.coords t) = ![(t.val + 1) % 2, 1] := by decide
theorem off6_eq : ∀ t : Fin grid0.N, t.val < 7 → k0_off6 (grid0.coords t) = ![(t.val + 1) % 2, 0, 512] := by decide
theorem off7_eq : ∀ t : Fin grid0.N, t.val < 7 → k0_off7 (grid0.coords t) = ![(t.val + 1), 0, 512] := by decide
theorem off8_eq : ∀ t : Fin grid0.N, t.val < 7 → k0_off8 (grid0.coords t) = ![(t.val + 1) % 2, 2] := by decide
theorem off9_eq : ∀ t : Fin grid0.N, t.val < 7 → k0_off9 (grid0.coords t) = ![(t.val + 1) % 2, 0, 0] := by decide
theorem off10_eq : ∀ t : Fin grid0.N, t.val < 7 → k0_off10 (grid0.coords t) = ![(t.val + 1), 0, 0] := by decide
theorem off11_eq : ∀ t : Fin grid0.N, t.val < 7 → k0_off11 (grid0.coords t) = ![(t.val + 1) % 2, 3] := by decide
theorem off12_eq : ∀ t : Fin grid0.N, t.val < 7 → k0_off12 (grid0.coords t) = ![(t.val + 1) % 2, 512, 0] := by decide
theorem off13_eq : ∀ t : Fin grid0.N, t.val < 7 → k0_off13 (grid0.coords t) = ![(t.val + 1), 512, 0] := by decide
theorem off14_eq : ∀ t : Fin grid0.N, k0_off14 (grid0.coords t) = ![t.val % 2, 0] := by decide
theorem off15_eq : ∀ t : Fin grid0.N, k0_off15 (grid0.coords t) = ![t.val % 2, 0, 0] := by decide
theorem off16_eq : ∀ t : Fin grid0.N, k0_off16 (grid0.coords t) = ![t.val, 0, 0] := by decide
theorem off17_eq : ∀ t : Fin grid0.N, k0_off17 (grid0.coords t) = ![t.val % 2, 0, 0] := by decide
theorem off18_eq : ∀ t : Fin grid0.N, k0_off18 (grid0.coords t) = ![t.val % 2, 1] := by decide
theorem off19_eq : ∀ t : Fin grid0.N, k0_off19 (grid0.coords t) = ![t.val % 2, 0, 512] := by decide
theorem off20_eq : ∀ t : Fin grid0.N, k0_off20 (grid0.coords t) = ![t.val, 0, 512] := by decide
theorem off21_eq : ∀ t : Fin grid0.N, k0_off21 (grid0.coords t) = ![t.val % 2, 2] := by decide
theorem off22_eq : ∀ t : Fin grid0.N, k0_off22 (grid0.coords t) = ![t.val % 2, 0, 0] := by decide
theorem off23_eq : ∀ t : Fin grid0.N, k0_off23 (grid0.coords t) = ![t.val, 0, 0] := by decide
theorem off24_eq : ∀ t : Fin grid0.N, k0_off24 (grid0.coords t) = ![t.val % 2, 0, 0] := by decide
theorem off25_eq : ∀ t : Fin grid0.N, k0_off25 (grid0.coords t) = ![t.val % 2, 3] := by decide
theorem off26_eq : ∀ t : Fin grid0.N, k0_off26 (grid0.coords t) = ![t.val % 2, 512, 0] := by decide
theorem off27_eq : ∀ t : Fin grid0.N, k0_off27 (grid0.coords t) = ![t.val, 512, 0] := by decide

theorem cond3_iff : ∀ t : Fin grid0.N, k0_cond3 (grid0.coords t) = 1#1 ↔ t.val < 3 := by decide
theorem cond4_iff : ∀ t : Fin grid0.N, k0_cond4 (grid0.coords t) = 1#1 ↔ t.val < 7 := by decide
theorem cond5_iff : ∀ t : Fin grid0.N, k0_cond5 (grid0.coords t) = 1#1 ↔ t.val = 7 := by decide
theorem cond1_iff : ∀ t : Fin grid0.N, Scalar.cmpi .ne (Scalar.extui (Scalar.cmpi .eq (BitVec.ofNat 32 ((grid0.coords t) 0).val) 0#32) : BitVec 32) 0#32 = 1#1 ↔ t.val = 0 := by decide

end Cert.KernelIdeal.Hand

end
-- ==== Proof.KernelIdeal.Slots.lean ====
module

public import proofs.«01_k».proof.Proof.Gen.KernelIdeal.Frame
public import proofs.«01_k».proof.Proof.Gen.KernelIdeal.Skeleton
public import Idealize.ShloMosaic.Lib.Pipeline.Value
public import proofs.«01_k».proof.Proof.KernelIdeal.Core

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Racy

/-- The counters of the transfers in flight. -/
abbrev EC : UEmb Counters 𝕄 := countersEmb (U := Pipeline.UD sig nD τ)

/-- The share of an expert array each of its four transfers reads at. -/
def qq (sl h : ℕ) : PosShare TreeShare :=
  if sl % 2 = 0 then (if h = 0 then PosShare.left (PosShare.left fullShare) else PosShare.right (PosShare.left fullShare))
  else (if h = 0 then PosShare.left (PosShare.right fullShare) else PosShare.right (PosShare.right fullShare))

/-- Half `h` of expert `e`'s first (second) weights in flight to slot `n % 2`. -/
def lane1 (c : Dev nD) (A : Buf (Elt F) (l8 c)) (n : ℕ) (h : Fin 2) (e : Fin 8) : sProp 𝕄 :=
  Lane EC (c : Thread nD τ) (.dma (cell n ⟨h.val, by omega⟩)) () N23 (l23 c) (half1 c (n % 2) h.val) (T1 c A e) (l8 c) (qq n h.val) A
def lane2 (c : Dev nD) (A : Buf (Elt F) (l10 c)) (n : ℕ) (h : Fin 2) (e : Fin 8) : sProp 𝕄 :=
  Lane EC (c : Thread nD τ) (.dma (cell n ⟨2 + h.val, by omega⟩)) () N24 (l24 c) (half2 c (n % 2) h.val) (T2 c A e) (l10 c) (qq n h.val) A

/-- The same half landed: its elements hold the expert's, the share is back, the cell is at zero. -/
def done1 (c : Dev nD) (A : Buf (Elt F) (l8 c)) (n : ℕ) (h : Fin 2) (e : Fin 8) : sProp 𝕄 :=
  iprop((l23 c ↦[half1 c (n % 2) h.val]{fullShare} T1 c A e) ∗ (l8 c ↦{qq n h.val} A) ∗ semVal ((c : Thread nD τ), .dma (cell n ⟨h.val, by omega⟩)) 0)
def done2 (c : Dev nD) (A : Buf (Elt F) (l10 c)) (n : ℕ) (h : Fin 2) (e : Fin 8) : sProp 𝕄 :=
  iprop((l24 c ↦[half2 c (n % 2) h.val]{fullShare} T2 c A e) ∗ (l10 c ↦{qq n h.val} A) ∗ semVal ((c : Thread nD τ), .dma (cell n ⟨2 + h.val, by omega⟩)) 0)

/-- The same half at rest, whatever it holds. -/
def free1 (c : Dev nD) (A : Buf (Elt F) (l8 c)) (n : ℕ) (h : Fin 2) : sProp 𝕄 :=
  iprop((∃ fd, l23 c ↦[half1 c (n % 2) h.val]{fullShare} fd) ∗ (l8 c ↦{qq n h.val} A) ∗ semVal ((c : Thread nD τ), .dma (cell n ⟨h.val, by omega⟩)) 0)
def free2 (c : Dev nD) (A : Buf (Elt F) (l10 c)) (n : ℕ) (h : Fin 2) : sProp 𝕄 :=
  iprop((∃ fd, l24 c ↦[half2 c (n % 2) h.val]{fullShare} fd) ∗ (l10 c ↦{qq n h.val} A) ∗ semVal ((c : Thread nD τ), .dma (cell n ⟨2 + h.val, by omega⟩)) 0)

theorem done1_free (c : Dev nD) (A : Buf (Elt F) (l8 c)) (n : ℕ) (h : Fin 2) (e : Fin 8) : done1 c A n h e ⊢ free1 c A n h := by
  unfold done1 free1
  iintro ⟨H, Hr⟩
  isplitl [H]; · iexists _; iexact H
  iexact Hr
theorem done2_free (c : Dev nD) (A : Buf (Elt F) (l10 c)) (n : ℕ) (h : Fin 2) (e : Fin 8) : done2 c A n h e ⊢ free2 c A n h := by
  unfold done2 free2
  iintro ⟨H, Hr⟩
  isplitl [H]; · iexists _; iexact H
  iexact Hr

section Rules

variable {α : Type} (c : Dev nD)

/-- Starting the transfer of a half of an expert's first weights. -/
theorem issue1 {Q : α → sProp 𝕄} {k : PUnit → Prog (TpuEff nD τ sig (Elt F) Λ₀ .tc) α} {A : Buf (Elt F) (l8 c)} (n : ℕ) (h : Fin 2) (e : Fin 8)
    {od os : Fin 3 → ℕ} {oc : Fin 2 → ℕ} {id is ic hs hd ht} (hod : od = ![n % 2, 0, 512 * h.val]) (hos : os = ![e.val, 0, 512 * h.val]) (hoc : oc = ![n % 2, h.val]) :
    free1 c A n h ⊢ iprop((lane1 c A n h e -∗ wp frame (wpE (defs₀ (F := F)) Variants.none c none) Set.univ (k ⟨⟩) Q)
      -∗ wp frame (wpE (defs₀ (F := F)) Variants.none c none) Set.univ (.op (.enqueueDma (H23 os is) (.here (D23 od id)) (.dma (semAt oc ic)) hs hd ht) k) Q) := by
  have hsem : semAt oc ic = cell n ⟨h.val, by omega⟩ := semAt_eq ic _ hoc
  have hset := D23_set c id hod
  unfold free1 lane1
  rw [← hsem]
  iintro ⟨⟨%fd, Hd⟩, Hs, Hv⟩
  iapply (lane_issue (c := (c : Thread nD τ)) EC Variants.none none (src := H23 os is) (dst := D23 od id) (sm := .dma (semAt oc ic)) (S := half1 c (n % 2) h.val) (T := T1 c A e) () N23 (N23_eq od id) N23_pos hset.le
    (fun fd i hi => D23_write c id is e hod hos A fd i hi))
  isplitl [Hs]; · iexact Hs
  isplitl [Hd]
  · iexists fd; iexact Hd
  · iexact Hv

/-- Starting the transfer of a half of an expert's second weights. -/
theorem issue2 {Q : α → sProp 𝕄} {k : PUnit → Prog (TpuEff nD τ sig (Elt F) Λ₀ .tc) α} {A : Buf (Elt F) (l10 c)} (n : ℕ) (h : Fin 2) (e : Fin 8)
    {od os : Fin 3 → ℕ} {oc : Fin 2 → ℕ} {id is ic hs hd ht} (hod : od = ![n % 2, 512 * h.val, 0]) (hos : os = ![e.val, 512 * h.val, 0]) (hoc : oc = ![n % 2, 2 + h.val]) :
    free2 c A n h ⊢ iprop((lane2 c A n h e -∗ wp frame (wpE (defs₀ (F := F)) Variants.none c none) Set.univ (k ⟨⟩) Q)
      -∗ wp frame (wpE (defs₀ (F := F)) Variants.none c none) Set.univ (.op (.enqueueDma (H24 os is) (.here (D24 od id)) (.dma (semAt oc ic)) hs hd ht) k) Q) := by
  have hsem : semAt oc ic = cell n ⟨2 + h.val, by omega⟩ := semAt_eq ic _ hoc
  have hset := D24_set c id hod
  unfold free2 lane2
  rw [← hsem]
  iintro ⟨⟨%fd, Hd⟩, Hs, Hv⟩
  iapply (lane_issue (c := (c : Thread nD τ)) EC Variants.none none (src := H24 os is) (dst := D24 od id) (sm := .dma (semAt oc ic)) (S := half2 c (n % 2) h.val) (T := T2 c A e) () N24 (N24_eq od id) N24_pos hset.le
    (fun fd i hi => D24_write c id is e hod hos A fd i hi))
  isplitl [Hs]; · iexact Hs
  isplitl [Hd]
  · iexists fd; iexact Hd
  · iexact Hv

/-- Waiting for a half of an expert's first weights. -/
theorem wait1 {Q : α → sProp 𝕄} {k : PUnit → Prog (TpuEff nD τ sig (Elt F) Λ₀ .tc) α} {A : Buf (Elt F) (l8 c)} (n : ℕ) (h : Fin 2) (e : Fin 8)
    {od os : Fin 3 → ℕ} {oc : Fin 2 → ℕ} {id is ic hs hd} (hoc : oc = ![n % 2, h.val]) {W : Waits sig Unit} :
    iprop(lane1 c A n h e ∗ owes (c : Thread nD τ) 0 W) ⊢ iprop((∀ W', iprop(done1 c A n h e ∗ owes (c : Thread nD τ) 0 W')
        -∗ wp frame (wpE (defs₀ (F := F)) Variants.none c none) Set.univ (k ⟨⟩) Q)
      -∗ wp frame (wpE (defs₀ (F := F)) Variants.none c none) Set.univ (.op (.waitDma2 (semAt oc ic) (H23 os is) (D23 od id) hs hd) k) Q) := by
  have hsem : semAt oc ic = cell n ⟨h.val, by omega⟩ := semAt_eq ic _ hoc
  unfold done1 lane1
  rw [← hsem]
  iintro H Hk
  iapply (lane_wait (c := (c : Thread nD τ)) EC Variants.none none (sem := semAt oc ic) (srcw := H23 os is) (dstw := D23 od id) () (N23_eq od id)) $$ H
  iintro ⟨Hd, Hs, Hv, HO⟩
  iapply Hk $$ %_
  isplitr [HO]
  · isplitl [Hd]; · iexact Hd
    isplitl [Hs] <;> iassumption
  · iexact HO

/-- Waiting for a half of an expert's second weights. -/
theorem wait2 {Q : α → sProp 𝕄} {k : PUnit → Prog (TpuEff nD τ sig (Elt F) Λ₀ .tc) α} {A : Buf (Elt F) (l10 c)} (n : ℕ) (h : Fin 2) (e : Fin 8)
    {od os : Fin 3 → ℕ} {oc : Fin 2 → ℕ} {id is ic hs hd} (hoc : oc = ![n % 2, 2 + h.val]) {W : Waits sig Unit} :
    iprop(lane2 c A n h e ∗ owes (c : Thread nD τ) 0 W) ⊢ iprop((∀ W', iprop(done2 c A n h e ∗ owes (c : Thread nD τ) 0 W')
        -∗ wp frame (wpE (defs₀ (F := F)) Variants.none c none) Set.univ (k ⟨⟩) Q)
      -∗ wp frame (wpE (defs₀ (F := F)) Variants.none c none) Set.univ (.op (.waitDma2 (semAt oc ic) (H24 os is) (D24 od id) hs hd) k) Q) := by
  have hsem : semAt oc ic = cell n ⟨2 + h.val, by omega⟩ := semAt_eq ic _ hoc
  unfold done2 lane2
  rw [← hsem]
  iintro H Hk
  iapply (lane_wait (c := (c : Thread nD τ)) EC Variants.none none (sem := semAt oc ic) (srcw := H24 os is) (dstw := D24 od id) () (N24_eq od id)) $$ H
  iintro ⟨Hd, Hs, Hv, HO⟩
  iapply Hk $$ %_
  isplitr [HO]
  · isplitl [Hd]; · iexact Hd
    isplitl [Hs] <;> iassumption
  · iexact HO

end Rules

/-! ## Reading a slot -/

/-- Expert `e`'s first (second) weights as a slot's row. -/
def R1 (c : Dev nD) (A : Buf (Elt F) (l8 c)) (e : Fin 8) : Vec F S1x768x1024 .f32 := fun y =>
  (A : S8x768x1024.Idx → Elt F .f32) (fun a => match a with | 0 => e | 1 => y 1 | 2 => y 2)
def R2 (c : Dev nD) (A : Buf (Elt F) (l10 c)) (e : Fin 8) : Vec F S1x1024x768 .f32 := fun y =>
  (A : S8x1024x768.Idx → Elt F .f32) (fun a => match a with | 0 => e | 1 => y 1 | 2 => y 2)

/-- A slot's rectangle is its two halves. -/
theorem slot1_sub (c : Dev nD) (n : ℕ) {off : Fin 3 → ℕ} (inb) (ho : off = ![n % 2, 0, 0]) :
    sc23.view.setOn (Rect.unit (s := S2x768x1024) off S1x768x1024.size inb).toLoadRect.set ⊆ half1 c (n % 2) 0 ∪ half1 c (n % 2) 1 := by
  subst ho
  intro y hy
  obtain ⟨z, hz, rfl⟩ := Finset.mem_map.mp hy
  have hz := Rect.mem_set_unit.mp hz
  have a := hz 0; have b := hz 2
  simp at a b
  have hlt : (z 2).val < 1024 := (z 2).isLt
  refine Finset.mem_union.mpr ?_
  by_cases hh : (z 2).val < 512
  · exact .inl (Finset.mem_filter.mpr ⟨Finset.mem_univ _, by show (z 0).val = n % 2; omega, by show 512 * 0 ≤ (z 2).val; omega, by show (z 2).val < 512 * 0 + 512; omega⟩)
  · exact .inr (Finset.mem_filter.mpr ⟨Finset.mem_univ _, by show (z 0).val = n % 2; omega, by show 512 * 1 ≤ (z 2).val; omega, by show (z 2).val < 512 * 1 + 512; omega⟩)
theorem slot2_sub (c : Dev nD) (n : ℕ) {off : Fin 3 → ℕ} (inb) (ho : off = ![n % 2, 0, 0]) :
    sc24.view.setOn (Rect.unit (s := S2x1024x768) off S1x1024x768.size inb).toLoadRect.set ⊆ half2 c (n % 2) 0 ∪ half2 c (n % 2) 1 := by
  subst ho
  intro y hy
  obtain ⟨z, hz, rfl⟩ := Finset.mem_map.mp hy
  have hz := Rect.mem_set_unit.mp hz
  have a := hz 0; have b := hz 1
  simp at a b
  have hlt : (z 1).val < 1024 := (z 1).isLt
  refine Finset.mem_union.mpr ?_
  by_cases hh : (z 1).val < 512
  · exact .inl (Finset.mem_filter.mpr ⟨Finset.mem_univ _, by show (z 0).val = n % 2; omega, by show 512 * 0 ≤ (z 1).val; omega, by show (z 1).val < 512 * 0 + 512; omega⟩)
  · exact .inr (Finset.mem_filter.mpr ⟨Finset.mem_univ _, by show (z 0).val = n % 2; omega, by show 512 * 1 ≤ (z 1).val; omega, by show (z 1).val < 512 * 1 + 512; omega⟩)

theorem half1_disj (c : Dev nD) (n : ℕ) : Disjoint (half1 c n 0) (half1 c n 1) :=
  Finset.disjoint_left.mpr fun y h0 h1 => by
    have a := (Finset.mem_filter.mp h0).2.2.2; have b := (Finset.mem_filter.mp h1).2.2.1; omega
theorem half2_disj (c : Dev nD) (n : ℕ) : Disjoint (half2 c n 0) (half2 c n 1) :=
  Finset.disjoint_left.mpr fun y h0 h1 => by
    have a := (Finset.mem_filter.mp h0).2.2.2; have b := (Finset.mem_filter.mp h1).2.2.1; omega

/-- Where contents agree with an expert's on the first half of a slot, the read row agrees on its first half. -/
theorem read1_half (c : Dev nD) (A : Buf (Elt F) (l8 c)) (n : ℕ) (e : Fin 8) {off : Fin 3 → ℕ} (inb) (ho : off = ![n % 2, 0, 0]) (f : Buf (Elt F) (l23 c))
    (hf : ∀ i ∈ half1 c (n % 2) 0, f i = T1 c A e i) (y : S1x768x1024.Idx) (hy : (y 2).val < 512) :
    sc23.view.readAt (Elt F) (Rect.unit (s := S2x768x1024) off S1x768x1024.size inb).toLoadRect f y = R1 c A e y := by
  subst ho
  show f ((Rect.unit (s := S2x768x1024) ![n % 2, 0, 0] S1x768x1024.size inb).emb y) = _
  have h0 : (y 0).val < 1 := (y 0).isLt
  rw [hf]
  · show A _ = A _
    refine congrArg A (funext fun a => ?_)
    fin_cases a
    · rfl
    · exact Fin.ext (show 0 + 1 * (y 1).val = (y 1).val by omega)
    · exact Fin.ext (show 0 + 1 * (y 2).val = (y 2).val by omega)
  · exact Finset.mem_filter.mpr ⟨Finset.mem_univ _, by show n % 2 + 1 * (y 0).val = n % 2; omega, by show 512 * 0 ≤ 0 + 1 * (y 2).val; omega, by show 0 + 1 * (y 2).val < 512 * 0 + 512; omega⟩
theorem read2_half (c : Dev nD) (A : Buf (Elt F) (l10 c)) (n : ℕ) (e : Fin 8) {off : Fin 3 → ℕ} (inb) (ho : off = ![n % 2, 0, 0]) (f : Buf (Elt F) (l24 c))
    (hf : ∀ i ∈ half2 c (n % 2) 0, f i = T2 c A e i) (y : S1x1024x768.Idx) (hy : (y 1).val < 512) :
    sc24.view.readAt (Elt F) (Rect.unit (s := S2x1024x768) off S1x1024x768.size inb).toLoadRect f y = R2 c A e y := by
  subst ho
  show f ((Rect.unit (s := S2x1024x768) ![n % 2, 0, 0] S1x1024x768.size inb).emb y) = _
  have h0 : (y 0).val < 1 := (y 0).isLt
  rw [hf]
  · show A _ = A _
    refine congrArg A (funext fun a => ?_)
    fin_cases a
    · rfl
    · exact Fin.ext (show 0 + 1 * (y 1).val = (y 1).val by omega)
    · exact Fin.ext (show 0 + 1 * (y 2).val = (y 2).val by omega)
  · exact Finset.mem_filter.mpr ⟨Finset.mem_univ _, by show n % 2 + 1 * (y 0).val = n % 2; omega, by show 512 * 0 ≤ 0 + 1 * (y 1).val; omega, by show 0 + 1 * (y 1).val < 512 * 0 + 512; omega⟩
theorem read1_full (c : Dev nD) (A : Buf (Elt F) (l8 c)) (n : ℕ) (e : Fin 8) {off : Fin 3 → ℕ} (inb) (ho : off = ![n % 2, 0, 0]) :
    sc23.view.readAt (Elt F) (Rect.unit (s := S2x768x1024) off S1x768x1024.size inb).toLoadRect (T1 c A e) = R1 c A e := by
  subst ho
  funext y
  show A _ = A _
  refine congrArg A (funext fun a => ?_)
  fin_cases a
  · rfl
  · exact Fin.ext (show 0 + 1 * (y 1).val = (y 1).val by omega)
  · exact Fin.ext (show 0 + 1 * (y 2).val = (y 2).val by omega)
theorem read2_full (c : Dev nD) (A : Buf (Elt F) (l10 c)) (n : ℕ) (e : Fin 8) {off : Fin 3 → ℕ} (inb) (ho : off = ![n % 2, 0, 0]) :
    sc24.view.readAt (Elt F) (Rect.unit (s := S2x1024x768) off S1x1024x768.size inb).toLoadRect (T2 c A e) = R2 c A e := by
  subst ho
  funext y
  show A _ = A _
  refine congrArg A (funext fun a => ?_)
  fin_cases a
  · rfl
  · exact Fin.ext (show 0 + 1 * (y 1).val = (y 1).val by omega)
  · exact Fin.ext (show 0 + 1 * (y 2).val = (y 2).val by omega)

/-! ## What the first half decides -/

theorem pay67_congr (x : Vec F S256x768 .bf16) (v w : Vec F S1x768x1024 .f32) (h : ∀ y : S1x768x1024.Idx, (y 2).val < 512 → v y = w y) :
    k0_pay67 x v = k0_pay67 x w := by
  unfold k0_pay67
  have : (extractStridedSlice S768x512 ![0, 0] (shapeCast S768x1024 v shapeCasts_S1x768x1024_S768x1024) slices_S768x1024_o0_0_S768x512 : FVec F S768x512 .f32)
      = extractStridedSlice S768x512 ![0, 0] (shapeCast S768x1024 w shapeCasts_S1x768x1024_S768x1024) slices_S768x1024_o0_0_S768x512 := by
    funext y
    unfold extractStridedSlice
    refine ((shapeCast_dropUnit_apply ![768, 1024] v _ _).trans ?_).trans (shapeCast_dropUnit_apply ![768, 1024] w _ _).symm
    refine h _ ?_
    have : (y 1).val < 512 := (y 1).isLt
    show 0 + (y 1).val < 512
    omega
  simp only [this]
theorem pay70_congr (x : FVec F S256x512 .f32) (b : FVec F S1x1024 .f32) (v w : Vec F S1x1024x768 .f32) (h : ∀ y : S1x1024x768.Idx, (y 1).val < 512 → v y = w y) :
    k0_pay70 x b v = k0_pay70 x b w := by
  unfold k0_pay70
  have : (extractStridedSlice S512x768 ![0, 0] (shapeCast S1024x768 v shapeCasts_S1x1024x768_S1024x768) slices_S1024x768_o0_0_S512x768 : FVec F S512x768 .f32)
      = extractStridedSlice S512x768 ![0, 0] (shapeCast S1024x768 w shapeCasts_S1x1024x768_S1024x768) slices_S1024x768_o0_0_S512x768 := by
    funext y
    unfold extractStridedSlice
    refine ((shapeCast_dropUnit_apply ![1024, 768] v _ _).trans ?_).trans (shapeCast_dropUnit_apply ![1024, 768] w _ _).symm
    refine h _ ?_
    have : (y 0).val < 512 := (y 0).isLt
    show 0 + (y 0).val < 512
    omega
  simp only [this]

section Rules

variable {α : Type} (c : Dev nD)

/-- Reading a slot whose second half is still in flight. -/
theorem racyLoad1 {Q : α → sProp 𝕄} {A : Buf (Elt F) (l8 c)} (n : ℕ) (e : Fin 8) {off : Fin 3 → ℕ} {inb hl} (ho : off = ![n % 2, 0, 0])
    {k : Vec F S1x768x1024 .f32 → Prog (TpuEff nD τ sig (Elt F) Λ₀ .tc) α} :
    iprop(done1 c A n 0 e ∗ lane1 c A n 1 e) ⊢ iprop((∀ v, ⌜∀ y : S1x768x1024.Idx, (y 2).val < 512 → v y = R1 c A e y⌝ -∗ (done1 c A n 0 e ∗ lane1 c A n 1 e)
        -∗ wp frame (wpE (defs₀ (F := F)) Variants.none c none) Set.univ (k v) Q)
      -∗ wp frame (wpE (defs₀ (F := F)) Variants.none c none) Set.univ (.op (.load sc23 (Rect.unit (s := S2x768x1024) off S1x768x1024.size inb).toLoadRect hl) k) Q) := by
  unfold done1 lane1
  iintro ⟨⟨Hd, Hr⟩, Hl⟩ Hk
  iapply (lane_load (c := (c : Thread nD τ)) EC Variants.none none (half1_disj c (n % 2)) (slot1_sub c n inb ho)) $$ [Hd Hl]
  · isplitl [Hl]; · iexact Hl
    iexact Hd
  iintro %f %hf ⟨Hl, Hd⟩
  iapply Hk $$ %_ %(fun y hy => read1_half c A n e inb ho f hf y hy)
  isplitr [Hl]
  · isplitl [Hd]; · iexact Hd
    iexact Hr
  · iexact Hl
theorem racyLoad2 {Q : α → sProp 𝕄} {A : Buf (Elt F) (l10 c)} (n : ℕ) (e : Fin 8) {off : Fin 3 → ℕ} {inb hl} (ho : off = ![n % 2, 0, 0])
    {k : Vec F S1x1024x768 .f32 → Prog (TpuEff nD τ sig (Elt F) Λ₀ .tc) α} :
    iprop(done2 c A n 0 e ∗ lane2 c A n 1 e) ⊢ iprop((∀ v, ⌜∀ y : S1x1024x768.Idx, (y 1).val < 512 → v y = R2 c A e y⌝ -∗ (done2 c A n 0 e ∗ lane2 c A n 1 e)
        -∗ wp frame (wpE (defs₀ (F := F)) Variants.none c none) Set.univ (k v) Q)
      -∗ wp frame (wpE (defs₀ (F := F)) Variants.none c none) Set.univ (.op (.load sc24 (Rect.unit (s := S2x1024x768) off S1x1024x768.size inb).toLoadRect hl) k) Q) := by
  unfold done2 lane2
  iintro ⟨⟨Hd, Hr⟩, Hl⟩ Hk
  iapply (lane_load (c := (c : Thread nD τ)) EC Variants.none none (half2_disj c (n % 2)) (slot2_sub c n inb ho)) $$ [Hd Hl]
  · isplitl [Hl]; · iexact Hl
    iexact Hd
  iintro %f %hf ⟨Hl, Hd⟩
  iapply Hk $$ %_ %(fun y hy => read2_half c A n e inb ho f hf y hy)
  isplitr [Hl]
  · isplitl [Hd]; · iexact Hd
    iexact Hr
  · iexact Hl

/-- Reading a slot both halves of which have landed. -/
theorem fullLoad1 {Q : α → sProp 𝕄} {A : Buf (Elt F) (l8 c)} (n : ℕ) (e : Fin 8) {off : Fin 3 → ℕ} {inb hl} (ho : off = ![n % 2, 0, 0])
    {k : Vec F S1x768x1024 .f32 → Prog (TpuEff nD τ sig (Elt F) Λ₀ .tc) α} :
    iprop(done1 c A n 0 e ∗ done1 c A n 1 e) ⊢ iprop(((done1 c A n 0 e ∗ done1 c A n 1 e)
        -∗ wp frame (wpE (defs₀ (F := F)) Variants.none c none) Set.univ (k (R1 c A e)) Q)
      -∗ wp frame (wpE (defs₀ (F := F)) Variants.none c none) Set.univ (.op (.load sc23 (Rect.unit (s := S2x768x1024) off S1x768x1024.size inb).toLoadRect hl) k) Q) := by
  unfold done1
  iintro ⟨⟨Hd, Hr⟩, ⟨Hd', Hr'⟩⟩ Hk
  ihave H := (pointsTo_union (half1_disj c (n % 2))).2 $$ [Hd Hd']
  · isplitl [Hd]; · iexact Hd
    iexact Hd'
  iapply (wp_load (c := (c : Thread nD τ)) Variants.none none Set.univ (slot1_sub c n inb ho)) $$ H
  iintro H
  ihave H := (pointsTo_union (half1_disj c (n % 2))).1 $$ H
  icases H with ⟨Hd, Hd'⟩
  rw [read1_full c A n e inb ho]
  iapply Hk
  isplitl [Hd Hr]
  · isplitl [Hd]; · iexact Hd
    iexact Hr
  · isplitl [Hd']; · iexact Hd'
    iexact Hr'
theorem fullLoad2 {Q : α → sProp 𝕄} {A : Buf (Elt F) (l10 c)} (n : ℕ) (e : Fin 8) {off : Fin 3 → ℕ} {inb hl} (ho : off = ![n % 2, 0, 0])
    {k : Vec F S1x1024x768 .f32 → Prog (TpuEff nD τ sig (Elt F) Λ₀ .tc) α} :
    iprop(done2 c A n 0 e ∗ done2 c A n 1 e) ⊢ iprop(((done2 c A n 0 e ∗ done2 c A n 1 e)
        -∗ wp frame (wpE (defs₀ (F := F)) Variants.none c none) Set.univ (k (R2 c A e)) Q)
      -∗ wp frame (wpE (defs₀ (F := F)) Variants.none c none) Set.univ (.op (.load sc24 (Rect.unit (s := S2x1024x768) off S1x1024x768.size inb).toLoadRect hl) k) Q) := by
  unfold done2
  iintro ⟨⟨Hd, Hr⟩, ⟨Hd', Hr'⟩⟩ Hk
  ihave H := (pointsTo_union (half2_disj c (n % 2))).2 $$ [Hd Hd']
  · isplitl [Hd]; · iexact Hd
    iexact Hd'
  iapply (wp_load (c := (c : Thread nD τ)) Variants.none none Set.univ (slot2_sub c n inb ho)) $$ H
  iintro H
  ihave H := (pointsTo_union (half2_disj c (n % 2))).1 $$ H
  icases H with ⟨Hd, Hd'⟩
  rw [read2_full c A n e inb ho]
  iapply Hk
  isplitl [Hd Hr]
  · isplitl [Hd]; · iexact Hd
    iexact Hr
  · isplitl [Hd']; · iexact Hd'
    iexact Hr'

end Rules

end Cert.KernelIdeal.Hand

end
-- ==== Proof.KernelIdeal.Parts.lean ====
module

public import proofs.«01_k».proof.Proof.Gen.KernelIdeal.Frame
public import proofs.«01_k».proof.Proof.Gen.KernelIdeal.Skeleton
public import Idealize.ShloMosaic.Lib.VecWindow
public import Idealize.ShloMosaic.Lib.Writes
public import proofs.«01_k».proof.Proof.KernelIdeal.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (arg1 : Memref sig .tc .vmem S256x768 .f32) (harg1 : arg1.IsWhole)
variable (arg2 : Memref sig .tc .vmem S3x16x16 .f32) (harg2 : arg2.IsWhole)
variable (arg3 : Memref sig .tc .vmem S768x768 .f32) (harg3 : arg3.IsWhole)
variable (arg4 : Memref sig .tc .vmem S1x768 .f32) (harg4 : arg4.IsWhole)
variable (arg5 : Memref sig .tc .vmem S768x768 .f32) (harg5 : arg5.IsWhole)
variable (arg6 : Memref sig .tc .vmem S1x768 .f32) (harg6 : arg6.IsWhole)
variable (arg7 : Memref sig .tc .vmem S768x24 .f32) (harg7 : arg7.IsWhole)
variable (arg9 : Memref sig .tc .vmem S1x1x1024 .f32) (harg9 : arg9.IsWhole)
variable (arg11 : Memref sig .tc .vmem S1x1x768 .f32) (harg11 : arg11.IsWhole)
variable (arg12 : Memref sig .tc .vmem S1x768x512 .f32) (harg12 : arg12.IsWhole)
variable (arg13 : Memref sig .tc .vmem S3x512 .f32) (harg13 : arg13.IsWhole)
variable (arg14 : Memref sig .tc .vmem S512x3 .f32) (harg14 : arg14.IsWhole)
variable (arg15 : Memref sig .tc .vmem S1x3 .f32) (harg15 : arg15.IsWhole)
variable (arg16 : Memref sig .tc .vmem S1x1 .f32) (harg16 : arg16.IsWhole)

/-- A whole memref of the body held at the value `v`. -/
abbrev holds (c : Dev nD) {sp : Space} {S : Shape} {e : EltTy} (M : Memref sig .tc sp S e) (v : Vec F S e) : sProp 𝕄 :=
  owns (c : Thread nD τ) M fullShare v

theorem rd {sp : Space} {s : Shape} {e : EltTy} (v : View sig .tc sp s e) (f : v.ty.Contents (Elt F)) (off size : Fin s.rank → ℕ) (inb) :
    v.readAt (Elt F) (Rect.unit off size inb).toLoadRect f = VecWindow.window (v.read (Elt F) f) off size inb := View.readAt_unit v f inb rfl inb
theorem wr {sp : Space} {s : Shape} {e : EltTy} (v : View sig .tc sp s e) (f : v.ty.Contents (Elt F)) (off size : Fin s.rank → ℕ) (inb) (w) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

theorem window_full {α : Type} {s : Shape} (x : s.Idx → α) (off : Fin s.rank → ℕ) (inb) (h : ∀ a, off a = 0) : VecWindow.window x off s.size inb = x := by
  funext y
  exact congrArg x (funext fun a => Fin.ext (by show off a + 1 * (y a).val = (y a).val; rw [h]; omega))
theorem put_full {α : Type} {s : Shape} (x w : s.Idx → α) (off : Fin s.rank → ℕ) (h : ∀ a, off a = 0) : VecWindow.put x off s.size w = w := by
  funext y
  have hh : ∀ a, off a ≤ (y a).val ∧ (y a).val < off a + s.size a := fun a => by rw [h]; exact ⟨Nat.zero_le _, by have := (y a).isLt; omega⟩
  unfold VecWindow.put
  rw [dif_pos hh]
  exact congrArg w (funext fun a => Fin.ext (by show (y a).val - off a = (y a).val; rw [h]; omega))
theorem wf2 {α : Type} {a b : ℕ} (x : (⟨2, ![a, b]⟩ : Shape).Idx → α) (inb) : VecWindow.window x ![0, 0] ![a, b] inb = x :=
  window_full x _ inb (fun a => by fin_cases a <;> rfl)
theorem wf3 {α : Type} {a b d : ℕ} (x : (⟨3, ![a, b, d]⟩ : Shape).Idx → α) (inb) : VecWindow.window x ![0, 0, 0] ![a, b, d] inb = x :=
  window_full x _ inb (fun a => by fin_cases a <;> rfl)
theorem pf2 {α : Type} {a b : ℕ} (x w : (⟨2, ![a, b]⟩ : Shape).Idx → α) : VecWindow.put x ![0, 0] ![a, b] w = w :=
  put_full x w _ (fun a => by fin_cases a <;> rfl)
theorem pf3 {α : Type} {a b d : ℕ} (x w : (⟨3, ![a, b, d]⟩ : Shape).Idx → α) : VecWindow.put x ![0, 0, 0] ![a, b, d] w = w :=
  put_full x w _ (fun a => by fin_cases a <;> rfl)

variable (c : Dev nD)

/-- What the body's part 2 does to the arrays it touches, and what it returns. -/
theorem part2_triple (i : grid0.Coords)  (x1 : Vec F S256x768 .f32) (x3 : Vec F S768x768 .f32) (x4 : Vec F S1x768 .f32) (x5 : Vec F S768x768 .f32) (x6 : Vec F S1x768 .f32) (x7 : Vec F S768x24 .f32) (d17 : Vec F S256x768 .bf16)
    (Q : (Σ' (v193 : FVec F S256x24 .f32) (v194 : IVec S256x8 32) (v195 : FVec F S256x8 .f32) (v197 : FVec F S256x1 .f32) (v203 : IVec S256x1 32), IVec S256x8 32) → sProp 𝕄) :
    iprop(holds c arg1 x1 ∗ holds c arg3 x3 ∗ holds c arg4 x4 ∗ holds c arg5 x5 ∗ holds c arg6 x6 ∗ holds c arg7 x7 ∗ holds c sc17 d17 ∗ ((holds c arg1 x1 ∗ holds c arg3 x3 ∗ holds c arg4 x4 ∗ holds c arg5 x5 ∗ holds c arg6 x6 ∗ holds c arg7 x7 ∗ holds c sc17 (k0_pay3 x1 x3 x4 x5 x6)) -∗ Q (⟨k0_pay4 x1 x3 x4 x5 x6 x7, (iota .tc S256x8 32 [1] iota_S256x8_d1_w32), k0_pay5 x1 x3 x4 x5 x6 x7, k0_pay6 x1 x3 x4 x5 x6 x7, k0_pay7 x1 x3 x4 x5 x6 x7, k0_pay8 x1 x3 x4 x5 x6 x7⟩))) ⊢
    wp frame (wpE (defs₀ (F := F)) Variants.none c none) Set.univ (k0_part2 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 ) Q := by
  rw [k0_part2_eq_skeleton]; unfold k0_part2_skel
  unfold holds owns
  iintro ⟨⟨%f1, %h1, H1⟩, ⟨%f3, %h3, H3⟩, ⟨%f4, %h4, H4⟩, ⟨%f5, %h5, H5⟩, ⟨%f6, %h6, H6⟩, ⟨%f7, %h7, H7⟩, ⟨%f17, %h17, H17⟩, Hk⟩
  sl_exec
  delta part2_triple.sl.v194
  rw [wp_ret]
  imodintro
  simp only [rd, wr, View.writes_nil, wf2, wf3, pf2, pf3, h1, h3, h4, h5, h6, h7, h17]
  iapply Hk
  isplitl [H1]
  · iexists _; isplitr; rotate_left 1
    · iexact H1
    ipureintro; exact h1
  isplitl [H3]
  · iexists _; isplitr; rotate_left 1
    · iexact H3
    ipureintro; exact h3
  isplitl [H4]
  · iexists _; isplitr; rotate_left 1
    · iexact H4
    ipureintro; exact h4
  isplitl [H5]
  · iexists _; isplitr; rotate_left 1
    · iexact H5
    ipureintro; exact h5
  isplitl [H6]
  · iexists _; isplitr; rotate_left 1
    · iexact H6
    ipureintro; exact h6
  isplitl [H7]
  · iexists _; isplitr; rotate_left 1
    · iexact H7
    ipureintro; exact h7
  iexists _; isplitr; rotate_left 1
  · iexact H17
  ipureintro; exact (by simp only [rd, wr, View.writes_nil, wf2, wf3, pf2, pf3, h1, h3, h4, h5, h6, h7, h17]; try rfl)

/-- What the body's part 3 does to the arrays it touches, and what it returns. -/
theorem part3_triple (i : grid0.Coords) (v194 : IVec S256x8 32) (v195 : FVec F S256x8 .f32) (v197 : FVec F S256x1 .f32) (v203 : IVec S256x1 32) (v204 : IVec S256x8 32) (d18 : Vec F S3x256x2 .i32) (d19 : Vec F S3x256x2 .f32)
    (Q : (Σ' (v235 : FVec F S256x8 .f32) (v245 : FVec F S1x8 .f32), FVec F S256x8 .f32) → sProp 𝕄) :
    iprop(holds c sc18 d18 ∗ holds c sc19 d19 ∗ ((holds c sc18 (VecWindow.put d18 ![0, 0, 0] S1x256x2.size (k0_pay17 v194 v195 v203 v204)) ∗ holds c sc19 (VecWindow.put d19 ![0, 0, 0] S1x256x2.size (k0_pay18 v194 v195 v197 v204))) -∗ Q (⟨k0_pay16 v194 v195 v197 v203 v204, k0_pay19 v194 v195 v197 v203 v204, k0_pay20 (F := F)⟩))) ⊢
    wp frame (wpE (defs₀ (F := F)) Variants.none c none) Set.univ (k0_part3 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v194 v195 v197 v203 v204) Q := by
  rw [k0_part3_eq_skeleton]; unfold k0_part3_skel
  unfold holds owns
  iintro ⟨⟨%f18, %h18, H18⟩, ⟨%f19, %h19, H19⟩, Hk⟩
  sl_exec
  rw [wp_ret]
  imodintro
  simp only [rd, wr, View.writes_nil, wf2, wf3, pf2, pf3, h18, h19]
  iapply Hk
  isplitl [H18]
  · iexists _; isplitr; rotate_left 1
    · iexact H18
    ipureintro; exact (by simp only [rd, wr, View.writes_nil, wf2, wf3, pf2, pf3, h18, h19]; try rfl)
  iexists _; isplitr; rotate_left 1
  · iexact H19
  ipureintro; exact (by simp only [rd, wr, View.writes_nil, wf2, wf3, pf2, pf3, h18, h19]; try rfl)

/-- What the body's part 4 does to the arrays it touches, and what it returns. -/
theorem part4_triple (i : grid0.Coords) (v193 : FVec F S256x24 .f32) (v235 : FVec F S256x8 .f32) (v245 : FVec F S1x8 .f32) (v246 : FVec F S256x8 .f32) (d20 : Vec F S3 .f32)
    (Q : (Σ' (v286 : FVec F S256x8 .f32) (v288 : FVec F S256x1 .f32) (v290 : IVec S256x8 1), IVec S256x8 32) → sProp 𝕄) :
    iprop(holds c sc20 d20 ∗ ((holds c sc20 (VecWindow.put d20 ![0] S1.size (fun _ => k0_pay21 v235 v245 v246))) -∗ Q (⟨k0_pay22 v193, k0_pay23 v193, k0_pay24 v193, k0_pay25⟩))) ⊢
    wp frame (wpE (defs₀ (F := F)) Variants.none c none) Set.univ (k0_part4 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v193 v235 v245 v246) Q := by
  rw [k0_part4_eq_skeleton]; unfold k0_part4_skel
  unfold holds owns
  iintro ⟨⟨%f20, %h20, H20⟩, Hk⟩
  sl_exec
  rw [wp_ret]
  imodintro
  simp only [rd, wr, View.writes_nil, wf2, wf3, pf2, pf3, h20]
  iapply Hk
  iexists _; isplitr; rotate_left 1
  · iexact H20
  ipureintro; exact (by simp only [rd, wr, View.writes_nil, wf2, wf3, pf2, pf3, h20]; try rfl)

/-- What the body's part 5 does to the arrays it touches, and what it returns. -/
theorem part5_triple (i : grid0.Coords) (v194 : IVec S256x8 32) (v286 : FVec F S256x8 .f32) (v288 : FVec F S256x1 .f32) (v290 : IVec S256x8 1) (v291 : IVec S256x8 32) (d18 : Vec F S3x256x2 .i32) (d19 : Vec F S3x256x2 .f32)
    (Q : (FVec F S256x8 .f32) → sProp 𝕄) :
    iprop(holds c sc18 d18 ∗ holds c sc19 d19 ∗ ((holds c sc18 (VecWindow.put d18 ![1, 0, 0] S1x256x2.size (k0_pay35 v194 v286 v290 v291)) ∗ holds c sc19 (VecWindow.put d19 ![1, 0, 0] S1x256x2.size (k0_pay36 v194 v286 v288 v290 v291))) -∗ Q ((k0_pay34 v194 v286 v288 v290 v291)))) ⊢
    wp frame (wpE (defs₀ (F := F)) Variants.none c none) Set.univ (k0_part5 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v194 v286 v288 v290 v291) Q := by
  rw [k0_part5_eq_skeleton]; unfold k0_part5_skel
  unfold holds owns
  iintro ⟨⟨%f18, %h18, H18⟩, ⟨%f19, %h19, H19⟩, Hk⟩
  sl_exec
  rw [wp_ret]
  imodintro
  simp only [rd, wr, View.writes_nil, wf2, wf3, pf2, pf3, h18, h19]
  iapply Hk
  isplitl [H18]
  · iexists _; isplitr; rotate_left 1
    · iexact H18
    ipureintro; exact (by simp only [rd, wr, View.writes_nil, wf2, wf3, pf2, pf3, h18, h19]; try rfl)
  iexists _; isplitr; rotate_left 1
  · iexact H19
  ipureintro; exact (by simp only [rd, wr, View.writes_nil, wf2, wf3, pf2, pf3, h18, h19]; try rfl)

/-- What the body's part 6 does to the arrays it touches, and what it returns. -/
theorem part6_triple (i : grid0.Coords) (v193 : FVec F S256x24 .f32) (v326 : FVec F S256x8 .f32) (d20 : Vec F S3 .f32)
    (Q : (Σ' (v377 : FVec F S256x8 .f32), FVec F S256 .f32) → sProp 𝕄) :
    iprop(holds c sc20 d20 ∗ ((holds c sc20 (VecWindow.put d20 ![1] S1.size (fun _ => k0_pay37 v326))) -∗ Q (⟨k0_pay38 v193, k0_pay39 v193⟩))) ⊢
    wp frame (wpE (defs₀ (F := F)) Variants.none c none) Set.univ (k0_part6 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v193 v326) Q := by
  rw [k0_part6_eq_skeleton]; unfold k0_part6_skel
  unfold holds owns
  iintro ⟨⟨%f20, %h20, H20⟩, Hk⟩
  sl_exec
  rw [wp_ret]
  imodintro
  simp only [rd, wr, View.writes_nil, wf2, wf3, pf2, pf3, h20]
  iapply Hk
  iexists _; isplitr; rotate_left 1
  · iexact H20
  ipureintro; exact (by simp only [rd, wr, View.writes_nil, wf2, wf3, pf2, pf3, h20]; try rfl)

/-- What the body's part 7 does to the arrays it touches, and what it returns. -/
theorem part7_triple (i : grid0.Coords) (v194 : IVec S256x8 32) (v377 : FVec F S256x8 .f32) (v378 : FVec F S256 .f32) (d18 : Vec F S3x256x2 .i32)
    (Q : (Σ' (v417 : FVec F S256x8 .f32), FVec F S256x2 .f32) → sProp 𝕄) :
    iprop(holds c sc18 d18 ∗ ((holds c sc18 (VecWindow.put d18 ![2, 0, 0] S1x256x2.size (k0_pay50 v194 v377 v378))) -∗ Q (⟨k0_pay49 v194 v377 v378, k0_pay51 v194 v377 v378⟩))) ⊢
    wp frame (wpE (defs₀ (F := F)) Variants.none c none) Set.univ (k0_part7 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v194 v377 v378) Q := by
  rw [k0_part7_eq_skeleton]; unfold k0_part7_skel
  unfold holds owns
  iintro ⟨⟨%f18, %h18, H18⟩, Hk⟩
  sl_exec
  rw [wp_ret]
  imodintro
  simp only [rd, wr, View.writes_nil, wf2, wf3, pf2, pf3, h18]
  iapply Hk
  iexists _; isplitr; rotate_left 1
  · iexact H18
  ipureintro; exact (by simp only [rd, wr, View.writes_nil, wf2, wf3, pf2, pf3, h18]; try rfl)

/-- What the body's part 8 does to the arrays it touches, and what it returns. -/
theorem part8_triple (i : grid0.Coords) (v417 : FVec F S256x8 .f32) (v422 : FVec F S256x2 .f32) (d19 : Vec F S3x256x2 .f32)
    (Q : (F .f32) → sProp 𝕄) :
    iprop(holds c sc19 d19 ∗ ((holds c sc19 (VecWindow.put d19 ![2, 0, 0] S1x256x2.size (k0_pay52 v422))) -∗ Q ((k0_pay53 v417)))) ⊢
    wp frame (wpE (defs₀ (F := F)) Variants.none c none) Set.univ (k0_part8 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v417 v422) Q := by
  rw [k0_part8_eq_skeleton]; unfold k0_part8_skel
  unfold holds owns
  iintro ⟨⟨%f19, %h19, H19⟩, Hk⟩
  sl_exec
  rw [wp_ret]
  imodintro
  simp only [rd, wr, View.writes_nil, wf2, wf3, pf2, pf3, h19]
  iapply Hk
  iexists _; isplitr; rotate_left 1
  · iexact H19
  ipureintro; exact (by simp only [rd, wr, View.writes_nil, wf2, wf3, pf2, pf3, h19]; try rfl)

/-- What the body's part 9 does to the arrays it touches, and what it returns. -/
theorem part9_triple (i : grid0.Coords)
    (Q : (Σ' (v187 : FVec F S256x16 .f32) (v188 : IVec S16x256 32), IVec S16x256 32) → sProp 𝕄) :
    (Q ⟨k0_pay54 (F := F), (iota .tc S16x256 32 [0] iota_S16x256_d0_w32), k0_pay55⟩) ⊢
    wp frame (wpE (defs₀ (F := F)) Variants.none c none) Set.univ (k0_part9 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 ) Q := by
  rw [k0_part9_eq_skeleton]; unfold k0_part9_skel
  rw [wp_pure]
  iintro H
  imodintro
  iexact H

/-- What the body's part 10 does to the arrays it touches, and what it returns. -/
theorem part10_triple (i : grid0.Coords) (v187 : FVec F S256x16 .f32) (v188 : IVec S16x256 32) (v213 : IVec S16x256 32) (d21 : Vec F S3x256x768 .bf16) (d22 : Vec F S3x768x512 .f32) (x13 : Vec F S3x512 .f32) (x14 : Vec F S512x3 .f32) (x15 : Vec F S1x3 .f32) (x2 : Vec F S3x16x16 .f32)
    (Q : (Σ' (v216 : FVec F S16x256 .f32) (v238 : FVec F S256x1 .f32), FVec F S256x1 .f32) → sProp 𝕄) :
    iprop(holds c sc21 d21 ∗ holds c sc22 d22 ∗ holds c arg13 x13 ∗ holds c arg14 x14 ∗ holds c arg15 x15 ∗ holds c arg2 x2 ∗ ((holds c sc21 d21 ∗ holds c sc22 d22 ∗ holds c arg13 x13 ∗ holds c arg14 x14 ∗ holds c arg15 x15 ∗ holds c arg2 x2) -∗ Q (⟨k0_pay56 (F := F) v188 v213, k0_pay57 (VecWindow.window d21 ![0, 0, 0] S1x256x768.size inb_S3x256x768_S1x256x768_0_0_0) (VecWindow.window d22 ![0, 0, 0] S1x768x512.size inb_S3x768x512_S1x768x512_0_0_0) (VecWindow.window x13 ![0, 0] S1x512.size inb_S3x512_S1x512_0_0) (VecWindow.window x14 ![0, 0] S512x1.size inb_S512x3_S512x1_0_0) (VecWindow.window x15 ![0, 0] S1x1.size inb_S1x3_S1x1_0_0), k0_pay58 v187 v188 v213 (VecWindow.window x2 ![0, 0, 0] S1x16x16.size inb_S3x16x16_S1x16x16_0_0_0)⟩))) ⊢
    wp frame (wpE (defs₀ (F := F)) Variants.none c none) Set.univ (k0_part10 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v187 v188 v213) Q := by
  rw [k0_part10_eq_skeleton]; unfold k0_part10_skel
  unfold holds owns
  iintro ⟨⟨%f21, %h21, H21⟩, ⟨%f22, %h22, H22⟩, ⟨%f13, %h13, H13⟩, ⟨%f14, %h14, H14⟩, ⟨%f15, %h15, H15⟩, ⟨%f2, %h2, H2⟩, Hk⟩
  sl_exec
  rw [wp_ret]
  imodintro
  simp only [rd, wr, View.writes_nil, wf2, wf3, pf2, pf3, h21, h22, h13, h14, h15, h2]
  iapply Hk
  isplitl [H21]
  · iexists _; isplitr; rotate_left 1
    · iexact H21
    ipureintro; exact h21
  isplitl [H22]
  · iexists _; isplitr; rotate_left 1
    · iexact H22
    ipureintro; exact h22
  isplitl [H13]
  · iexists _; isplitr; rotate_left 1
    · iexact H13
    ipureintro; exact h13
  isplitl [H14]
  · iexists _; isplitr; rotate_left 1
    · iexact H14
    ipureintro; exact h14
  isplitl [H15]
  · iexists _; isplitr; rotate_left 1
    · iexact H15
    ipureintro; exact h15
  iexists _; isplitr; rotate_left 1
  · iexact H2
  ipureintro; exact h2

/-- What the body's part 11 does to the arrays it touches, and what it returns. -/
theorem part11_triple (i : grid0.Coords) (v187 : FVec F S256x16 .f32) (v216 : FVec F S16x256 .f32) (d21 : Vec F S3x256x768 .bf16) (d22 : Vec F S3x768x512 .f32) (x13 : Vec F S3x512 .f32) (x14 : Vec F S512x3 .f32) (x15 : Vec F S1x3 .f32) (x2 : Vec F S3x16x16 .f32)
    (Q : (Σ' (v273 : FVec F S256x1 .f32) (v286 : FVec F S256x1 .f32), FVec F S256x768 .bf16) → sProp 𝕄) :
    iprop(holds c sc21 d21 ∗ holds c sc22 d22 ∗ holds c arg13 x13 ∗ holds c arg14 x14 ∗ holds c arg15 x15 ∗ holds c arg2 x2 ∗ ((holds c sc21 d21 ∗ holds c sc22 d22 ∗ holds c arg13 x13 ∗ holds c arg14 x14 ∗ holds c arg15 x15 ∗ holds c arg2 x2) -∗ Q (⟨k0_pay59 (VecWindow.window d21 ![1, 0, 0] S1x256x768.size inb_S3x256x768_S1x256x768_1_0_0) (VecWindow.window d22 ![1, 0, 0] S1x768x512.size inb_S3x768x512_S1x768x512_1_0_0) (VecWindow.window x13 ![1, 0] S1x512.size inb_S3x512_S1x512_1_0) (VecWindow.window x14 ![0, 1] S512x1.size inb_S512x3_S512x1_0_1) (VecWindow.window x15 ![0, 1] S1x1.size inb_S1x3_S1x1_0_1), k0_pay60 v187 v216 (VecWindow.window x2 ![1, 0, 0] S1x16x16.size inb_S3x16x16_S1x16x16_1_0_0), k0_pay61 (VecWindow.window d21 ![2, 0, 0] S1x256x768.size inb_S3x256x768_S1x256x768_2_0_0)⟩))) ⊢
    wp frame (wpE (defs₀ (F := F)) Variants.none c none) Set.univ (k0_part11 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v187 v216) Q := by
  rw [k0_part11_eq_skeleton]; unfold k0_part11_skel
  unfold holds owns
  iintro ⟨⟨%f21, %h21, H21⟩, ⟨%f22, %h22, H22⟩, ⟨%f13, %h13, H13⟩, ⟨%f14, %h14, H14⟩, ⟨%f15, %h15, H15⟩, ⟨%f2, %h2, H2⟩, Hk⟩
  sl_exec
  rw [wp_ret]
  imodintro
  simp only [rd, wr, View.writes_nil, wf2, wf3, pf2, pf3, h21, h22, h13, h14, h15, h2]
  iapply Hk
  isplitl [H21]
  · iexists _; isplitr; rotate_left 1
    · iexact H21
    ipureintro; exact h21
  isplitl [H22]
  · iexists _; isplitr; rotate_left 1
    · iexact H22
    ipureintro; exact h22
  isplitl [H13]
  · iexists _; isplitr; rotate_left 1
    · iexact H13
    ipureintro; exact h13
  isplitl [H14]
  · iexists _; isplitr; rotate_left 1
    · iexact H14
    ipureintro; exact h14
  isplitl [H15]
  · iexists _; isplitr; rotate_left 1
    · iexact H15
    ipureintro; exact h15
  iexists _; isplitr; rotate_left 1
  · iexact H2
  ipureintro; exact h2

/-- What the body's part 12 does to the arrays it touches, and what it returns. -/
theorem part12_triple (i : grid0.Coords) (v187 : FVec F S256x16 .f32) (v216 : FVec F S16x256 .f32) (v238 : FVec F S256x1 .f32) (v251 : FVec F S256x1 .f32) (v273 : FVec F S256x1 .f32) (v286 : FVec F S256x1 .f32) (v288 : FVec F S256x768 .bf16) (d22 : Vec F S3x768x512 .f32) (x13 : Vec F S3x512 .f32) (x14 : Vec F S512x3 .f32) (x15 : Vec F S1x3 .f32) (x2 : Vec F S3x16x16 .f32)
    (Q : (Σ' (v327 : FVec F S256x3 .f32) (v328 : FVec F S256x3 .f32), F .f32) → sProp 𝕄) :
    iprop(holds c sc22 d22 ∗ holds c arg13 x13 ∗ holds c arg14 x14 ∗ holds c arg15 x15 ∗ holds c arg2 x2 ∗ ((holds c sc22 d22 ∗ holds c arg13 x13 ∗ holds c arg14 x14 ∗ holds c arg15 x15 ∗ holds c arg2 x2) -∗ Q (⟨k0_pay63 v187 v216 v238 v251 v273 v286 v288 (VecWindow.window d22 ![2, 0, 0] S1x768x512.size inb_S3x768x512_S1x768x512_2_0_0) (VecWindow.window x13 ![2, 0] S1x512.size inb_S3x512_S1x512_2_0) (VecWindow.window x14 ![0, 2] S512x1.size inb_S512x3_S512x1_0_2) (VecWindow.window x15 ![0, 2] S1x1.size inb_S1x3_S1x1_0_2) (VecWindow.window x2 ![2, 0, 0] S1x16x16.size inb_S3x16x16_S1x16x16_2_0_0), k0_pay64 v238 v273 v288 (VecWindow.window d22 ![2, 0, 0] S1x768x512.size inb_S3x768x512_S1x768x512_2_0_0) (VecWindow.window x13 ![2, 0] S1x512.size inb_S3x512_S1x512_2_0) (VecWindow.window x14 ![0, 2] S512x1.size inb_S512x3_S512x1_0_2) (VecWindow.window x15 ![0, 2] S1x1.size inb_S1x3_S1x1_0_2), (Scalar.ofBits .f32 0x00000000#32)⟩))) ⊢
    wp frame (wpE (defs₀ (F := F)) Variants.none c none) Set.univ (k0_part12 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v187 v216 v238 v251 v273 v286 v288) Q := by
  rw [k0_part12_eq_skeleton]; unfold k0_part12_skel
  unfold holds owns
  iintro ⟨⟨%f22, %h22, H22⟩, ⟨%f13, %h13, H13⟩, ⟨%f14, %h14, H14⟩, ⟨%f15, %h15, H15⟩, ⟨%f2, %h2, H2⟩, Hk⟩
  sl_exec
  delta part12_triple.sl.cst_184
  rw [wp_ret]
  imodintro
  simp only [rd, wr, View.writes_nil, wf2, wf3, pf2, pf3, h22, h13, h14, h15, h2]
  iapply Hk
  isplitl [H22]
  · iexists _; isplitr; rotate_left 1
    · iexact H22
    ipureintro; exact h22
  isplitl [H13]
  · iexists _; isplitr; rotate_left 1
    · iexact H13
    ipureintro; exact h13
  isplitl [H14]
  · iexists _; isplitr; rotate_left 1
    · iexact H14
    ipureintro; exact h14
  isplitl [H15]
  · iexists _; isplitr; rotate_left 1
    · iexact H15
    ipureintro; exact h15
  iexists _; isplitr; rotate_left 1
  · iexact H2
  ipureintro; exact h2

/-- What the body's part 16 does to the arrays it touches, and what it returns. -/
theorem part16_triple (i : grid0.Coords) (arg0 : BitVec 32) (v85 : FVec F S256x768 .bf16) (v93 : FVec F S256x1 .f32) (v97 : IVec S256x1 1) (v99 : FVec F S256x1 .f32) (v100 : FVec F S256x1 .f32) (d18 : Vec F S3x256x2 .i32) (d19 : Vec F S3x256x2 .f32) (d21 : Vec F S3x256x768 .bf16)
    (Q : (FVec F S256x768 .bf16) → sProp 𝕄) :
    iprop(holds c sc18 d18 ∗ holds c sc19 d19 ∗ holds c sc21 d21 ∗ ((holds c sc18 d18 ∗ holds c sc19 d19 ∗ holds c sc21 (VecWindow.put d21 ![0, 0, 0] S1x256x768.size (k0_pay76 v85 v93 v97 v99 v100 (VecWindow.window d21 ![0, 0, 0] S1x256x768.size inb_S3x256x768_S1x256x768_0_0_0)))) -∗ Q ((k0_pay77 arg0 v85 (VecWindow.window d18 ![1, 0, 0] S1x256x1.size inb_S3x256x2_S1x256x1_1_0_0) (VecWindow.window d19 ![1, 0, 0] S1x256x1.size inb_S3x256x2_S1x256x1_1_0_0) (VecWindow.window d18 ![1, 0, 1] S1x256x1.size inb_S3x256x2_S1x256x1_1_0_1) (VecWindow.window d19 ![1, 0, 1] S1x256x1.size inb_S3x256x2_S1x256x1_1_0_1) (VecWindow.window d21 ![1, 0, 0] S1x256x768.size inb_S3x256x768_S1x256x768_1_0_0))))) ⊢
    wp frame (wpE (defs₀ (F := F)) Variants.none c none) Set.univ (k0_part16 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 arg0 v85 v93 v97 v99 v100) Q := by
  rw [k0_part16_eq_skeleton]; unfold k0_part16_skel
  unfold holds owns
  iintro ⟨⟨%f18, %h18, H18⟩, ⟨%f19, %h19, H19⟩, ⟨%f21, %h21, H21⟩, Hk⟩
  sl_exec
  delta part16_triple.sl.v130
  rw [wp_ret]
  imodintro
  simp only [rd, wr, View.writes_nil, wf2, wf3, pf2, pf3, h18, h19, h21]
  iapply Hk
  isplitl [H18]
  · iexists _; isplitr; rotate_left 1
    · iexact H18
    ipureintro; exact h18
  isplitl [H19]
  · iexists _; isplitr; rotate_left 1
    · iexact H19
    ipureintro; exact h19
  iexists _; isplitr; rotate_left 1
  · iexact H21
  ipureintro; exact (by simp only [rd, wr, View.writes_nil, wf2, wf3, pf2, pf3, h18, h19, h21]; try rfl)

end Cert.KernelIdeal.Hand

end
-- ==== Proof.KernelIdeal.P13.lean ====
module

public import proofs.«01_k».proof.Proof.Gen.KernelIdeal.Frame
public import proofs.«01_k».proof.Proof.Gen.KernelIdeal.Skeleton
public import proofs.«01_k».proof.Proof.KernelIdeal.Parts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (arg1 : Memref sig .tc .vmem S256x768 .f32) (harg1 : arg1.IsWhole)
variable (arg2 : Memref sig .tc .vmem S3x16x16 .f32) (harg2 : arg2.IsWhole)
variable (arg3 : Memref sig .tc .vmem S768x768 .f32) (harg3 : arg3.IsWhole)
variable (arg4 : Memref sig .tc .vmem S1x768 .f32) (harg4 : arg4.IsWhole)
variable (arg5 : Memref sig .tc .vmem S768x768 .f32) (harg5 : arg5.IsWhole)
variable (arg6 : Memref sig .tc .vmem S1x768 .f32) (harg6 : arg6.IsWhole)
variable (arg7 : Memref sig .tc .vmem S768x24 .f32) (harg7 : arg7.IsWhole)
variable (arg9 : Memref sig .tc .vmem S1x1x1024 .f32) (harg9 : arg9.IsWhole)
variable (arg11 : Memref sig .tc .vmem S1x1x768 .f32) (harg11 : arg11.IsWhole)
variable (arg12 : Memref sig .tc .vmem S1x768x512 .f32) (harg12 : arg12.IsWhole)
variable (arg13 : Memref sig .tc .vmem S3x512 .f32) (harg13 : arg13.IsWhole)
variable (arg14 : Memref sig .tc .vmem S512x3 .f32) (harg14 : arg14.IsWhole)
variable (arg15 : Memref sig .tc .vmem S1x3 .f32) (harg15 : arg15.IsWhole)
variable (arg16 : Memref sig .tc .vmem S1x1 .f32) (harg16 : arg16.IsWhole)
variable (c : Dev nD)

/-- Reading a rectangle of a memref held whole. -/
theorem loadH {α : Type} {Q : α → sProp 𝕄} {cs : CoreSpace} {s : Shape} {e : EltTy} {M : Memref sig .tc cs s e} {v : Vec F s e} {off size : Fin s.rank → ℕ} {inb} {hl}
    {k : ((Rect.unit off size inb).shape.Idx → Elt F e) → Prog (TpuEff nD τ sig (Elt F) Λ₀ .tc) α} :
    holds c M v ⊢ iprop((holds c M v -∗ wp frame (wpE (defs₀ (F := F)) Variants.none c none) Set.univ (k (VecWindow.window v off size inb)) Q)
      -∗ wp frame (wpE (defs₀ (F := F)) Variants.none c none) Set.univ (.op (.load M (Rect.unit off size inb).toLoadRect hl) k) Q) := by
  unfold holds owns
  iintro ⟨%f, %h, H⟩ Hk
  iapply (wp_load (c := (c : Thread nD τ)) Variants.none none Set.univ (View.setOn_subset_set M.view _)) $$ H
  iintro H
  rw [rd, h]
  iapply Hk
  iexists f
  isplitr; · ipureintro; exact h
  iexact H

/-- Writing a rectangle of a memref held whole. -/
theorem storeH {α : Type} {Q : α → sProp 𝕄} {cs : CoreSpace} {s : Shape} {e : EltTy} {M : Memref sig .tc cs s e} {v : Vec F s e} {off size : Fin s.rank → ℕ} {inb} {w} {hx hm}
    {k : PUnit → Prog (TpuEff nD τ sig (Elt F) Λ₀ .tc) α} :
    holds c M v ⊢ iprop((holds c M (VecWindow.put v off size w) -∗ wp frame (wpE (defs₀ (F := F)) Variants.none c none) Set.univ (k ⟨⟩) Q)
      -∗ wp frame (wpE (defs₀ (F := F)) Variants.none c none) Set.univ (.op (.store M (Rect.unit off size inb) w Finset.univ hx hm) k) Q) := by
  unfold holds owns
  iintro ⟨%f, %h, H⟩ Hk
  iapply (wp_store (c := (c : Thread nD τ)) Variants.none none Set.univ (m := M) (r := Rect.unit off size inb) (w := w) (Mk := Finset.univ) (f := f) (S := M.view.set) ((View.setOn_subset_set _ _).trans (View.set_slice_subset M.view _))) $$ H
  iintro H
  iapply Hk
  iexists _
  isplitr; rotate_left 1
  · iexact H
  ipureintro
  rw [← h]
  exact View.read_writes_cons_put M.view f inb w [] rfl

/-! ## Arrays of three rows -/

/-- The array whose rows are `w 0`, `w 1`, `w 2`. -/
def rows {α : Type} {A B : ℕ} (w : Fin 3 → (⟨3, ![1, A, B]⟩ : Shape).Idx → α) : (⟨3, ![3, A, B]⟩ : Shape).Idx → α :=
  fun y => w (y 0) (fun a => match a with | 0 => (0 : Fin 1) | 1 => y 1 | 2 => y 2)

theorem put_row {α : Type} {A B : ℕ} (d : (⟨3, ![3, A, B]⟩ : Shape).Idx → α) (j : Fin 3) (w : (⟨3, ![1, A, B]⟩ : Shape).Idx → α) (y : (⟨3, ![3, A, B]⟩ : Shape).Idx) :
    VecWindow.put d ![j.val, 0, 0] ![1, A, B] w y = if (y 0).val = j.val then w (fun a => match a with | 0 => (0 : Fin 1) | 1 => y 1 | 2 => y 2) else d y := by
  unfold VecWindow.put
  by_cases h : (y 0).val = j.val
  · have hh : ∀ a : Fin 3, (![j.val, 0, 0] : Fin 3 → ℕ) a ≤ (y a).val ∧ (y a).val < (![j.val, 0, 0] : Fin 3 → ℕ) a + (![1, A, B] : Fin 3 → ℕ) a := by
      intro a
      fin_cases a
      · show j.val ≤ (y 0).val ∧ (y 0).val < j.val + 1
        have : (y 0).val = j.val := h
        omega
      · have := (y 1).isLt
        exact ⟨Nat.zero_le _, by show (y 1).val < 0 + A; rw [Nat.zero_add]; exact this⟩
      · have := (y 2).isLt
        exact ⟨Nat.zero_le _, by show (y 2).val < 0 + B; rw [Nat.zero_add]; exact this⟩
    rw [dif_pos hh, if_pos h]
    refine congrArg w (funext fun a => Fin.ext ?_)
    fin_cases a
    · show (y 0).val - j.val = 0
      have : (y 0).val = j.val := h
      omega
    · rfl
    · rfl
  · rw [if_neg h, dif_neg]
    intro hh
    have := hh 0
    have h0 : j.val ≤ (y 0).val ∧ (y 0).val < j.val + 1 := this
    exact h (by omega)

theorem put3 {α : Type} {A B : ℕ} (d : (⟨3, ![3, A, B]⟩ : Shape).Idx → α) (w : Fin 3 → (⟨3, ![1, A, B]⟩ : Shape).Idx → α) :
    VecWindow.put (VecWindow.put (VecWindow.put d ![0, 0, 0] ![1, A, B] (w 0)) ![1, 0, 0] ![1, A, B] (w 1)) ![2, 0, 0] ![1, A, B] (w 2) = rows w := by
  funext y
  have e0 := put_row d 0 (w 0) y
  have e1 := put_row (VecWindow.put d ![0, 0, 0] ![1, A, B] (w 0)) 1 (w 1) y
  have e2 := put_row (VecWindow.put (VecWindow.put d ![0, 0, 0] ![1, A, B] (w 0)) ![1, 0, 0] ![1, A, B] (w 1)) 2 (w 2) y
  refine e2.trans ?_
  unfold rows
  have hc : ∀ j : Fin 3, j = 0 ∨ j = 1 ∨ j = 2 := by decide
  have hy := hc (y 0)
  rcases hy with h | h | h
  · rw [if_neg (fun hh => by have h1 : (y 0).val = 0 := congrArg Fin.val h; have h2 : (y 0).val = 2 := hh; omega)]; refine e1.trans ?_
    rw [if_neg (fun hh => by have h1 : (y 0).val = 0 := congrArg Fin.val h; have h2 : (y 0).val = 1 := hh; omega)]; refine e0.trans ?_
    rw [if_pos (congrArg Fin.val h), h]
  · rw [if_neg (fun hh => by have h1 : (y 0).val = 1 := congrArg Fin.val h; have h2 : (y 0).val = 2 := hh; omega)]; refine e1.trans ?_
    rw [if_pos (congrArg Fin.val h), h]
  · rw [if_pos (congrArg Fin.val h), h]

theorem window_rows {α : Type} {A B : ℕ} (w : Fin 3 → (⟨3, ![1, A, B]⟩ : Shape).Idx → α) (j : Fin 3) (inb) :
    VecWindow.window (rows w) ![j.val, 0, 0] ![1, A, B] inb = w j := by
  funext y
  have h0 : (y 0).val < 1 := (y 0).isLt
  have hj : (Rect.unit (s := ⟨3, ![3, A, B]⟩) ![j.val, 0, 0] ![1, A, B] inb).emb y 0 = j := Fin.ext (by show j.val + 1 * (y 0).val = j.val; omega)
  show w ((Rect.unit (s := ⟨3, ![3, A, B]⟩) ![j.val, 0, 0] ![1, A, B] inb).emb y 0) _ = w j y
  rw [hj]
  refine congrArg (w j) (funext fun a => Fin.ext ?_)
  fin_cases a
  · show 0 = (y 0).val; omega
  · show 0 + 1 * (y 1).val = (y 1).val; omega
  · show 0 + 1 * (y 2).val = (y 2).val; omega

theorem rows_windows {α : Type} {A B : ℕ} (d : (⟨3, ![3, A, B]⟩ : Shape).Idx → α) (i0 i1 i2) :
    rows (fun j : Fin 3 => match j with
      | 0 => VecWindow.window d ![0, 0, 0] ![1, A, B] i0
      | 1 => VecWindow.window d ![1, 0, 0] ![1, A, B] i1
      | 2 => VecWindow.window d ![2, 0, 0] ![1, A, B] i2) = d := by
  funext y
  have hc : ∀ j : Fin 3, j = 0 ∨ j = 1 ∨ j = 2 := by decide
  have hy := hc (y 0)
  unfold rows
  rcases hy with h | h | h
  all_goals
    rw [h]
    refine congrArg d (funext fun a => Fin.ext ?_)
    have hv := congrArg Fin.val h
    fin_cases a
    · exact hv.symm
    · show 0 + 1 * (y 1).val = (y 1).val; omega
    · show 0 + 1 * (y 2).val = (y 2).val; omega

theorem put3s {α : Type} (d : (⟨1, ![3]⟩ : Shape).Idx → α) (w : Fin 3 → α) :
    VecWindow.put (VecWindow.put (VecWindow.put d ![0] ![1] (fun _ => w 0)) ![1] ![1] (fun _ => w 1)) ![2] ![1] (fun _ => w 2) = fun y => w (y 0) := by
  funext y
  have hc : ∀ j : Fin 3, j = 0 ∨ j = 1 ∨ j = 2 := by decide
  have hy := hc (y 0)
  have hn : ∀ (x : (⟨1, ![3]⟩ : Shape).Idx → α) (j : Fin 3) (v : α), VecWindow.put x ![j.val] ![1] (fun _ => v) y = if (y 0).val = j.val then v else x y := by
    intro x j v
    unfold VecWindow.put
    by_cases h : (y 0).val = j.val
    · rw [if_pos h, dif_pos]
      intro a
      fin_cases a
      show j.val ≤ (y 0).val ∧ (y 0).val < j.val + 1
      have : (y 0).val = j.val := h
      omega
    · rw [if_neg h, dif_neg]
      intro hh
      have h0 : j.val ≤ (y 0).val ∧ (y 0).val < j.val + 1 := hh 0
      exact h (by omega)
  refine (hn _ 2 _).trans ?_
  rcases hy with h | h | h
  · rw [if_neg (fun hh => by have h1 : (y 0).val = 0 := congrArg Fin.val h; have h2 : (y 0).val = 2 := hh; omega)]; refine (hn _ 1 _).trans ?_
    rw [if_neg (fun hh => by have h1 : (y 0).val = 0 := congrArg Fin.val h; have h2 : (y 0).val = 1 := hh; omega)]; refine (hn _ 0 _).trans ?_
    rw [if_pos (congrArg Fin.val h), h]
  · rw [if_neg (fun hh => by have h1 : (y 0).val = 1 := congrArg Fin.val h; have h2 : (y 0).val = 2 := hh; omega)]; refine (hn _ 1 _).trans ?_
    rw [if_pos (congrArg Fin.val h), h]
  · rw [if_pos (congrArg Fin.val h), h]

/-! ## The slots through the grid -/

/-- Slot `n % 2` at rest. -/
def freeS (c : Dev nD) (A : Buf (Elt F) (l8 c)) (B : Buf (Elt F) (l10 c)) (n : ℕ) : sProp 𝕄 :=
  iprop(free1 c A n 0 ∗ free1 c A n 1 ∗ free2 c B n 0 ∗ free2 c B n 1)
/-- Expert `e` in flight to slot `n % 2`. -/
def flyS (c : Dev nD) (A : Buf (Elt F) (l8 c)) (B : Buf (Elt F) (l10 c)) (n : ℕ) (e : Fin 8) : sProp 𝕄 :=
  iprop(lane1 c A n 0 e ∗ lane1 c A n 1 e ∗ lane2 c B n 0 e ∗ lane2 c B n 1 e)
/-- The slot of point `n` before that point: its expert in flight, and at rest past the last point. -/
def slotN (c : Dev nD) (A : Buf (Elt F) (l8 c)) (B : Buf (Elt F) (l10 c)) (n : ℕ) : sProp 𝕄 :=
  if h : n < 8 then flyS c A B n ⟨n, h⟩ else freeS c A B n

/-- The expert of a grid point. -/
def te (t : Fin grid0.N) : Fin 8 := ⟨t.val, N_0 ▸ t.isLt⟩

/-- What the step's part before the second half of the weights is needed leaves. -/
def mid13 (c : Dev nD) (A : Buf (Elt F) (l8 c)) (B : Buf (Elt F) (l10 c)) (t : Fin grid0.N) : sProp 𝕄 :=
  iprop(done1 c A t.val 0 (te t) ∗ lane1 c A t.val 1 (te t) ∗ lane2 c B t.val 0 (te t) ∗ lane2 c B t.val 1 (te t))

/-- The value the first part of a step returns. -/
def ret13 (c : Dev nD) (A : Buf (Elt F) (l8 c)) (t : Fin grid0.N) (p : Vec F S256x768 .bf16) (x9 : Vec F S1x1x1024 .f32) :
    Σ' (_ : BitVec 32) (_ : BitVec 32) (_ : Vec F S256x768 .bf16) (_ : FVec F S256x512 .f32), FVec F S1x1024 .f32 :=
  ⟨BitVec.ofNat 32 ((grid0.coords t) 0).val, Scalar.remsi (BitVec.ofNat 32 ((grid0.coords t) 0).val) 2#32, p, k0_pay67 p (R1 c A (te t)), k0_pay68 x9⟩

theorem c1_neg (t : Fin grid0.N) (h : 0 < t.val) : ¬ (Scalar.cmpi .ne (Scalar.extui (Scalar.cmpi .eq (BitVec.ofNat 32 ((grid0.coords t) 0).val) 0#32) : BitVec 32) 0#32 = 1#1) :=
  fun hh => by have := (cond1_iff t).1 hh; omega

/-! ## What the first step computes -/

section Prologue
variable (x1 : Vec F S256x768 .f32) (x3 : Vec F S768x768 .f32) (x4 : Vec F S1x768 .f32) (x5 : Vec F S768x768 .f32) (x6 : Vec F S1x768 .f32) (x7 : Vec F S768x24 .f32)

def g194 : IVec S256x8 32 := iota .tc S256x8 32 [1] iota_S256x8_d1_w32
def g193 : FVec F S256x24 .f32 := k0_pay4 x1 x3 x4 x5 x6 x7
def g195 : FVec F S256x8 .f32 := k0_pay5 x1 x3 x4 x5 x6 x7
def g197 : FVec F S256x1 .f32 := k0_pay6 x1 x3 x4 x5 x6 x7
def g203 : IVec S256x1 32 := k0_pay7 x1 x3 x4 x5 x6 x7
def g204 : IVec S256x8 32 := k0_pay8 x1 x3 x4 x5 x6 x7
def g286 : FVec F S256x8 .f32 := k0_pay22 (g193 x1 x3 x4 x5 x6 x7)
def g288 : FVec F S256x1 .f32 := k0_pay23 (g193 x1 x3 x4 x5 x6 x7)
def g290 : IVec S256x8 1 := k0_pay24 (g193 x1 x3 x4 x5 x6 x7)
def g377 : FVec F S256x8 .f32 := k0_pay38 (g193 x1 x3 x4 x5 x6 x7)
def g378 : FVec F S256 .f32 := k0_pay39 (g193 x1 x3 x4 x5 x6 x7)

/-- The first network's output, as the step keeps it. -/
def vP : Vec F S256x768 .bf16 := k0_pay3 x1 x3 x4 x5 x6
/-- The two experts each task takes. -/
def vGI : Fin 3 → Vec F S1x256x2 .i32
  | 0 => k0_pay17 g194 (g195 x1 x3 x4 x5 x6 x7) (g203 x1 x3 x4 x5 x6 x7) (g204 x1 x3 x4 x5 x6 x7)
  | 1 => k0_pay35 g194 (g286 x1 x3 x4 x5 x6 x7) (g290 x1 x3 x4 x5 x6 x7) k0_pay25
  | 2 => k0_pay50 g194 (g377 x1 x3 x4 x5 x6 x7) (g378 x1 x3 x4 x5 x6 x7)
/-- Their gates. -/
def vGV : Fin 3 → Vec F S1x256x2 .f32
  | 0 => k0_pay18 g194 (g195 x1 x3 x4 x5 x6 x7) (g197 x1 x3 x4 x5 x6 x7) (g204 x1 x3 x4 x5 x6 x7)
  | 1 => k0_pay36 g194 (g286 x1 x3 x4 x5 x6 x7) (g288 x1 x3 x4 x5 x6 x7) (g290 x1 x3 x4 x5 x6 x7) k0_pay25
  | 2 => k0_pay52 (k0_pay51 g194 (g377 x1 x3 x4 x5 x6 x7) (g378 x1 x3 x4 x5 x6 x7))
/-- The load-balance terms. -/
def vAUX : Fin 3 → Elt F .f32
  | 0 => k0_pay21 (k0_pay16 g194 (g195 x1 x3 x4 x5 x6 x7) (g197 x1 x3 x4 x5 x6 x7) (g203 x1 x3 x4 x5 x6 x7) (g204 x1 x3 x4 x5 x6 x7))
      (k0_pay19 g194 (g195 x1 x3 x4 x5 x6 x7) (g197 x1 x3 x4 x5 x6 x7) (g203 x1 x3 x4 x5 x6 x7) (g204 x1 x3 x4 x5 x6 x7)) k0_pay20
  | 1 => k0_pay37 (k0_pay34 g194 (g286 x1 x3 x4 x5 x6 x7) (g288 x1 x3 x4 x5 x6 x7) (g290 x1 x3 x4 x5 x6 x7) k0_pay25)
  | 2 => k0_pay53 (k0_pay49 g194 (g377 x1 x3 x4 x5 x6 x7) (g378 x1 x3 x4 x5 x6 x7))
end Prologue

/-- The first expert's weights start. -/
theorem part1_triple (A : Buf (Elt F) (l8 c)) (B : Buf (Elt F) (l10 c)) (i : grid0.Coords) (Q : PUnit → sProp 𝕄) :
    iprop(free1 c A 0 0 ∗ free1 c A 0 1 ∗ free2 c B 0 0 ∗ free2 c B 0 1
      ∗ ((lane1 c A 0 0 0 ∗ lane1 c A 0 1 0 ∗ lane2 c B 0 0 0 ∗ lane2 c B 0 1 0) -∗ Q ⟨⟩)) ⊢
    wp frame (wpE (defs₀ (F := F)) Variants.none c none) Set.univ (k0_part1 i arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  rw [k0_part1_eq_skeleton]; unfold k0_part1_skel
  simp only [Prog.bind_lift]
  iintro ⟨H0, H1, H2, H3, Hk⟩
  iapply (issue1 c 0 0 0 rfl rfl rfl) $$ H0
  iintro H0
  iapply (issue1 c 0 1 0 rfl rfl rfl) $$ H1
  iintro H1
  iapply (issue2 c 0 0 0 rfl rfl rfl) $$ H2
  iintro H2
  iapply (issue2 c 0 1 0 rfl rfl rfl) $$ H3
  iintro H3
  rw [wp_pure]
  imodintro
  iapply Hk
  isplitl [H0]; · iexact H0
  isplitl [H1]; · iexact H1
  isplitl [H2]; · iexact H2
  iexact H3

theorem lanes_zero (A : Buf (Elt F) (l8 c)) (B : Buf (Elt F) (l10 c)) (t : Fin grid0.N) (ht : t.val = 0) :
    iprop(lane1 c A 0 0 (te t) ∗ lane1 c A 0 1 (te t) ∗ lane2 c B 0 0 (te t) ∗ lane2 c B 0 1 (te t))
      ⊢ iprop(lane1 c A t.val 0 (te t) ∗ lane1 c A t.val 1 (te t) ∗ lane2 c B t.val 0 (te t) ∗ lane2 c B t.val 1 (te t)) := by
  rw [ht]

/-- The first part of step 7. -/
theorem part13_3 (A : Buf (Elt F) (l8 c)) (B : Buf (Elt F) (l10 c)) (t : Fin grid0.N) (ht : t.val = 7) (W : Waits sig Unit) (x9 : Vec F S1x1x1024 .f32) (d17 : Vec F S256x768 .bf16) (Q : _ → sProp 𝕄) :
    iprop(flyS c A B t.val (te t) ∗ freeS c A B (t.val + 1) ∗ owes (c : Thread nD τ) 0 W ∗ holds c arg9 x9 ∗ holds c sc17 d17
      ∗ (∀ W', (mid13 c A B t ∗ slotN c A B (t.val + 1) ∗ holds c arg9 x9 ∗ holds c sc17 d17 ∗ owes (c : Thread nD τ) 0 W') -∗ Q (ret13 c A t d17 x9))) ⊢
    wp frame (wpE (defs₀ (F := F)) Variants.none c none) Set.univ (k0_part13 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  have h0 : 0 < t.val := by omega
  have h3 : ¬ t.val < 3 := by omega
  have h4 : ¬ t.val < 7 := by omega
  have c1 := c1_neg t h0
  have c3 : ¬ k0_cond3 (grid0.coords t) = 1#1 := fun hh => h3 ((cond3_iff t).1 hh)
  have c4 : ¬ k0_cond4 (grid0.coords t) = 1#1 := fun hh => h4 ((cond4_iff t).1 hh)
  rw [k0_part13_eq_skeleton]; unfold k0_part13_skel
  simp only [dif_neg c1, dif_neg c3, dif_neg c4, Prog.bind_lift, Prog.bind_op, pure_bind, bind_assoc]
  have hs : slotN c A B (t.val + 1) = freeS c A B (t.val + 1) := dif_neg (by omega)
  rw [hs]
  unfold freeS mid13 ret13
  try unfold flyS
  iintro ⟨⟨L0, L1, L2, L3⟩, ⟨F0, F1, F2, F3⟩, HO, X9, D17, Hk⟩
  iapply (loadH c) $$ D17
  iintro D17
  iapply (wait1 c t.val 0 (te t) (off14_eq t)) $$ [L0 HO]
  · isplitl [L0]; · iexact L0
    iexact HO
  iintro %W' ⟨L0, HO⟩
  iapply (racyLoad1 c t.val (te t) (off17_eq t)) $$ [L0 L1]
  · isplitl [L0]; · iexact L0
    iexact L1
  iintro %v %hv ⟨L0, L1⟩
  iapply (loadH c) $$ X9
  iintro X9
  rw [wp_pure]
  imodintro
  rw [pay67_congr _ v _ hv]
  ispecialize Hk $$ %W'
  simp only [wf2, wf3, pf2, pf3]
  iapply Hk
  isplitl [L0 L1 L2 L3]
  · isplitl [L0]; · iexact L0
    isplitl [L1]; · iexact L1
    isplitl [L2]; · iexact L2
    iexact L3
  isplitl [F0 F1 F2 F3]
  · isplitl [F0]; · iexact F0
    isplitl [F1]; · iexact F1
    isplitl [F2]; · iexact F2
    iexact F3
  isplitl [X9]; · iexact X9
  isplitl [D17]; · iexact D17
  iexact HO

/-- The first part of step 3 to 6. -/
theorem part13_2 (A : Buf (Elt F) (l8 c)) (B : Buf (Elt F) (l10 c)) (t : Fin grid0.N) (h0 : 0 < t.val) (h3 : ¬ t.val < 3) (h4 : t.val < 7) (W : Waits sig Unit) (x9 : Vec F S1x1x1024 .f32) (d17 : Vec F S256x768 .bf16) (Q : _ → sProp 𝕄) :
    iprop(flyS c A B t.val (te t) ∗ freeS c A B (t.val + 1) ∗ owes (c : Thread nD τ) 0 W ∗ holds c arg9 x9 ∗ holds c sc17 d17
      ∗ (∀ W', (mid13 c A B t ∗ slotN c A B (t.val + 1) ∗ holds c arg9 x9 ∗ holds c sc17 d17 ∗ owes (c : Thread nD τ) 0 W') -∗ Q (ret13 c A t d17 x9))) ⊢
    wp frame (wpE (defs₀ (F := F)) Variants.none c none) Set.univ (k0_part13 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  have c1 := c1_neg t h0
  have c3 : ¬ k0_cond3 (grid0.coords t) = 1#1 := fun hh => h3 ((cond3_iff t).1 hh)
  have c4 : k0_cond4 (grid0.coords t) = 1#1 := (cond4_iff t).2 h4
  rw [k0_part13_eq_skeleton]; unfold k0_part13_skel
  simp only [dif_neg c1, dif_neg c3, dif_pos c4, Prog.bind_lift, Prog.bind_op, pure_bind, bind_assoc]
  have hs : slotN c A B (t.val + 1) = flyS c A B (t.val + 1) ⟨t.val + 1, by omega⟩ := dif_pos _
  rw [hs]
  unfold freeS mid13 ret13
  try unfold flyS
  iintro ⟨⟨L0, L1, L2, L3⟩, ⟨F0, F1, F2, F3⟩, HO, X9, D17, Hk⟩
  iapply (issue1 c (t.val + 1) 0 ⟨t.val + 1, by omega⟩ (off3_eq t h4) (off4_eq t h4) (off2_eq t h4)) $$ F0
  iintro F0
  iapply (issue1 c (t.val + 1) 1 ⟨t.val + 1, by omega⟩ (off6_eq t h4) (off7_eq t h4) (off5_eq t h4)) $$ F1
  iintro F1
  iapply (issue2 c (t.val + 1) 0 ⟨t.val + 1, by omega⟩ (off9_eq t h4) (off10_eq t h4) (off8_eq t h4)) $$ F2
  iintro F2
  iapply (issue2 c (t.val + 1) 1 ⟨t.val + 1, by omega⟩ (off12_eq t h4) (off13_eq t h4) (off11_eq t h4)) $$ F3
  iintro F3
  iapply (loadH c) $$ D17
  iintro D17
  iapply (wait1 c t.val 0 (te t) (off14_eq t)) $$ [L0 HO]
  · isplitl [L0]; · iexact L0
    iexact HO
  iintro %W' ⟨L0, HO⟩
  iapply (racyLoad1 c t.val (te t) (off17_eq t)) $$ [L0 L1]
  · isplitl [L0]; · iexact L0
    iexact L1
  iintro %v %hv ⟨L0, L1⟩
  iapply (loadH c) $$ X9
  iintro X9
  rw [wp_pure]
  imodintro
  rw [pay67_congr _ v _ hv]
  ispecialize Hk $$ %W'
  simp only [wf2, wf3, pf2, pf3]
  iapply Hk
  isplitl [L0 L1 L2 L3]
  · isplitl [L0]; · iexact L0
    isplitl [L1]; · iexact L1
    isplitl [L2]; · iexact L2
    iexact L3
  isplitl [F0 F1 F2 F3]
  · isplitl [F0]; · iexact F0
    isplitl [F1]; · iexact F1
    isplitl [F2]; · iexact F2
    iexact F3
  isplitl [X9]; · iexact X9
  isplitl [D17]; · iexact D17
  iexact HO

/-- The first part of step 1 or 2. -/
theorem part13_1 (A : Buf (Elt F) (l8 c)) (B : Buf (Elt F) (l10 c)) (t : Fin grid0.N) (h0 : 0 < t.val) (h3 : t.val < 3) (W : Waits sig Unit) (x9 : Vec F S1x1x1024 .f32) (x12 : Vec F S1x768x512 .f32) (d17 : Vec F S256x768 .bf16) (d22 : Vec F S3x768x512 .f32) (Q : _ → sProp 𝕄) :
    iprop(flyS c A B t.val (te t) ∗ freeS c A B (t.val + 1) ∗ owes (c : Thread nD τ) 0 W ∗ holds c arg9 x9 ∗ holds c arg12 x12 ∗ holds c sc17 d17 ∗ holds c sc22 d22
      ∗ (∀ W', (mid13 c A B t ∗ slotN c A B (t.val + 1) ∗ holds c arg9 x9 ∗ holds c arg12 x12 ∗ holds c sc17 d17 ∗ holds c sc22 (VecWindow.put d22 ![t.val, 0, 0] S1x768x512.size (k0_pay66 x12)) ∗ owes (c : Thread nD τ) 0 W') -∗ Q (ret13 c A t d17 x9))) ⊢
    wp frame (wpE (defs₀ (F := F)) Variants.none c none) Set.univ (k0_part13 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  have h4 : t.val < 7 := by omega
  have c1 := c1_neg t h0
  have c3 : k0_cond3 (grid0.coords t) = 1#1 := (cond3_iff t).2 h3
  have c4 : k0_cond4 (grid0.coords t) = 1#1 := (cond4_iff t).2 h4
  rw [k0_part13_eq_skeleton]; unfold k0_part13_skel
  simp only [dif_neg c1, dif_pos c3, dif_pos c4, Prog.bind_lift, Prog.bind_op, pure_bind, bind_assoc]
  have hs : slotN c A B (t.val + 1) = flyS c A B (t.val + 1) ⟨t.val + 1, by omega⟩ := dif_pos _
  rw [hs]
  unfold freeS mid13 ret13
  try unfold flyS
  iintro ⟨⟨L0, L1, L2, L3⟩, ⟨F0, F1, F2, F3⟩, HO, X9, X12, D17, D22, Hk⟩
  iapply (loadH c) $$ X12
  iintro X12
  iapply (loadH c) $$ D22
  iintro D22
  iapply (storeH c) $$ D22
  iintro D22
  iapply (issue1 c (t.val + 1) 0 ⟨t.val + 1, by omega⟩ (off3_eq t h4) (off4_eq t h4) (off2_eq t h4)) $$ F0
  iintro F0
  iapply (issue1 c (t.val + 1) 1 ⟨t.val + 1, by omega⟩ (off6_eq t h4) (off7_eq t h4) (off5_eq t h4)) $$ F1
  iintro F1
  iapply (issue2 c (t.val + 1) 0 ⟨t.val + 1, by omega⟩ (off9_eq t h4) (off10_eq t h4) (off8_eq t h4)) $$ F2
  iintro F2
  iapply (issue2 c (t.val + 1) 1 ⟨t.val + 1, by omega⟩ (off12_eq t h4) (off13_eq t h4) (off11_eq t h4)) $$ F3
  iintro F3
  iapply (loadH c) $$ D17
  iintro D17
  iapply (wait1 c t.val 0 (te t) (off14_eq t)) $$ [L0 HO]
  · isplitl [L0]; · iexact L0
    iexact HO
  iintro %W' ⟨L0, HO⟩
  iapply (racyLoad1 c t.val (te t) (off17_eq t)) $$ [L0 L1]
  · isplitl [L0]; · iexact L0
    iexact L1
  iintro %v %hv ⟨L0, L1⟩
  iapply (loadH c) $$ X9
  iintro X9
  rw [wp_pure]
  imodintro
  rw [pay67_congr _ v _ hv]
  ispecialize Hk $$ %W'
  simp only [wf2, wf3, pf2, pf3]
  rw [off1_eq t h3]
  iapply Hk
  isplitl [L0 L1 L2 L3]
  · isplitl [L0]; · iexact L0
    isplitl [L1]; · iexact L1
    isplitl [L2]; · iexact L2
    iexact L3
  isplitl [F0 F1 F2 F3]
  · isplitl [F0]; · iexact F0
    isplitl [F1]; · iexact F1
    isplitl [F2]; · iexact F2
    iexact F3
  isplitl [X9]; · iexact X9
  isplitl [X12]; · iexact X12
  isplitl [D17]; · iexact D17
  isplitl [D22]; · iexact D22
  iexact HO

/-- The first part of step 0. -/
theorem part13_0 (A : Buf (Elt F) (l8 c)) (B : Buf (Elt F) (l10 c)) (t : Fin grid0.N) (ht : t.val = 0) (W : Waits sig Unit) (x1 : Vec F S256x768 .f32) (x3 : Vec F S768x768 .f32) (x4 : Vec F S1x768 .f32) (x5 : Vec F S768x768 .f32) (x6 : Vec F S1x768 .f32) (x7 : Vec F S768x24 .f32) (x9 : Vec F S1x1x1024 .f32) (x12 : Vec F S1x768x512 .f32) (d17 : Vec F S256x768 .bf16) (d18 : Vec F S3x256x2 .i32) (d19 : Vec F S3x256x2 .f32) (d20 : Vec F S3 .f32) (d21 : Vec F S3x256x768 .bf16) (d22 : Vec F S3x768x512 .f32) (Q : _ → sProp 𝕄) :
    iprop(freeS c A B 0 ∗ freeS c A B (t.val + 1) ∗ owes (c : Thread nD τ) 0 W ∗ holds c arg1 x1 ∗ holds c arg3 x3 ∗ holds c arg4 x4 ∗ holds c arg5 x5 ∗ holds c arg6 x6 ∗ holds c arg7 x7 ∗ holds c arg9 x9 ∗ holds c arg12 x12 ∗ holds c sc17 d17 ∗ holds c sc18 d18 ∗ holds c sc19 d19 ∗ holds c sc20 d20 ∗ holds c sc21 d21 ∗ holds c sc22 d22
      ∗ (∀ W', (mid13 c A B t ∗ slotN c A B (t.val + 1) ∗ holds c arg1 x1 ∗ holds c arg3 x3 ∗ holds c arg4 x4 ∗ holds c arg5 x5 ∗ holds c arg6 x6 ∗ holds c arg7 x7 ∗ holds c arg9 x9 ∗ holds c arg12 x12 ∗ holds c sc17 (vP x1 x3 x4 x5 x6) ∗ holds c sc18 (rows (vGI x1 x3 x4 x5 x6 x7)) ∗ holds c sc19 (rows (vGV x1 x3 x4 x5 x6 x7)) ∗ holds c sc20 (fun y => vAUX x1 x3 x4 x5 x6 x7 (y 0)) ∗ holds c sc21 k0_pay65 ∗ holds c sc22 (VecWindow.put d22 ![t.val, 0, 0] S1x768x512.size (k0_pay66 x12)) ∗ owes (c : Thread nD τ) 0 W') -∗ Q (ret13 c A t (vP x1 x3 x4 x5 x6) x9))) ⊢
    wp frame (wpE (defs₀ (F := F)) Variants.none c none) Set.univ (k0_part13 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  have h3 : t.val < 3 := by omega
  have h4 : t.val < 7 := by omega
  have c1 := (cond1_iff t).2 ht
  have c3 : k0_cond3 (grid0.coords t) = 1#1 := (cond3_iff t).2 h3
  have c4 : k0_cond4 (grid0.coords t) = 1#1 := (cond4_iff t).2 h4
  rw [k0_part13_eq_skeleton]; unfold k0_part13_skel
  simp only [dif_pos c1, dif_pos c3, dif_pos c4, Prog.bind_lift, Prog.bind_op, pure_bind, bind_assoc, smemLoad, smemLoadElt]
  have hs : slotN c A B (t.val + 1) = flyS c A B (t.val + 1) ⟨t.val + 1, by omega⟩ := dif_pos _
  have he : te t = 0 := Fin.ext ht
  rw [hs]
  unfold freeS mid13 ret13
  try unfold flyS
  iintro ⟨⟨L0, L1, L2, L3⟩, ⟨F0, F1, F2, F3⟩, HO, X1, X3, X4, X5, X6, X7, X9, X12, D17, D18, D19, D20, D21, D22, Hk⟩
  rw [wp_bind]
  iapply (part1_triple (F := F) arg1 harg1 arg2 harg2 arg3 harg3 arg4 harg4 arg5 harg5 arg6 harg6 arg7 harg7 arg9 harg9 arg11 harg11 arg12 harg12 arg13 harg13 arg14 harg14 arg15 harg15 arg16 harg16 c A B)
  isplitl [L0]; · iexact L0
  isplitl [L1]; · iexact L1
  isplitl [L2]; · iexact L2
  isplitl [L3]; · iexact L3
  iintro ⟨L0, L1, L2, L3⟩
  rw [wp_bind]
  iapply (part2_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [X1]; · iexact X1
  isplitl [X3]; · iexact X3
  isplitl [X4]; · iexact X4
  isplitl [X5]; · iexact X5
  isplitl [X6]; · iexact X6
  isplitl [X7]; · iexact X7
  isplitl [D17]; · iexact D17
  iintro ⟨X1, X3, X4, X5, X6, X7, D17⟩
  rw [wp_bind]
  iapply (part3_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D18]; · iexact D18
  isplitl [D19]; · iexact D19
  iintro ⟨D18, D19⟩
  rw [wp_bind]
  iapply (part4_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D20]; · iexact D20
  iintro D20
  rw [wp_bind]
  iapply (part5_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D18]; · iexact D18
  isplitl [D19]; · iexact D19
  iintro ⟨D18, D19⟩
  rw [wp_bind]
  iapply (part6_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D20]; · iexact D20
  iintro D20
  rw [wp_bind]
  iapply (part7_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D18]; · iexact D18
  iintro D18
  rw [wp_bind]
  iapply (part8_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D19]; · iexact D19
  iintro D19
  iapply (loadH c) $$ D20
  iintro D20
  iapply (storeH c) $$ D20
  iintro D20
  iapply (loadH c) $$ D21
  iintro D21
  iapply (storeH c) $$ D21
  iintro D21
  iapply (loadH c) $$ X12
  iintro X12
  iapply (loadH c) $$ D22
  iintro D22
  iapply (storeH c) $$ D22
  iintro D22
  iapply (issue1 c (t.val + 1) 0 ⟨t.val + 1, by omega⟩ (off3_eq t h4) (off4_eq t h4) (off2_eq t h4)) $$ F0
  iintro F0
  iapply (issue1 c (t.val + 1) 1 ⟨t.val + 1, by omega⟩ (off6_eq t h4) (off7_eq t h4) (off5_eq t h4)) $$ F1
  iintro F1
  iapply (issue2 c (t.val + 1) 0 ⟨t.val + 1, by omega⟩ (off9_eq t h4) (off10_eq t h4) (off8_eq t h4)) $$ F2
  iintro F2
  iapply (issue2 c (t.val + 1) 1 ⟨t.val + 1, by omega⟩ (off12_eq t h4) (off13_eq t h4) (off11_eq t h4)) $$ F3
  iintro F3
  iapply (loadH c) $$ D17
  iintro D17
  rw [← he]
  ihave L := lanes_zero c A B t ht $$ [L0 L1 L2 L3]
  · isplitl [L0]; · iexact L0
    isplitl [L1]; · iexact L1
    isplitl [L2]; · iexact L2
    iexact L3
  icases L with ⟨L0, L1, L2, L3⟩
  iapply (wait1 c t.val 0 (te t) (off14_eq t)) $$ [L0 HO]
  · isplitl [L0]; · iexact L0
    iexact HO
  iintro %W' ⟨L0, HO⟩
  iapply (racyLoad1 c t.val (te t) (off17_eq t)) $$ [L0 L1]
  · isplitl [L0]; · iexact L0
    iexact L1
  iintro %v %hv ⟨L0, L1⟩
  iapply (loadH c) $$ X9
  iintro X9
  rw [wp_pure]
  imodintro
  rw [pay67_congr _ v _ hv]
  ispecialize Hk $$ %W'
  simp only [wf2, wf3, pf2, pf3]
  have e18 := put3 d18 (vGI x1 x3 x4 x5 x6 x7)
  have e19 := put3 d19 (vGV x1 x3 x4 x5 x6 x7)
  have e20 := put3s d20 (vAUX x1 x3 x4 x5 x6 x7)
  rw [show k0_pay3 x1 x3 x4 x5 x6 = vP x1 x3 x4 x5 x6 from rfl]
  rw [off1_eq t h3]
  iapply Hk
  isplitl [L0 L1 L2 L3]
  · isplitl [L0]; · iexact L0
    isplitl [L1]; · iexact L1
    isplitl [L2]; · iexact L2
    iexact L3
  isplitl [F0 F1 F2 F3]
  · isplitl [F0]; · iexact F0
    isplitl [F1]; · iexact F1
    isplitl [F2]; · iexact F2
    iexact F3
  isplitl [X1]; · iexact X1
  isplitl [X3]; · iexact X3
  isplitl [X4]; · iexact X4
  isplitl [X5]; · iexact X5
  isplitl [X6]; · iexact X6
  isplitl [X7]; · iexact X7
  isplitl [X9]; · iexact X9
  isplitl [X12]; · iexact X12
  isplitl [D17]; · iexact D17
  isplitl [D18]; · rw [← e18]; iexact D18
  isplitl [D19]; · rw [← e19]; iexact D19
  isplitl [D20]; · rw [← e20]; iexact D20
  isplitl [D21]; · iexact D21
  isplitl [D22]; · iexact D22
  iexact HO

end Cert.KernelIdeal.Hand

end
-- ==== Proof.KernelIdeal.Body.lean ====
module

public import proofs.«01_k».proof.Proof.Gen.KernelIdeal.Frame
public import proofs.«01_k».proof.Proof.Gen.KernelIdeal.Skeleton
public import proofs.«01_k».proof.Proof.KernelIdeal.P13

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (arg1 : Memref sig .tc .vmem S256x768 .f32) (harg1 : arg1.IsWhole)
variable (arg2 : Memref sig .tc .vmem S3x16x16 .f32) (harg2 : arg2.IsWhole)
variable (arg3 : Memref sig .tc .vmem S768x768 .f32) (harg3 : arg3.IsWhole)
variable (arg4 : Memref sig .tc .vmem S1x768 .f32) (harg4 : arg4.IsWhole)
variable (arg5 : Memref sig .tc .vmem S768x768 .f32) (harg5 : arg5.IsWhole)
variable (arg6 : Memref sig .tc .vmem S1x768 .f32) (harg6 : arg6.IsWhole)
variable (arg7 : Memref sig .tc .vmem S768x24 .f32) (harg7 : arg7.IsWhole)
variable (arg9 : Memref sig .tc .vmem S1x1x1024 .f32) (harg9 : arg9.IsWhole)
variable (arg11 : Memref sig .tc .vmem S1x1x768 .f32) (harg11 : arg11.IsWhole)
variable (arg12 : Memref sig .tc .vmem S1x768x512 .f32) (harg12 : arg12.IsWhole)
variable (arg13 : Memref sig .tc .vmem S3x512 .f32) (harg13 : arg13.IsWhole)
variable (arg14 : Memref sig .tc .vmem S512x3 .f32) (harg14 : arg14.IsWhole)
variable (arg15 : Memref sig .tc .vmem S1x3 .f32) (harg15 : arg15.IsWhole)
variable (arg16 : Memref sig .tc .vmem S1x1 .f32) (harg16 : arg16.IsWhole)
variable (c : Dev nD)

theorem window_put_other {α : Type} {A B : ℕ} (d : (⟨3, ![3, A, B]⟩ : Shape).Idx → α) (j k : Fin 3) (hjk : k ≠ j) (w : (⟨3, ![1, A, B]⟩ : Shape).Idx → α) (inb) :
    VecWindow.window (VecWindow.put d ![j.val, 0, 0] ![1, A, B] w) ![k.val, 0, 0] ![1, A, B] inb = VecWindow.window d ![k.val, 0, 0] ![1, A, B] inb := by
  funext y
  have h0 : (y 0).val < 1 := (y 0).isLt
  refine (put_row d j w _).trans (if_neg fun hh => hjk (Fin.ext ?_))
  have : k.val + 1 * (y 0).val = j.val := hh
  omega

section Step
variable (a : BitVec 32) (p : Vec F S256x768 .bf16) (w1 : Vec F S1x768x1024 .f32) (x9 : Vec F S1x1x1024 .f32) (w2 : Vec F S1x1024x768 .f32) (x11 : Vec F S1x1x768 .f32)
  (gi : Vec F S3x256x2 .i32) (gv : Vec F S3x256x2 .f32) (Y : Vec F S3x256x768 .bf16)

/-- One expert's output. -/
def vEO : FVec F S256x768 .bf16 := k0_pay71 (k0_pay69 p w1 x9) (k0_pay70 (k0_pay67 p w1) (k0_pay68 x9) w2) w2 x11
/-- The three running mixtures after one expert has been added. -/
def vRow : Fin 3 → Vec F S1x256x768 .bf16
  | 0 => k0_pay76 (vEO p w1 x9 w2 x11) (k0_pay72 a (VecWindow.window gi ![0, 0, 0] S1x256x1.size inb_S3x256x2_S1x256x1_0_0_0) (VecWindow.window gv ![0, 0, 0] S1x256x1.size inb_S3x256x2_S1x256x1_0_0_0)) (k0_pay73 a (VecWindow.window gi ![0, 0, 1] S1x256x1.size inb_S3x256x2_S1x256x1_0_0_1)) (k0_pay74 (VecWindow.window gv ![0, 0, 1] S1x256x1.size inb_S3x256x2_S1x256x1_0_0_1)) (k0_pay75 (F := F)) (VecWindow.window Y ![0, 0, 0] S1x256x768.size inb_S3x256x768_S1x256x768_0_0_0)
  | 1 => k0_pay78 (k0_pay77 a (vEO p w1 x9 w2 x11) (VecWindow.window gi ![1, 0, 0] S1x256x1.size inb_S3x256x2_S1x256x1_1_0_0) (VecWindow.window gv ![1, 0, 0] S1x256x1.size inb_S3x256x2_S1x256x1_1_0_0) (VecWindow.window gi ![1, 0, 1] S1x256x1.size inb_S3x256x2_S1x256x1_1_0_1) (VecWindow.window gv ![1, 0, 1] S1x256x1.size inb_S3x256x2_S1x256x1_1_0_1) (VecWindow.window Y ![1, 0, 0] S1x256x768.size inb_S3x256x768_S1x256x768_1_0_0))
  | 2 => k0_pay79 a (vEO p w1 x9 w2 x11) (VecWindow.window gi ![2, 0, 0] S1x256x1.size inb_S3x256x2_S1x256x1_2_0_0) (VecWindow.window gv ![2, 0, 0] S1x256x1.size inb_S3x256x2_S1x256x1_2_0_0) (VecWindow.window gi ![2, 0, 1] S1x256x1.size inb_S3x256x2_S1x256x1_2_0_1) (VecWindow.window gv ![2, 0, 1] S1x256x1.size inb_S3x256x2_S1x256x1_2_0_1) (VecWindow.window Y ![2, 0, 0] S1x256x768.size inb_S3x256x768_S1x256x768_2_0_0)
def vStep : Vec F S3x256x768 .bf16 := rows (vRow a p w1 x9 w2 x11 gi gv Y)
end Step

/-- What the last step stores as the loss. -/
def vOUT (ax : Vec F S3 .f32) (Y : Vec F S3x256x768 .bf16) (st : Vec F S3x768x512 .f32) (x13 : Vec F S3x512 .f32) (x14 : Vec F S512x3 .f32) (x15 : Vec F S1x3 .f32) (x2 : Vec F S3x16x16 .f32) : Vec F S1x1 .f32 :=
  let v238 := k0_pay57 (VecWindow.window Y ![0, 0, 0] S1x256x768.size inb_S3x256x768_S1x256x768_0_0_0) (VecWindow.window st ![0, 0, 0] S1x768x512.size inb_S3x768x512_S1x768x512_0_0_0) (VecWindow.window x13 ![0, 0] S1x512.size inb_S3x512_S1x512_0_0) (VecWindow.window x14 ![0, 0] S512x1.size inb_S512x3_S512x1_0_0) (VecWindow.window x15 ![0, 0] S1x1.size inb_S1x3_S1x1_0_0)
  let v251 := k0_pay58 (k0_pay54 (F := F)) (iota .tc S16x256 32 [0] iota_S16x256_d0_w32) k0_pay55 (VecWindow.window x2 ![0, 0, 0] S1x16x16.size inb_S3x16x16_S1x16x16_0_0_0)
  let v273 := k0_pay59 (VecWindow.window Y ![1, 0, 0] S1x256x768.size inb_S3x256x768_S1x256x768_1_0_0) (VecWindow.window st ![1, 0, 0] S1x768x512.size inb_S3x768x512_S1x768x512_1_0_0) (VecWindow.window x13 ![1, 0] S1x512.size inb_S3x512_S1x512_1_0) (VecWindow.window x14 ![0, 1] S512x1.size inb_S512x3_S512x1_0_1) (VecWindow.window x15 ![0, 1] S1x1.size inb_S1x3_S1x1_0_1)
  let v286 := k0_pay60 (k0_pay54 (F := F)) (k0_pay56 (F := F) (iota .tc S16x256 32 [0] iota_S16x256_d0_w32) k0_pay55) (VecWindow.window x2 ![1, 0, 0] S1x16x16.size inb_S3x16x16_S1x16x16_1_0_0)
  let v288 := k0_pay61 (VecWindow.window Y ![2, 0, 0] S1x256x768.size inb_S3x256x768_S1x256x768_2_0_0)
  k0_pay1 (k0_pay63 (k0_pay54 (F := F)) (k0_pay56 (F := F) (iota .tc S16x256 32 [0] iota_S16x256_d0_w32) k0_pay55) v238 v251 v273 v286 v288 (VecWindow.window st ![2, 0, 0] S1x768x512.size inb_S3x768x512_S1x768x512_2_0_0) (VecWindow.window x13 ![2, 0] S1x512.size inb_S3x512_S1x512_2_0) (VecWindow.window x14 ![0, 2] S512x1.size inb_S512x3_S512x1_0_2) (VecWindow.window x15 ![0, 2] S1x1.size inb_S1x3_S1x1_0_2) (VecWindow.window x2 ![2, 0, 0] S1x16x16.size inb_S3x16x16_S1x16x16_2_0_0)) (k0_pay64 v238 v273 v288 (VecWindow.window st ![2, 0, 0] S1x768x512.size inb_S3x768x512_S1x768x512_2_0_0) (VecWindow.window x13 ![2, 0] S1x512.size inb_S3x512_S1x512_2_0) (VecWindow.window x14 ![0, 2] S512x1.size inb_S512x3_S512x1_0_2) (VecWindow.window x15 ![0, 2] S1x1.size inb_S1x3_S1x1_0_2)) (Scalar.ofBits .f32 0x00000000#32) ((VecWindow.window ax ![0] S1.size inb_S3_S1_0) (Shape.Idx.first (numel1_S1.symm ▸ Nat.one_pos))) ((VecWindow.window ax ![1] S1.size inb_S3_S1_1) (Shape.Idx.first (numel1_S1.symm ▸ Nat.one_pos))) ((VecWindow.window ax ![2] S1.size inb_S3_S1_2) (Shape.Idx.first (numel1_S1.symm ▸ Nat.one_pos)))

theorem free_mod1 (A : Buf (Elt F) (l8 c)) (n m : ℕ) (h : n % 2 = m % 2) (k : Fin 2) : free1 c A n k = free1 c A m k := by
  have hq : qq n k = qq m k := by unfold qq; rw [h]
  have hc : cell n ⟨k.val, by omega⟩ = cell m ⟨k.val, by omega⟩ := semAt_eq _ _ (by rw [h])
  unfold free1
  rw [h, hq, hc]
theorem free_mod2 (A : Buf (Elt F) (l10 c)) (n m : ℕ) (h : n % 2 = m % 2) (k : Fin 2) : free2 c A n k = free2 c A m k := by
  have hq : qq n k = qq m k := by unfold qq; rw [h]
  have hc : cell n ⟨2 + k.val, by omega⟩ = cell m ⟨2 + k.val, by omega⟩ := semAt_eq _ _ (by rw [h])
  unfold free2
  rw [h, hq, hc]
theorem freeS_mod (A : Buf (Elt F) (l8 c)) (B : Buf (Elt F) (l10 c)) (n m : ℕ) (h : n % 2 = m % 2) : freeS c A B n = freeS c A B m := by
  unfold freeS
  rw [free_mod1 c A n m h, free_mod1 c A n m h, free_mod2 c B n m h, free_mod2 c B n m h]

/-- The second part: the rest of the first layer's weights, and half of the second layer's. -/
theorem part14_triple (A : Buf (Elt F) (l8 c)) (B : Buf (Elt F) (l10 c)) (t : Fin grid0.N) (W : Waits sig Unit) (x9 : Vec F S1x1x1024 .f32)
    (v0 : BitVec 32) (v15 : Vec F S256x768 .bf16) (v27 : FVec F S256x512 .f32) (v29 : FVec F S1x1024 .f32) (Q : _ → sProp 𝕄) :
    iprop(mid13 c A B t ∗ owes (c : Thread nD τ) 0 W ∗ holds c arg9 x9
      ∗ (∀ W', (done1 c A t.val 0 (te t) ∗ done1 c A t.val 1 (te t) ∗ done2 c B t.val 0 (te t) ∗ lane2 c B t.val 1 (te t) ∗ owes (c : Thread nD τ) 0 W' ∗ holds c arg9 x9)
          -∗ Q ⟨k0_pay69 v15 (R1 c A (te t)) x9, k0_pay70 v27 v29 (R2 c B (te t))⟩)) ⊢
    wp frame (wpE (defs₀ (F := F)) Variants.none c none) Set.univ (k0_part14 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 v0 v15 v27 v29) Q := by
  rw [k0_part14_eq_skeleton]; unfold k0_part14_skel mid13
  simp only [Prog.bind_lift, Prog.bind_op, pure_bind, bind_assoc]
  iintro ⟨⟨L0, L1, L2, L3⟩, HO, X9, Hk⟩
  iapply (wait1 c t.val 1 (te t) (off18_eq t)) $$ [L1 HO]
  · isplitl [L1]; · iexact L1
    iexact HO
  iintro %W1 ⟨L1, HO⟩
  iapply (fullLoad1 c t.val (te t) (off17_eq t)) $$ [L0 L1]
  · isplitl [L0]; · iexact L0
    iexact L1
  iintro ⟨L0, L1⟩
  iapply (loadH c) $$ X9
  iintro X9
  iapply (wait2 c t.val 0 (te t) (off21_eq t)) $$ [L2 HO]
  · isplitl [L2]; · iexact L2
    iexact HO
  iintro %W2 ⟨L2, HO⟩
  iapply (racyLoad2 c t.val (te t) (off24_eq t)) $$ [L2 L3]
  · isplitl [L2]; · iexact L2
    iexact L3
  iintro %v %hv ⟨L2, L3⟩
  rw [wp_pure]
  imodintro
  rw [pay70_congr _ _ v _ hv]
  simp only [wf3]
  iapply Hk
  isplitl [L0]; · iexact L0
  isplitl [L1]; · iexact L1
  isplitl [L2]; · iexact L2
  isplitl [L3]; · iexact L3
  isplitl [HO]; · iexact HO
  iexact X9

/-- The third part: the expert's output, and the first task's gates. -/
theorem part15_triple (A : Buf (Elt F) (l8 c)) (B : Buf (Elt F) (l10 c)) (t : Fin grid0.N) (W : Waits sig Unit) (x11 : Vec F S1x1x768 .f32) (gi : Vec F S3x256x2 .i32) (gv : Vec F S3x256x2 .f32)
    (a v0 : BitVec 32) (v53 : FVec F S256x512 .f32) (v66 : FVec F S256x768 .f32) (Q : _ → sProp 𝕄) :
    iprop(done1 c A t.val 0 (te t) ∗ done1 c A t.val 1 (te t) ∗ done2 c B t.val 0 (te t) ∗ lane2 c B t.val 1 (te t) ∗ owes (c : Thread nD τ) 0 W ∗ holds c arg11 x11 ∗ holds c sc18 gi ∗ holds c sc19 gv
      ∗ (∀ W', (freeS c A B t.val ∗ owes (c : Thread nD τ) 0 W' ∗ holds c arg11 x11 ∗ holds c sc18 gi ∗ holds c sc19 gv)
          -∗ Q ⟨k0_pay71 v53 v66 (R2 c B (te t)) x11, k0_pay72 a (VecWindow.window gi ![0, 0, 0] S1x256x1.size inb_S3x256x2_S1x256x1_0_0_0) (VecWindow.window gv ![0, 0, 0] S1x256x1.size inb_S3x256x2_S1x256x1_0_0_0), k0_pay73 a (VecWindow.window gi ![0, 0, 1] S1x256x1.size inb_S3x256x2_S1x256x1_0_0_1), k0_pay74 (VecWindow.window gv ![0, 0, 1] S1x256x1.size inb_S3x256x2_S1x256x1_0_0_1), k0_pay75 (F := F)⟩)) ⊢
    wp frame (wpE (defs₀ (F := F)) Variants.none c none) Set.univ (k0_part15 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8 a v0 v53 v66) Q := by
  rw [k0_part15_eq_skeleton]; unfold k0_part15_skel freeS
  simp only [Prog.bind_lift, Prog.bind_op, pure_bind, bind_assoc]
  iintro ⟨L0, L1, L2, L3, HO, X11, D18, D19, Hk⟩
  iapply (wait2 c t.val 1 (te t) (off25_eq t)) $$ [L3 HO]
  · isplitl [L3]; · iexact L3
    iexact HO
  iintro %W1 ⟨L3, HO⟩
  iapply (fullLoad2 c t.val (te t) (off24_eq t)) $$ [L2 L3]
  · isplitl [L2]; · iexact L2
    iexact L3
  iintro ⟨L2, L3⟩
  iapply (loadH c) $$ X11
  iintro X11
  iapply (loadH c) $$ D18
  iintro D18
  iapply (loadH c) $$ D19
  iintro D19
  iapply (loadH c) $$ D18
  iintro D18
  iapply (loadH c) $$ D19
  iintro D19
  rw [wp_pure]
  imodintro
  simp only [wf3]
  iapply Hk
  isplitl [L0 L1 L2 L3]
  · isplitl [L0]; · iapply (done1_free c A t.val 0 (te t)); iexact L0
    isplitl [L1]; · iapply (done1_free c A t.val 1 (te t)); iexact L1
    isplitl [L2]; · iapply (done2_free c B t.val 0 (te t)); iexact L2
    iapply (done2_free c B t.val 1 (te t)); iexact L3
  isplitl [HO]; · iexact HO
  isplitl [X11]; · iexact X11
  isplitl [D18]; · iexact D18
  iexact D19

/-- A step up to its last part, given what its first part does. -/
theorem part17_triple (A : Buf (Elt F) (l8 c)) (B : Buf (Elt F) (l10 c)) (t : Fin grid0.N) (p : Vec F S256x768 .bf16) (x9 : Vec F S1x1x1024 .f32) (x11 : Vec F S1x1x768 .f32)
    (gi : Vec F S3x256x2 .i32) (gv : Vec F S3x256x2 .f32) (Y : Vec F S3x256x768 .bf16) (R : sProp 𝕄) (Q : _ → sProp 𝕄) :
    iprop((wp frame (wpE (defs₀ (F := F)) Variants.none c none) Set.univ (k0_part13 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) (fun r => iprop(⌜r = ret13 c A t p x9⌝ ∗ mid13 c A B t ∗ holds c arg9 x9 ∗ holds c arg11 x11 ∗ holds c sc18 gi ∗ holds c sc19 gv ∗ holds c sc21 Y ∗ (∃ W, owes (c : Thread nD τ) 0 W) ∗ R)))
      ∗ (∀ r, (freeS c A B t.val ∗ holds c arg9 x9 ∗ holds c arg11 x11 ∗ holds c sc18 gi ∗ holds c sc19 gv
          ∗ holds c sc21 (vStep (BitVec.ofNat 32 ((grid0.coords t) 0).val) p (R1 c A (te t)) x9 (R2 c B (te t)) x11 gi gv Y) ∗ (∃ W, owes (c : Thread nD τ) 0 W) ∗ R) -∗ Q r)) ⊢
    wp frame (wpE (defs₀ (F := F)) Variants.none c none) Set.univ (k0_part17 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  rw [k0_part17_eq_skeleton]; unfold k0_part17_skel
  rw [wp_bind]
  iintro ⟨H, Hk⟩
  iapply wp_wand_r
  isplitl [H]; · iexact H
  iintro %r ⟨%hr, M, X9, X11, D18, D19, D21, ⟨%W, HO⟩, HR⟩
  subst hr
  unfold ret13
  dsimp only
  rw [wp_bind]
  iapply (part14_triple (F := F) arg1 harg1 arg2 harg2 arg3 harg3 arg4 harg4 arg5 harg5 arg6 harg6 arg7 harg7 arg9 harg9 arg11 harg11 arg12 harg12 arg13 harg13 arg14 harg14 arg15 harg15 arg16 harg16 c A B t W x9)
  isplitl [M]; · iexact M
  isplitl [HO]; · iexact HO
  isplitl [X9]; · iexact X9
  iintro %W1 ⟨L0, L1, L2, L3, HO, X9⟩
  dsimp only
  rw [wp_bind]
  iapply (part15_triple (F := F) arg1 harg1 arg2 harg2 arg3 harg3 arg4 harg4 arg5 harg5 arg6 harg6 arg7 harg7 arg9 harg9 arg11 harg11 arg12 harg12 arg13 harg13 arg14 harg14 arg15 harg15 arg16 harg16 c A B t W1 x11 gi gv)
  isplitl [L0]; · iexact L0
  isplitl [L1]; · iexact L1
  isplitl [L2]; · iexact L2
  isplitl [L3]; · iexact L3
  isplitl [HO]; · iexact HO
  isplitl [X11]; · iexact X11
  isplitl [D18]; · iexact D18
  isplitl [D19]; · iexact D19
  iintro %W2 ⟨HF, HO, X11, D18, D19⟩
  dsimp only
  rw [wp_bind]
  iapply (part16_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D18]; · iexact D18
  isplitl [D19]; · iexact D19
  isplitl [D21]; · iexact D21
  iintro ⟨D18, D19, D21⟩
  simp only [Prog.bind_lift, Prog.bind_op, pure_bind, bind_assoc]
  iapply (loadH c) $$ D21
  iintro D21
  iapply (storeH c) $$ D21
  iintro D21
  iapply (loadH c) $$ D18
  iintro D18
  iapply (loadH c) $$ D19
  iintro D19
  iapply (loadH c) $$ D18
  iintro D18
  iapply (loadH c) $$ D19
  iintro D19
  iapply (loadH c) $$ D21
  iintro D21
  iapply (loadH c) $$ D21
  iintro D21
  iapply (storeH c) $$ D21
  iintro D21
  rw [wp_pure]
  imodintro
  iapply Hk
  isplitl [HF]; · iexact HF
  isplitl [X9]; · iexact X9
  isplitl [X11]; · iexact X11
  isplitl [D18]; · iexact D18
  isplitl [D19]; · iexact D19
  isplitl [D21]
  · unfold vStep
    rw [← put3 Y]
    have e1 := window_put_other (VecWindow.put Y ![0, 0, 0] ![1, 256, 768] (vRow (BitVec.ofNat 32 ((grid0.coords t) 0).val) p (R1 c A (te t)) x9 (R2 c B (te t)) x11 gi gv Y 0)) 1 2 (by decide) (vRow (BitVec.ofNat 32 ((grid0.coords t) 0).val) p (R1 c A (te t)) x9 (R2 c B (te t)) x11 gi gv Y 1) inb_S3x256x768_S1x256x768_2_0_0
    have e2 := window_put_other Y 0 2 (by decide) (vRow (BitVec.ofNat 32 ((grid0.coords t) 0).val) p (R1 c A (te t)) x9 (R2 c B (te t)) x11 gi gv Y 0) inb_S3x256x768_S1x256x768_2_0_0
    have e3 := e1.trans e2
    have e4 := congrArg (fun z => k0_pay79 (BitVec.ofNat 32 ((grid0.coords t) 0).val) (vEO p (R1 c A (te t)) x9 (R2 c B (te t)) x11) (VecWindow.window gi ![2, 0, 0] S1x256x1.size inb_S3x256x2_S1x256x1_2_0_0) (VecWindow.window gv ![2, 0, 0] S1x256x1.size inb_S3x256x2_S1x256x1_2_0_0) (VecWindow.window gi ![2, 0, 1] S1x256x1.size inb_S3x256x2_S1x256x1_2_0_1) (VecWindow.window gv ![2, 0, 1] S1x256x1.size inb_S3x256x2_S1x256x1_2_0_1) z) e3.symm
    have e5 : vRow (BitVec.ofNat 32 ((grid0.coords t) 0).val) p (R1 c A (te t)) x9 (R2 c B (te t)) x11 gi gv Y 2 = _ := e4
    rw [e5]
    iexact D21
  isplitl [HO]
  · iexists W2
    iexact HO
  iexact HR

/-- Before the last point the kernel ends with its step. -/
theorem kernel_lo (t : Fin grid0.N) (ht : t.val < 7) (Q : PUnit → sProp 𝕄) :
    iprop(wp frame (wpE (defs₀ (F := F)) Variants.none c none) Set.univ (k0_part17 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) (fun _ => Q ⟨⟩)) ⊢
    wp frame (wpE (defs₀ (F := F)) Variants.none c none) Set.univ (cc0__moe_loss_kernel (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  have c5 : ¬ k0_cond5 (grid0.coords t) = 1#1 := fun hh => by have := (cond5_iff t).1 hh; omega
  rw [cc0__moe_loss_kernel_eq_skeleton]; unfold cc0__moe_loss_kernel_skel
  simp only [dif_neg c5]
  rw [wp_bind]
  iintro H
  iapply wp_wand_r
  isplitl [H]; · iexact H
  iintro %r H
  rw [wp_pure]
  imodintro
  iexact H

/-- At the last point it stores the loss. -/
theorem kernel_hi (t : Fin grid0.N) (ht : t.val = 7) (ax : Vec F S3 .f32) (Y : Vec F S3x256x768 .bf16) (st : Vec F S3x768x512 .f32) (x13 : Vec F S3x512 .f32) (x14 : Vec F S512x3 .f32) (x15 : Vec F S1x3 .f32) (x2 : Vec F S3x16x16 .f32) (x16 : Vec F S1x1 .f32)
    (R : sProp 𝕄) (Q : PUnit → sProp 𝕄) :
    iprop((wp frame (wpE (defs₀ (F := F)) Variants.none c none) Set.univ (k0_part17 (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) (fun _ => iprop(holds c sc20 ax ∗ holds c sc21 Y ∗ holds c sc22 st ∗ holds c arg13 x13 ∗ holds c arg14 x14 ∗ holds c arg15 x15 ∗ holds c arg2 x2 ∗ holds c arg16 x16 ∗ R)))
      ∗ ((holds c sc20 ax ∗ holds c sc21 Y ∗ holds c sc22 st ∗ holds c arg13 x13 ∗ holds c arg14 x14 ∗ holds c arg15 x15 ∗ holds c arg2 x2 ∗ holds c arg16 (vOUT ax Y st x13 x14 x15 x2) ∗ R) -∗ Q ⟨⟩)) ⊢
    wp frame (wpE (defs₀ (F := F)) Variants.none c none) Set.univ (cc0__moe_loss_kernel (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  have c5 : k0_cond5 (grid0.coords t) = 1#1 := (cond5_iff t).2 ht
  rw [cc0__moe_loss_kernel_eq_skeleton]; unfold cc0__moe_loss_kernel_skel
  simp only [dif_pos c5]
  rw [wp_bind]
  iintro ⟨H, Hk⟩
  iapply wp_wand_r
  isplitl [H]; · iexact H
  iintro %r ⟨D20, D21, D22, X13, X14, X15, X2, X16, HR⟩
  rw [wp_bind]
  iapply (part9_triple (F := F) arg1 harg1 arg2 harg2 arg3 harg3 arg4 harg4 arg5 harg5 arg6 harg6 arg7 harg7 arg9 harg9 arg11 harg11 arg12 harg12 arg13 harg13 arg14 harg14 arg15 harg15 arg16 harg16 c)
  dsimp only
  rw [wp_bind]
  iapply (part10_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D21]; · iexact D21
  isplitl [D22]; · iexact D22
  isplitl [X13]; · iexact X13
  isplitl [X14]; · iexact X14
  isplitl [X15]; · iexact X15
  isplitl [X2]; · iexact X2
  iintro ⟨D21, D22, X13, X14, X15, X2⟩
  dsimp only
  rw [wp_bind]
  iapply (part11_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D21]; · iexact D21
  isplitl [D22]; · iexact D22
  isplitl [X13]; · iexact X13
  isplitl [X14]; · iexact X14
  isplitl [X15]; · iexact X15
  isplitl [X2]; · iexact X2
  iintro ⟨D21, D22, X13, X14, X15, X2⟩
  dsimp only
  rw [wp_bind]
  iapply (part12_triple (F := F) arg1 harg1 arg2 harg2 arg3 harg3 arg4 harg4 arg5 harg5 arg6 harg6 arg7 harg7 arg9 harg9 arg11 harg11 arg12 harg12 arg13 harg13 arg14 harg14 arg15 harg15 arg16 harg16 c)
  isplitl [D22]; · iexact D22
  isplitl [X13]; · iexact X13
  isplitl [X14]; · iexact X14
  isplitl [X15]; · iexact X15
  isplitl [X2]; · iexact X2
  iintro ⟨D22, X13, X14, X15, X2⟩
  simp only [Prog.bind_lift, Prog.bind_op, pure_bind, bind_assoc, smemLoad, smemLoadElt]
  iapply (loadH c) $$ D20
  iintro D20
  iapply (loadH c) $$ D20
  iintro D20
  iapply (loadH c) $$ D20
  iintro D20
  iapply (loadH c) $$ X16
  iintro X16
  iapply (storeH c) $$ X16
  iintro X16
  rw [wp_pure]
  imodintro
  iapply Hk
  isplitl [D20]; · iexact D20
  isplitl [D21]; · iexact D21
  isplitl [D22]; · iexact D22
  isplitl [X13]; · iexact X13
  isplitl [X14]; · iexact X14
  isplitl [X15]; · iexact X15
  isplitl [X2]; · iexact X2
  isplitl [X16]
  · rw [pf2]
    iexact X16
  iexact HR

end Cert.KernelIdeal.Hand

end
-- ==== Proof.KernelIdeal.Steps.lean ====
module

public import proofs.«01_k».proof.Proof.Gen.KernelIdeal.Frame
public import proofs.«01_k».proof.Proof.Gen.KernelIdeal.Skeleton
public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (arg1 : Memref sig .tc .vmem S256x768 .f32) (harg1 : arg1.IsWhole)
variable (arg2 : Memref sig .tc .vmem S3x16x16 .f32) (harg2 : arg2.IsWhole)
variable (arg3 : Memref sig .tc .vmem S768x768 .f32) (harg3 : arg3.IsWhole)
variable (arg4 : Memref sig .tc .vmem S1x768 .f32) (harg4 : arg4.IsWhole)
variable (arg5 : Memref sig .tc .vmem S768x768 .f32) (harg5 : arg5.IsWhole)
variable (arg6 : Memref sig .tc .vmem S1x768 .f32) (harg6 : arg6.IsWhole)
variable (arg7 : Memref sig .tc .vmem S768x24 .f32) (harg7 : arg7.IsWhole)
variable (arg9 : Memref sig .tc .vmem S1x1x1024 .f32) (harg9 : arg9.IsWhole)
variable (arg11 : Memref sig .tc .vmem S1x1x768 .f32) (harg11 : arg11.IsWhole)
variable (arg12 : Memref sig .tc .vmem S1x768x512 .f32) (harg12 : arg12.IsWhole)
variable (arg13 : Memref sig .tc .vmem S3x512 .f32) (harg13 : arg13.IsWhole)
variable (arg14 : Memref sig .tc .vmem S512x3 .f32) (harg14 : arg14.IsWhole)
variable (arg15 : Memref sig .tc .vmem S1x3 .f32) (harg15 : arg15.IsWhole)
variable (arg16 : Memref sig .tc .vmem S1x1 .f32) (harg16 : arg16.IsWhole)
variable (c : Dev nD)

/-- The whole of step 0. -/
theorem step_0 (A : Buf (Elt F) (l8 c)) (B : Buf (Elt F) (l10 c)) (t : Fin grid0.N) (ht : t.val = 0) (W : Waits sig Unit) (x1 : Vec F S256x768 .f32) (x2 : Vec F S3x16x16 .f32) (x3 : Vec F S768x768 .f32) (x4 : Vec F S1x768 .f32) (x5 : Vec F S768x768 .f32) (x6 : Vec F S1x768 .f32) (x7 : Vec F S768x24 .f32) (x9 : Vec F S1x1x1024 .f32) (x11 : Vec F S1x1x768 .f32) (x12 : Vec F S1x768x512 .f32) (x13 : Vec F S3x512 .f32) (x14 : Vec F S512x3 .f32) (x15 : Vec F S1x3 .f32) (x16 : Vec F S1x1 .f32) (d17 : Vec F S256x768 .bf16) (d18 : Vec F S3x256x2 .i32) (d19 : Vec F S3x256x2 .f32) (d20 : Vec F S3 .f32) (d21 : Vec F S3x256x768 .bf16) (d22 : Vec F S3x768x512 .f32) (Q : PUnit → sProp 𝕄) :
    iprop(freeS c A B 0 ∗ freeS c A B (t.val + 1) ∗ owes (c : Thread nD τ) 0 W ∗ holds c arg1 x1 ∗ holds c arg2 x2 ∗ holds c arg3 x3 ∗ holds c arg4 x4 ∗ holds c arg5 x5 ∗ holds c arg6 x6 ∗ holds c arg7 x7 ∗ holds c arg9 x9 ∗ holds c arg11 x11 ∗ holds c arg12 x12 ∗ holds c arg13 x13 ∗ holds c arg14 x14 ∗ holds c arg15 x15 ∗ holds c arg16 x16 ∗ holds c sc17 d17 ∗ holds c sc18 d18 ∗ holds c sc19 d19 ∗ holds c sc20 d20 ∗ holds c sc21 d21 ∗ holds c sc22 d22 ∗ ((slotN c A B (t.val + 1) ∗ freeS c A B t.val ∗ holds c arg1 x1 ∗ holds c arg2 x2 ∗ holds c arg3 x3 ∗ holds c arg4 x4 ∗ holds c arg5 x5 ∗ holds c arg6 x6 ∗ holds c arg7 x7 ∗ holds c arg9 x9 ∗ holds c arg11 x11 ∗ holds c arg12 x12 ∗ holds c arg13 x13 ∗ holds c arg14 x14 ∗ holds c arg15 x15 ∗ holds c arg16 x16 ∗ holds c sc17 (vP x1 x3 x4 x5 x6) ∗ holds c sc18 (rows (vGI x1 x3 x4 x5 x6 x7)) ∗ holds c sc19 (rows (vGV x1 x3 x4 x5 x6 x7)) ∗ holds c sc20 (fun y => vAUX x1 x3 x4 x5 x6 x7 (y 0)) ∗ holds c sc21 (vStep (BitVec.ofNat 32 ((grid0.coords t) 0).val) (vP x1 x3 x4 x5 x6) (R1 c A (te t)) x9 (R2 c B (te t)) x11 (rows (vGI x1 x3 x4 x5 x6 x7)) (rows (vGV x1 x3 x4 x5 x6 x7)) k0_pay65) ∗ holds c sc22 (VecWindow.put d22 ![t.val, 0, 0] S1x768x512.size (k0_pay66 x12)) ∗ (∃ W, owes (c : Thread nD τ) 0 W)) -∗ Q ⟨⟩)) ⊢
    wp frame (wpE (defs₀ (F := F)) Variants.none c none) Set.univ (cc0__moe_loss_kernel (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  iintro ⟨HS, HF, HO, X1, X2, X3, X4, X5, X6, X7, X9, X11, X12, X13, X14, X15, X16, D17, D18, D19, D20, D21, D22, Hk⟩
  iapply (kernel_lo (F := F) arg1 harg1 arg2 harg2 arg3 harg3 arg4 harg4 arg5 harg5 arg6 harg6 arg7 harg7 arg9 harg9 arg11 harg11 arg12 harg12 arg13 harg13 arg14 harg14 arg15 harg15 arg16 harg16 c t (by omega))
  iapply (part17_triple (F := F) arg1 harg1 arg2 harg2 arg3 harg3 arg4 harg4 arg5 harg5 arg6 harg6 arg7 harg7 arg9 harg9 arg11 harg11 arg12 harg12 arg13 harg13 arg14 harg14 arg15 harg15 arg16 harg16 c A B t (vP x1 x3 x4 x5 x6) x9 x11 (rows (vGI x1 x3 x4 x5 x6 x7)) (rows (vGV x1 x3 x4 x5 x6 x7)) k0_pay65 iprop(slotN c A B (t.val + 1) ∗ holds c arg1 x1 ∗ holds c arg2 x2 ∗ holds c arg3 x3 ∗ holds c arg4 x4 ∗ holds c arg5 x5 ∗ holds c arg6 x6 ∗ holds c arg7 x7 ∗ holds c arg12 x12 ∗ holds c arg13 x13 ∗ holds c arg14 x14 ∗ holds c arg15 x15 ∗ holds c arg16 x16 ∗ holds c sc17 (vP x1 x3 x4 x5 x6) ∗ holds c sc20 (fun y => vAUX x1 x3 x4 x5 x6 x7 (y 0)) ∗ holds c sc22 (VecWindow.put d22 ![t.val, 0, 0] S1x768x512.size (k0_pay66 x12))))
  isplitl [HS HF HO X1 X2 X3 X4 X5 X6 X7 X9 X11 X12 X13 X14 X15 X16 D17 D18 D19 D20 D21 D22]
  · iapply (part13_0 (F := F) arg1 harg1 arg2 harg2 arg3 harg3 arg4 harg4 arg5 harg5 arg6 harg6 arg7 harg7 arg9 harg9 arg11 harg11 arg12 harg12 arg13 harg13 arg14 harg14 arg15 harg15 arg16 harg16 c A B t ht W)
    isplitl [HS]; · iexact HS
    isplitl [HF]; · iexact HF
    isplitl [HO]; · iexact HO
    isplitl [X1]; · iexact X1
    isplitl [X3]; · iexact X3
    isplitl [X4]; · iexact X4
    isplitl [X5]; · iexact X5
    isplitl [X6]; · iexact X6
    isplitl [X7]; · iexact X7
    isplitl [X9]; · iexact X9
    isplitl [X12]; · iexact X12
    isplitl [D17]; · iexact D17
    isplitl [D18]; · iexact D18
    isplitl [D19]; · iexact D19
    isplitl [D20]; · iexact D20
    isplitl [D21]; · iexact D21
    isplitl [D22]; · iexact D22
    iintro %W1 ⟨HM, HS, X1, X3, X4, X5, X6, X7, X9, X12, D17, D18, D19, D20, D21, D22, HO⟩
    isplitr; · ipureintro; rfl
    isplitl [HM]; · iexact HM
    isplitl [X9]; · iexact X9
    isplitl [X11]; · iexact X11
    isplitl [D18]; · iexact D18
    isplitl [D19]; · iexact D19
    isplitl [D21]; · iexact D21
    isplitl [HO]; · iexists W1; iexact HO
    isplitl [HS]; · iexact HS
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X12]; · iexact X12
    isplitl [X13]; · iexact X13
    isplitl [X14]; · iexact X14
    isplitl [X15]; · iexact X15
    isplitl [X16]; · iexact X16
    isplitl [D17]; · iexact D17
    isplitl [D20]; · iexact D20
    iexact D22
  iintro %r ⟨HF, X9, X11, D18, D19, D21, HO, HS, X1, X2, X3, X4, X5, X6, X7, X12, X13, X14, X15, X16, D17, D20, D22⟩
  iapply Hk
  isplitl [HS]; · iexact HS
  isplitl [HF]; · iexact HF
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X9]; · iexact X9
  isplitl [X11]; · iexact X11
  isplitl [X12]; · iexact X12
  isplitl [X13]; · iexact X13
  isplitl [X14]; · iexact X14
  isplitl [X15]; · iexact X15
  isplitl [X16]; · iexact X16
  isplitl [D17]; · iexact D17
  isplitl [D18]; · iexact D18
  isplitl [D19]; · iexact D19
  isplitl [D20]; · iexact D20
  isplitl [D21]; · iexact D21
  isplitl [D22]; · iexact D22
  iexact HO

/-- The whole of step 1 or 2. -/
theorem step_1 (A : Buf (Elt F) (l8 c)) (B : Buf (Elt F) (l10 c)) (t : Fin grid0.N) (h0 : 0 < t.val) (h3 : t.val < 3) (W : Waits sig Unit) (x1 : Vec F S256x768 .f32) (x2 : Vec F S3x16x16 .f32) (x3 : Vec F S768x768 .f32) (x4 : Vec F S1x768 .f32) (x5 : Vec F S768x768 .f32) (x6 : Vec F S1x768 .f32) (x7 : Vec F S768x24 .f32) (x9 : Vec F S1x1x1024 .f32) (x11 : Vec F S1x1x768 .f32) (x12 : Vec F S1x768x512 .f32) (x13 : Vec F S3x512 .f32) (x14 : Vec F S512x3 .f32) (x15 : Vec F S1x3 .f32) (x16 : Vec F S1x1 .f32) (d17 : Vec F S256x768 .bf16) (d18 : Vec F S3x256x2 .i32) (d19 : Vec F S3x256x2 .f32) (d20 : Vec F S3 .f32) (d21 : Vec F S3x256x768 .bf16) (d22 : Vec F S3x768x512 .f32) (Q : PUnit → sProp 𝕄) :
    iprop(flyS c A B t.val (te t) ∗ freeS c A B (t.val + 1) ∗ owes (c : Thread nD τ) 0 W ∗ holds c arg1 x1 ∗ holds c arg2 x2 ∗ holds c arg3 x3 ∗ holds c arg4 x4 ∗ holds c arg5 x5 ∗ holds c arg6 x6 ∗ holds c arg7 x7 ∗ holds c arg9 x9 ∗ holds c arg11 x11 ∗ holds c arg12 x12 ∗ holds c arg13 x13 ∗ holds c arg14 x14 ∗ holds c arg15 x15 ∗ holds c arg16 x16 ∗ holds c sc17 d17 ∗ holds c sc18 d18 ∗ holds c sc19 d19 ∗ holds c sc20 d20 ∗ holds c sc21 d21 ∗ holds c sc22 d22 ∗ ((slotN c A B (t.val + 1) ∗ freeS c A B t.val ∗ holds c arg1 x1 ∗ holds c arg2 x2 ∗ holds c arg3 x3 ∗ holds c arg4 x4 ∗ holds c arg5 x5 ∗ holds c arg6 x6 ∗ holds c arg7 x7 ∗ holds c arg9 x9 ∗ holds c arg11 x11 ∗ holds c arg12 x12 ∗ holds c arg13 x13 ∗ holds c arg14 x14 ∗ holds c arg15 x15 ∗ holds c arg16 x16 ∗ holds c sc17 d17 ∗ holds c sc18 d18 ∗ holds c sc19 d19 ∗ holds c sc20 d20 ∗ holds c sc21 (vStep (BitVec.ofNat 32 ((grid0.coords t) 0).val) d17 (R1 c A (te t)) x9 (R2 c B (te t)) x11 d18 d19 d21) ∗ holds c sc22 (VecWindow.put d22 ![t.val, 0, 0] S1x768x512.size (k0_pay66 x12)) ∗ (∃ W, owes (c : Thread nD τ) 0 W)) -∗ Q ⟨⟩)) ⊢
    wp frame (wpE (defs₀ (F := F)) Variants.none c none) Set.univ (cc0__moe_loss_kernel (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  iintro ⟨HS, HF, HO, X1, X2, X3, X4, X5, X6, X7, X9, X11, X12, X13, X14, X15, X16, D17, D18, D19, D20, D21, D22, Hk⟩
  iapply (kernel_lo (F := F) arg1 harg1 arg2 harg2 arg3 harg3 arg4 harg4 arg5 harg5 arg6 harg6 arg7 harg7 arg9 harg9 arg11 harg11 arg12 harg12 arg13 harg13 arg14 harg14 arg15 harg15 arg16 harg16 c t (by omega))
  iapply (part17_triple (F := F) arg1 harg1 arg2 harg2 arg3 harg3 arg4 harg4 arg5 harg5 arg6 harg6 arg7 harg7 arg9 harg9 arg11 harg11 arg12 harg12 arg13 harg13 arg14 harg14 arg15 harg15 arg16 harg16 c A B t d17 x9 x11 d18 d19 d21 iprop(slotN c A B (t.val + 1) ∗ holds c arg1 x1 ∗ holds c arg2 x2 ∗ holds c arg3 x3 ∗ holds c arg4 x4 ∗ holds c arg5 x5 ∗ holds c arg6 x6 ∗ holds c arg7 x7 ∗ holds c arg12 x12 ∗ holds c arg13 x13 ∗ holds c arg14 x14 ∗ holds c arg15 x15 ∗ holds c arg16 x16 ∗ holds c sc17 d17 ∗ holds c sc20 d20 ∗ holds c sc22 (VecWindow.put d22 ![t.val, 0, 0] S1x768x512.size (k0_pay66 x12))))
  isplitl [HS HF HO X1 X2 X3 X4 X5 X6 X7 X9 X11 X12 X13 X14 X15 X16 D17 D18 D19 D20 D21 D22]
  · iapply (part13_1 (F := F) arg1 harg1 arg2 harg2 arg3 harg3 arg4 harg4 arg5 harg5 arg6 harg6 arg7 harg7 arg9 harg9 arg11 harg11 arg12 harg12 arg13 harg13 arg14 harg14 arg15 harg15 arg16 harg16 c A B t h0 h3 W)
    isplitl [HS]; · iexact HS
    isplitl [HF]; · iexact HF
    isplitl [HO]; · iexact HO
    isplitl [X9]; · iexact X9
    isplitl [X12]; · iexact X12
    isplitl [D17]; · iexact D17
    isplitl [D22]; · iexact D22
    iintro %W1 ⟨HM, HS, X9, X12, D17, D22, HO⟩
    isplitr; · ipureintro; rfl
    isplitl [HM]; · iexact HM
    isplitl [X9]; · iexact X9
    isplitl [X11]; · iexact X11
    isplitl [D18]; · iexact D18
    isplitl [D19]; · iexact D19
    isplitl [D21]; · iexact D21
    isplitl [HO]; · iexists W1; iexact HO
    isplitl [HS]; · iexact HS
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X12]; · iexact X12
    isplitl [X13]; · iexact X13
    isplitl [X14]; · iexact X14
    isplitl [X15]; · iexact X15
    isplitl [X16]; · iexact X16
    isplitl [D17]; · iexact D17
    isplitl [D20]; · iexact D20
    iexact D22
  iintro %r ⟨HF, X9, X11, D18, D19, D21, HO, HS, X1, X2, X3, X4, X5, X6, X7, X12, X13, X14, X15, X16, D17, D20, D22⟩
  iapply Hk
  isplitl [HS]; · iexact HS
  isplitl [HF]; · iexact HF
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X9]; · iexact X9
  isplitl [X11]; · iexact X11
  isplitl [X12]; · iexact X12
  isplitl [X13]; · iexact X13
  isplitl [X14]; · iexact X14
  isplitl [X15]; · iexact X15
  isplitl [X16]; · iexact X16
  isplitl [D17]; · iexact D17
  isplitl [D18]; · iexact D18
  isplitl [D19]; · iexact D19
  isplitl [D20]; · iexact D20
  isplitl [D21]; · iexact D21
  isplitl [D22]; · iexact D22
  iexact HO

/-- The whole of step 3 to 6. -/
theorem step_2 (A : Buf (Elt F) (l8 c)) (B : Buf (Elt F) (l10 c)) (t : Fin grid0.N) (h0 : 0 < t.val) (h3 : ¬ t.val < 3) (h4 : t.val < 7) (W : Waits sig Unit) (x1 : Vec F S256x768 .f32) (x2 : Vec F S3x16x16 .f32) (x3 : Vec F S768x768 .f32) (x4 : Vec F S1x768 .f32) (x5 : Vec F S768x768 .f32) (x6 : Vec F S1x768 .f32) (x7 : Vec F S768x24 .f32) (x9 : Vec F S1x1x1024 .f32) (x11 : Vec F S1x1x768 .f32) (x12 : Vec F S1x768x512 .f32) (x13 : Vec F S3x512 .f32) (x14 : Vec F S512x3 .f32) (x15 : Vec F S1x3 .f32) (x16 : Vec F S1x1 .f32) (d17 : Vec F S256x768 .bf16) (d18 : Vec F S3x256x2 .i32) (d19 : Vec F S3x256x2 .f32) (d20 : Vec F S3 .f32) (d21 : Vec F S3x256x768 .bf16) (d22 : Vec F S3x768x512 .f32) (Q : PUnit → sProp 𝕄) :
    iprop(flyS c A B t.val (te t) ∗ freeS c A B (t.val + 1) ∗ owes (c : Thread nD τ) 0 W ∗ holds c arg1 x1 ∗ holds c arg2 x2 ∗ holds c arg3 x3 ∗ holds c arg4 x4 ∗ holds c arg5 x5 ∗ holds c arg6 x6 ∗ holds c arg7 x7 ∗ holds c arg9 x9 ∗ holds c arg11 x11 ∗ holds c arg12 x12 ∗ holds c arg13 x13 ∗ holds c arg14 x14 ∗ holds c arg15 x15 ∗ holds c arg16 x16 ∗ holds c sc17 d17 ∗ holds c sc18 d18 ∗ holds c sc19 d19 ∗ holds c sc20 d20 ∗ holds c sc21 d21 ∗ holds c sc22 d22 ∗ ((slotN c A B (t.val + 1) ∗ freeS c A B t.val ∗ holds c arg1 x1 ∗ holds c arg2 x2 ∗ holds c arg3 x3 ∗ holds c arg4 x4 ∗ holds c arg5 x5 ∗ holds c arg6 x6 ∗ holds c arg7 x7 ∗ holds c arg9 x9 ∗ holds c arg11 x11 ∗ holds c arg12 x12 ∗ holds c arg13 x13 ∗ holds c arg14 x14 ∗ holds c arg15 x15 ∗ holds c arg16 x16 ∗ holds c sc17 d17 ∗ holds c sc18 d18 ∗ holds c sc19 d19 ∗ holds c sc20 d20 ∗ holds c sc21 (vStep (BitVec.ofNat 32 ((grid0.coords t) 0).val) d17 (R1 c A (te t)) x9 (R2 c B (te t)) x11 d18 d19 d21) ∗ holds c sc22 d22 ∗ (∃ W, owes (c : Thread nD τ) 0 W)) -∗ Q ⟨⟩)) ⊢
    wp frame (wpE (defs₀ (F := F)) Variants.none c none) Set.univ (cc0__moe_loss_kernel (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  iintro ⟨HS, HF, HO, X1, X2, X3, X4, X5, X6, X7, X9, X11, X12, X13, X14, X15, X16, D17, D18, D19, D20, D21, D22, Hk⟩
  iapply (kernel_lo (F := F) arg1 harg1 arg2 harg2 arg3 harg3 arg4 harg4 arg5 harg5 arg6 harg6 arg7 harg7 arg9 harg9 arg11 harg11 arg12 harg12 arg13 harg13 arg14 harg14 arg15 harg15 arg16 harg16 c t (by omega))
  iapply (part17_triple (F := F) arg1 harg1 arg2 harg2 arg3 harg3 arg4 harg4 arg5 harg5 arg6 harg6 arg7 harg7 arg9 harg9 arg11 harg11 arg12 harg12 arg13 harg13 arg14 harg14 arg15 harg15 arg16 harg16 c A B t d17 x9 x11 d18 d19 d21 iprop(slotN c A B (t.val + 1) ∗ holds c arg1 x1 ∗ holds c arg2 x2 ∗ holds c arg3 x3 ∗ holds c arg4 x4 ∗ holds c arg5 x5 ∗ holds c arg6 x6 ∗ holds c arg7 x7 ∗ holds c arg12 x12 ∗ holds c arg13 x13 ∗ holds c arg14 x14 ∗ holds c arg15 x15 ∗ holds c arg16 x16 ∗ holds c sc17 d17 ∗ holds c sc20 d20 ∗ holds c sc22 d22))
  isplitl [HS HF HO X1 X2 X3 X4 X5 X6 X7 X9 X11 X12 X13 X14 X15 X16 D17 D18 D19 D20 D21 D22]
  · iapply (part13_2 (F := F) arg1 harg1 arg2 harg2 arg3 harg3 arg4 harg4 arg5 harg5 arg6 harg6 arg7 harg7 arg9 harg9 arg11 harg11 arg12 harg12 arg13 harg13 arg14 harg14 arg15 harg15 arg16 harg16 c A B t h0 h3 h4 W)
    isplitl [HS]; · iexact HS
    isplitl [HF]; · iexact HF
    isplitl [HO]; · iexact HO
    isplitl [X9]; · iexact X9
    isplitl [D17]; · iexact D17
    iintro %W1 ⟨HM, HS, X9, D17, HO⟩
    isplitr; · ipureintro; rfl
    isplitl [HM]; · iexact HM
    isplitl [X9]; · iexact X9
    isplitl [X11]; · iexact X11
    isplitl [D18]; · iexact D18
    isplitl [D19]; · iexact D19
    isplitl [D21]; · iexact D21
    isplitl [HO]; · iexists W1; iexact HO
    isplitl [HS]; · iexact HS
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X12]; · iexact X12
    isplitl [X13]; · iexact X13
    isplitl [X14]; · iexact X14
    isplitl [X15]; · iexact X15
    isplitl [X16]; · iexact X16
    isplitl [D17]; · iexact D17
    isplitl [D20]; · iexact D20
    iexact D22
  iintro %r ⟨HF, X9, X11, D18, D19, D21, HO, HS, X1, X2, X3, X4, X5, X6, X7, X12, X13, X14, X15, X16, D17, D20, D22⟩
  iapply Hk
  isplitl [HS]; · iexact HS
  isplitl [HF]; · iexact HF
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X9]; · iexact X9
  isplitl [X11]; · iexact X11
  isplitl [X12]; · iexact X12
  isplitl [X13]; · iexact X13
  isplitl [X14]; · iexact X14
  isplitl [X15]; · iexact X15
  isplitl [X16]; · iexact X16
  isplitl [D17]; · iexact D17
  isplitl [D18]; · iexact D18
  isplitl [D19]; · iexact D19
  isplitl [D20]; · iexact D20
  isplitl [D21]; · iexact D21
  isplitl [D22]; · iexact D22
  iexact HO

/-- The whole of step 7. -/
theorem step_3 (A : Buf (Elt F) (l8 c)) (B : Buf (Elt F) (l10 c)) (t : Fin grid0.N) (ht : t.val = 7) (W : Waits sig Unit) (x1 : Vec F S256x768 .f32) (x2 : Vec F S3x16x16 .f32) (x3 : Vec F S768x768 .f32) (x4 : Vec F S1x768 .f32) (x5 : Vec F S768x768 .f32) (x6 : Vec F S1x768 .f32) (x7 : Vec F S768x24 .f32) (x9 : Vec F S1x1x1024 .f32) (x11 : Vec F S1x1x768 .f32) (x12 : Vec F S1x768x512 .f32) (x13 : Vec F S3x512 .f32) (x14 : Vec F S512x3 .f32) (x15 : Vec F S1x3 .f32) (x16 : Vec F S1x1 .f32) (d17 : Vec F S256x768 .bf16) (d18 : Vec F S3x256x2 .i32) (d19 : Vec F S3x256x2 .f32) (d20 : Vec F S3 .f32) (d21 : Vec F S3x256x768 .bf16) (d22 : Vec F S3x768x512 .f32) (Q : PUnit → sProp 𝕄) :
    iprop(flyS c A B t.val (te t) ∗ freeS c A B (t.val + 1) ∗ owes (c : Thread nD τ) 0 W ∗ holds c arg1 x1 ∗ holds c arg2 x2 ∗ holds c arg3 x3 ∗ holds c arg4 x4 ∗ holds c arg5 x5 ∗ holds c arg6 x6 ∗ holds c arg7 x7 ∗ holds c arg9 x9 ∗ holds c arg11 x11 ∗ holds c arg12 x12 ∗ holds c arg13 x13 ∗ holds c arg14 x14 ∗ holds c arg15 x15 ∗ holds c arg16 x16 ∗ holds c sc17 d17 ∗ holds c sc18 d18 ∗ holds c sc19 d19 ∗ holds c sc20 d20 ∗ holds c sc21 d21 ∗ holds c sc22 d22 ∗ ((slotN c A B (t.val + 1) ∗ freeS c A B t.val ∗ holds c arg1 x1 ∗ holds c arg2 x2 ∗ holds c arg3 x3 ∗ holds c arg4 x4 ∗ holds c arg5 x5 ∗ holds c arg6 x6 ∗ holds c arg7 x7 ∗ holds c arg9 x9 ∗ holds c arg11 x11 ∗ holds c arg12 x12 ∗ holds c arg13 x13 ∗ holds c arg14 x14 ∗ holds c arg15 x15 ∗ holds c arg16 (vOUT d20 (vStep (BitVec.ofNat 32 ((grid0.coords t) 0).val) d17 (R1 c A (te t)) x9 (R2 c B (te t)) x11 d18 d19 d21) d22 x13 x14 x15 x2) ∗ holds c sc17 d17 ∗ holds c sc18 d18 ∗ holds c sc19 d19 ∗ holds c sc20 d20 ∗ holds c sc21 (vStep (BitVec.ofNat 32 ((grid0.coords t) 0).val) d17 (R1 c A (te t)) x9 (R2 c B (te t)) x11 d18 d19 d21) ∗ holds c sc22 d22 ∗ (∃ W, owes (c : Thread nD τ) 0 W)) -∗ Q ⟨⟩)) ⊢
    wp frame (wpE (defs₀ (F := F)) Variants.none c none) Set.univ (cc0__moe_loss_kernel (F := F) (grid0.coords t) arg1 harg1 arg2 harg2 arg3 harg3 arg4 harg4 arg5 harg5 arg6 harg6 arg7 harg7 sc8 (Memref.isWhole_whole _) arg9 harg9 sc10 (Memref.isWhole_whole _) arg11 harg11 arg12 harg12 arg13 harg13 arg14 harg14 arg15 harg15 arg16 harg16 sc17 (Memref.isWhole_whole _) sc18 (Memref.isWhole_whole _) sc19 (Memref.isWhole_whole _) sc20 (Memref.isWhole_whole _) sc21 (Memref.isWhole_whole _) sc22 (Memref.isWhole_whole _) sc23 (Memref.isWhole_whole _) sc24 (Memref.isWhole_whole _) cc0_scratch8) Q := by
  iintro ⟨HS, HF, HO, X1, X2, X3, X4, X5, X6, X7, X9, X11, X12, X13, X14, X15, X16, D17, D18, D19, D20, D21, D22, Hk⟩
  iapply (kernel_hi (F := F) arg1 harg1 arg2 harg2 arg3 harg3 arg4 harg4 arg5 harg5 arg6 harg6 arg7 harg7 arg9 harg9 arg11 harg11 arg12 harg12 arg13 harg13 arg14 harg14 arg15 harg15 arg16 harg16 c t ht d20 (vStep (BitVec.ofNat 32 ((grid0.coords t) 0).val) d17 (R1 c A (te t)) x9 (R2 c B (te t)) x11 d18 d19 d21) d22 x13 x14 x15 x2 x16 iprop(slotN c A B (t.val + 1) ∗ freeS c A B t.val ∗ holds c arg1 x1 ∗ holds c arg3 x3 ∗ holds c arg4 x4 ∗ holds c arg5 x5 ∗ holds c arg6 x6 ∗ holds c arg7 x7 ∗ holds c arg9 x9 ∗ holds c arg11 x11 ∗ holds c arg12 x12 ∗ holds c sc17 d17 ∗ holds c sc18 d18 ∗ holds c sc19 d19 ∗ (∃ W, owes (c : Thread nD τ) 0 W)))
  isplitl [HS HF HO X1 X2 X3 X4 X5 X6 X7 X9 X11 X12 X13 X14 X15 X16 D17 D18 D19 D20 D21 D22]
  rotate_left 1
  · iintro ⟨D20, D21, D22, X13, X14, X15, X2, X16, HS, HF, X1, X3, X4, X5, X6, X7, X9, X11, X12, D17, D18, D19, HO⟩
    iapply Hk
    isplitl [HS]; · iexact HS
    isplitl [HF]; · iexact HF
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X9]; · iexact X9
    isplitl [X11]; · iexact X11
    isplitl [X12]; · iexact X12
    isplitl [X13]; · iexact X13
    isplitl [X14]; · iexact X14
    isplitl [X15]; · iexact X15
    isplitl [X16]; · iexact X16
    isplitl [D17]; · iexact D17
    isplitl [D18]; · iexact D18
    isplitl [D19]; · iexact D19
    isplitl [D20]; · iexact D20
    isplitl [D21]; · iexact D21
    isplitl [D22]; · iexact D22
    iexact HO
  iapply (part17_triple (F := F) arg1 harg1 arg2 harg2 arg3 harg3 arg4 harg4 arg5 harg5 arg6 harg6 arg7 harg7 arg9 harg9 arg11 harg11 arg12 harg12 arg13 harg13 arg14 harg14 arg15 harg15 arg16 harg16 c A B t d17 x9 x11 d18 d19 d21 iprop(slotN c A B (t.val + 1) ∗ holds c arg1 x1 ∗ holds c arg2 x2 ∗ holds c arg3 x3 ∗ holds c arg4 x4 ∗ holds c arg5 x5 ∗ holds c arg6 x6 ∗ holds c arg7 x7 ∗ holds c arg12 x12 ∗ holds c arg13 x13 ∗ holds c arg14 x14 ∗ holds c arg15 x15 ∗ holds c arg16 x16 ∗ holds c sc17 d17 ∗ holds c sc20 d20 ∗ holds c sc22 d22))
  isplitl [HS HF HO X1 X2 X3 X4 X5 X6 X7 X9 X11 X12 X13 X14 X15 X16 D17 D18 D19 D20 D21 D22]
  · iapply (part13_3 (F := F) arg1 harg1 arg2 harg2 arg3 harg3 arg4 harg4 arg5 harg5 arg6 harg6 arg7 harg7 arg9 harg9 arg11 harg11 arg12 harg12 arg13 harg13 arg14 harg14 arg15 harg15 arg16 harg16 c A B t ht W)
    isplitl [HS]; · iexact HS
    isplitl [HF]; · iexact HF
    isplitl [HO]; · iexact HO
    isplitl [X9]; · iexact X9
    isplitl [D17]; · iexact D17
    iintro %W1 ⟨HM, HS, X9, D17, HO⟩
    isplitr; · ipureintro; rfl
    isplitl [HM]; · iexact HM
    isplitl [X9]; · iexact X9
    isplitl [X11]; · iexact X11
    isplitl [D18]; · iexact D18
    isplitl [D19]; · iexact D19
    isplitl [D21]; · iexact D21
    isplitl [HO]; · iexists W1; iexact HO
    isplitl [HS]; · iexact HS
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X12]; · iexact X12
    isplitl [X13]; · iexact X13
    isplitl [X14]; · iexact X14
    isplitl [X15]; · iexact X15
    isplitl [X16]; · iexact X16
    isplitl [D17]; · iexact D17
    isplitl [D20]; · iexact D20
    iexact D22
  iintro %r ⟨HF, X9, X11, D18, D19, D21, HO, HS, X1, X2, X3, X4, X5, X6, X7, X12, X13, X14, X15, X16, D17, D20, D22⟩
  isplitl [D20]; · iexact D20
  isplitl [D21]; · iexact D21
  isplitl [D22]; · iexact D22
  isplitl [X13]; · iexact X13
  isplitl [X14]; · iexact X14
  isplitl [X15]; · iexact X15
  isplitl [X2]; · iexact X2
  isplitl [X16]; · iexact X16
  isplitl [HS]; · iexact HS
  isplitl [HF]; · iexact HF
  isplitl [X1]; · iexact X1
  isplitl [X3]; · iexact X3
  isplitl [X4]; · iexact X4
  isplitl [X5]; · iexact X5
  isplitl [X6]; · iexact X6
  isplitl [X7]; · iexact X7
  isplitl [X9]; · iexact X9
  isplitl [X11]; · iexact X11
  isplitl [X12]; · iexact X12
  isplitl [D17]; · iexact D17
  isplitl [D18]; · iexact D18
  isplitl [D19]; · iexact D19
  iexact HO

end Cert.KernelIdeal.Hand

end
-- ==== Proof.KernelIdeal.Data.lean ====
module

public import proofs.«01_k».proof.Proof.Gen.KernelIdeal.Frame
public import proofs.«01_k».proof.Proof.Gen.KernelIdeal.Skeleton
public import proofs.«01_k».proof.Proof.KernelIdeal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid's points and the windows' blocks -/

/-- The `n`th grid point. -/
def pt (n : ℕ) (h : n < 8) : Fin cfg0.N := ⟨n, lt_of_lt_of_eq h N_0.symm⟩

/-- Window 0's block at a point. -/
def b0 (c : Dev nD) (t : Fin cfg0.N) : Vec F S256x768 .f32 := iblk m c 0 t
/-- Window 1's block at a point. -/
def b1 (c : Dev nD) (t : Fin cfg0.N) : Vec F S3x16x16 .f32 := iblk m c 1 t
/-- Window 2's block at a point. -/
def b2 (c : Dev nD) (t : Fin cfg0.N) : Vec F S768x768 .f32 := iblk m c 2 t
/-- Window 3's block at a point. -/
def b3 (c : Dev nD) (t : Fin cfg0.N) : Vec F S1x768 .f32 := iblk m c 3 t
/-- Window 4's block at a point. -/
def b4 (c : Dev nD) (t : Fin cfg0.N) : Vec F S768x768 .f32 := iblk m c 4 t
/-- Window 5's block at a point. -/
def b5 (c : Dev nD) (t : Fin cfg0.N) : Vec F S1x768 .f32 := iblk m c 5 t
/-- Window 6's block at a point. -/
def b6 (c : Dev nD) (t : Fin cfg0.N) : Vec F S768x24 .f32 := iblk m c 6 t
/-- Window 7's block at a point. -/
def b7 (c : Dev nD) (t : Fin cfg0.N) : Vec F S1x1x1024 .f32 := iblk m c 7 t
/-- Window 8's block at a point. -/
def b8 (c : Dev nD) (t : Fin cfg0.N) : Vec F S1x1x768 .f32 := iblk m c 8 t
/-- Window 9's block at a point. -/
def b9 (c : Dev nD) (t : Fin cfg0.N) : Vec F S1x768x512 .f32 := iblk m c 9 t
/-- Window 10's block at a point. -/
def b10 (c : Dev nD) (t : Fin cfg0.N) : Vec F S3x512 .f32 := iblk m c 10 t
/-- Window 11's block at a point. -/
def b11 (c : Dev nD) (t : Fin cfg0.N) : Vec F S512x3 .f32 := iblk m c 11 t
/-- Window 12's block at a point. -/
def b12 (c : Dev nD) (t : Fin cfg0.N) : Vec F S1x3 .f32 := iblk m c 12 t

/-- The experts' weights as the launch finds them. -/
def wA (c : Dev nD) : Buf (Elt F) (l8 c) := V m c main_arg9
def wB (c : Dev nD) : Buf (Elt F) (l10 c) := V m c main_arg11

/-! ## What the scratch buffers hold -/

def sP (c : Dev nD) : Vec F S256x768 .bf16 := vP (b0 m c (pt 0 (by decide))) (b2 m c (pt 0 (by decide))) (b3 m c (pt 0 (by decide))) (b4 m c (pt 0 (by decide))) (b5 m c (pt 0 (by decide)))
def sGI (c : Dev nD) : Vec F S3x256x2 .i32 := rows (vGI (b0 m c (pt 0 (by decide))) (b2 m c (pt 0 (by decide))) (b3 m c (pt 0 (by decide))) (b4 m c (pt 0 (by decide))) (b5 m c (pt 0 (by decide))) (b6 m c (pt 0 (by decide))))
def sGV (c : Dev nD) : Vec F S3x256x2 .f32 := rows (vGV (b0 m c (pt 0 (by decide))) (b2 m c (pt 0 (by decide))) (b3 m c (pt 0 (by decide))) (b4 m c (pt 0 (by decide))) (b5 m c (pt 0 (by decide))) (b6 m c (pt 0 (by decide))))
def sAX (c : Dev nD) : Vec F S3 .f32 := fun y => vAUX (b0 m c (pt 0 (by decide))) (b2 m c (pt 0 (by decide))) (b3 m c (pt 0 (by decide))) (b4 m c (pt 0 (by decide))) (b5 m c (pt 0 (by decide))) (b6 m c (pt 0 (by decide))) (y 0)
/-- The three mixtures before point `n`. -/
def sY (c : Dev nD) : ℕ → Vec F S3x256x768 .bf16
  | 0 => k0_pay65
  | n + 1 => if h : n < 8 then vStep (BitVec.ofNat 32 n) (sP m c) (R1 c (wA m c) ⟨n, h⟩) (b7 m c (pt n h)) (R2 c (wB m c) ⟨n, h⟩) (b8 m c (pt n h)) (sGI m c) (sGV m c) (sY c n)
      else sY c n
/-- The tower weights, gathered over the first three points. -/
def sT (c : Dev nD) : Vec F S3x768x512 .f32 := rows fun j : Fin 3 => k0_pay66 (b9 m c (pt j.val (by omega)))
/-- The loss the last point stores. -/
def sOUT (c : Dev nD) : Vec F S1x1 .f32 :=
  vOUT (sAX m c) (sY m c 8) (sT m c) (b10 m c (pt 7 (by decide))) (b11 m c (pt 7 (by decide))) (b12 m c (pt 7 (by decide))) (b1 m c (pt 7 (by decide)))

/-- What the scratch buffers are known to hold before point `k`. -/
def known (c : Dev nD) (k : ℕ) (d17 : Vec F S256x768 .bf16) (d18 : Vec F S3x256x2 .i32) (d19 : Vec F S3x256x2 .f32) (d20 : Vec F S3 .f32) (d21 : Vec F S3x256x768 .bf16) (d22 : Vec F S3x768x512 .f32) : Prop :=
  (0 < k → d17 = sP m c ∧ d18 = sGI m c ∧ d19 = sGV m c ∧ d20 = sAX m c ∧ d21 = sY m c k)
    ∧ ∀ y, (y 0).val < k → d22 y = sT m c y

/-- The invariant before point `k`. -/
def inv0 (c : Dev nD) (k : ℕ) : sProp 𝕄 :=
  iprop((∃ d17 d18 d19 d20 d21 d22, ⌜known m c k d17 d18 d19 d20 d21 d22⌝
      ∗ holds c sc17 d17 ∗ holds c sc18 d18 ∗ holds c sc19 d19 ∗ holds c sc20 d20 ∗ holds c sc21 d21 ∗ holds c sc22 d22)
    ∗ (if k = 0 then freeS c (wA m c) (wB m c) 0 else slotN c (wA m c) (wB m c) k) ∗ freeS c (wA m c) (wB m c) (k + 1) ∗ (∃ r, prngReg c r))

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => sOUT m c
    | ⟨_ + 14, h⟩ => absurd h (Nat.not_lt.2 (Nat.le_add_left _ _))
  Φ k := inv0 m c k.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)

theorem coord_val : ∀ t : Fin grid0.N, ((grid0.coords t) 0).val = t.val := by decide

/-! ## From one point to the next -/

theorem known_put (c : Dev nD) (t : Fin grid0.N) (h3 : t.val < 3) (d22 : Vec F S3x768x512 .f32) (h : ∀ y, (y 0).val < t.val → d22 y = sT m c y) (y) (hy : (y 0).val < t.val + 1) :
    VecWindow.put d22 ![t.val, 0, 0] S1x768x512.size (k0_pay66 (b9 m c t)) y = sT m c y := by
  refine (put_row d22 ⟨t.val, h3⟩ _ y).trans ?_
  by_cases hh : (y 0).val = t.val
  · rw [if_pos hh]
    have hy0 : y 0 = (⟨t.val, h3⟩ : Fin 3) := Fin.ext hh
    unfold sT rows
    rw [hy0]
    rfl
  · rw [if_neg hh]
    exact h y (by omega)

theorem known_zero (c : Dev nD) (t : Fin grid0.N) (ht : t.val = 0) (d22 : Vec F S3x768x512 .f32) :
    known m c (t.val + 1) (vP (b0 m c t) (b2 m c t) (b3 m c t) (b4 m c t) (b5 m c t)) (rows (vGI (b0 m c t) (b2 m c t) (b3 m c t) (b4 m c t) (b5 m c t) (b6 m c t)))
      (rows (vGV (b0 m c t) (b2 m c t) (b3 m c t) (b4 m c t) (b5 m c t) (b6 m c t))) (fun y => vAUX (b0 m c t) (b2 m c t) (b3 m c t) (b4 m c t) (b5 m c t) (b6 m c t) (y 0))
      (vStep (BitVec.ofNat 32 ((grid0.coords t) 0).val) (vP (b0 m c t) (b2 m c t) (b3 m c t) (b4 m c t) (b5 m c t)) (R1 c (wA m c) (te t)) (b7 m c t) (R2 c (wB m c) (te t)) (b8 m c t)
        (rows (vGI (b0 m c t) (b2 m c t) (b3 m c t) (b4 m c t) (b5 m c t) (b6 m c t))) (rows (vGV (b0 m c t) (b2 m c t) (b3 m c t) (b4 m c t) (b5 m c t) (b6 m c t))) k0_pay65)
      (VecWindow.put d22 ![t.val, 0, 0] S1x768x512.size (k0_pay66 (b9 m c t))) := by
  refine ⟨fun _ => ?_, known_put m c t (by omega) d22 fun y hy => by omega⟩
  obtain rfl : t = pt 0 (by decide) := Fin.ext ht
  exact ⟨rfl, rfl, rfl, rfl, by rw [coord_val]; rfl⟩

theorem sY_succ (c : Dev nD) (t : Fin grid0.N) : sY m c (t.val + 1) = vStep (BitVec.ofNat 32 ((grid0.coords t) 0).val) (sP m c) (R1 c (wA m c) (te t)) (b7 m c t) (R2 c (wB m c) (te t)) (b8 m c t) (sGI m c) (sGV m c) (sY m c t.val) := by
  have h : t.val < 8 := lt_of_lt_of_eq t.isLt N_0
  rw [sY, dif_pos h, coord_val]
  rfl

theorem known_succ (c : Dev nD) (t : Fin grid0.N) (h0 : 0 < t.val) {d17 d18 d19 d20 d21 d22} (hk : known m c t.val d17 d18 d19 d20 d21 d22) (d22' : Vec F S3x768x512 .f32)
    (h22 : ∀ y, (y 0).val < t.val + 1 → d22' y = sT m c y) :
    known m c (t.val + 1) d17 d18 d19 d20 (vStep (BitVec.ofNat 32 ((grid0.coords t) 0).val) d17 (R1 c (wA m c) (te t)) (b7 m c t) (R2 c (wB m c) (te t)) (b8 m c t) d18 d19 d21) d22' := by
  obtain ⟨e17, e18, e19, e20, e21⟩ := hk.1 h0
  subst e17 e18 e19 e20 e21
  exact ⟨fun _ => ⟨rfl, rfl, rfl, rfl, (sY_succ m c t).symm⟩, h22⟩

end Cert.KernelIdeal.Hand

end
-- ==== Proof.KernelIdeal.Ends.lean ====
module

public import proofs.«01_k».proof.Proof.Gen.KernelIdeal.Frame
public import proofs.«01_k».proof.Proof.Gen.KernelIdeal.Skeleton
public import proofs.«01_k».proof.Proof.KernelIdeal.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The two weight slots cut in halves, the two expert arrays cut in shares -/

theorem cover23 (c : Dev nD) : (half1 c 0 0 ∪ half1 c 0 1) ∪ (half1 c 1 0 ∪ half1 c 1 1) = Finset.univ := by
  refine Finset.eq_univ_iff_forall.mpr fun (y : S2x768x1024.Idx) => ?_
  have h0 : (y 0).val < 2 := (y 0).isLt
  have h1 : (y 2).val < 1024 := (y 2).isLt
  unfold half1
  simp only [Finset.mem_union, Finset.mem_filter, Finset.mem_univ, true_and]
  omega
theorem slots_disj23 (c : Dev nD) : Disjoint (half1 c 0 0 ∪ half1 c 0 1) (half1 c 1 0 ∪ half1 c 1 1) := by
  refine Finset.disjoint_left.mpr fun (y : S2x768x1024.Idx) => ?_
  unfold half1
  simp only [Finset.mem_union, Finset.mem_filter, Finset.mem_univ, true_and]
  omega

/-- The whole slot buffer is its four halves. -/
theorem split23 (c : Dev nD) (f : Buf (Elt F) (l23 c)) :
    (l23 c ↦{fullShare} f : sProp 𝕄) ⊢ iprop(((l23 c ↦[half1 c 0 0]{fullShare} f) ∗ (l23 c ↦[half1 c 0 1]{fullShare} f)) ∗ (l23 c ↦[half1 c 1 0]{fullShare} f) ∗ (l23 c ↦[half1 c 1 1]{fullShare} f)) := by
  rw [← cover23 c]
  iintro H
  ihave H := (pointsTo_union (slots_disj23 c)).1 $$ H
  icases H with ⟨HL, HR⟩
  ihave HL := (pointsTo_union (half1_disj c 0)).1 $$ HL
  ihave HR := (pointsTo_union (half1_disj c 1)).1 $$ HR
  isplitl [HL]; · iexact HL
  iexact HR

/-- Its four halves, whatever each holds, are the whole slot buffer. -/
theorem join23 (c : Dev nD) (f0 f1 f2 f3 : Buf (Elt F) (l23 c)) :
    iprop(((l23 c ↦[half1 c 0 0]{fullShare} f0) ∗ (l23 c ↦[half1 c 0 1]{fullShare} f1)) ∗ (l23 c ↦[half1 c 1 0]{fullShare} f2) ∗ (l23 c ↦[half1 c 1 1]{fullShare} f3))
      ⊢ (iprop(∃ f, l23 c ↦{fullShare} f) : sProp 𝕄) := by
  iintro ⟨HL, HR⟩
  ihave HL := (pointsTo_join (half1_disj c 0)) $$ HL
  ihave HR := (pointsTo_join (half1_disj c 1)) $$ HR
  ihave H := (pointsTo_join (slots_disj23 c)) $$ [HL HR]
  · isplitl [HL]; · iexact HL
    iexact HR
  iexists _
  rw [← cover23 c]
  iexact H

theorem cover24 (c : Dev nD) : (half2 c 0 0 ∪ half2 c 0 1) ∪ (half2 c 1 0 ∪ half2 c 1 1) = Finset.univ := by
  refine Finset.eq_univ_iff_forall.mpr fun (y : S2x1024x768.Idx) => ?_
  have h0 : (y 0).val < 2 := (y 0).isLt
  have h1 : (y 1).val < 1024 := (y 1).isLt
  unfold half2
  simp only [Finset.mem_union, Finset.mem_filter, Finset.mem_univ, true_and]
  omega
theorem slots_disj24 (c : Dev nD) : Disjoint (half2 c 0 0 ∪ half2 c 0 1) (half2 c 1 0 ∪ half2 c 1 1) := by
  refine Finset.disjoint_left.mpr fun (y : S2x1024x768.Idx) => ?_
  unfold half2
  simp only [Finset.mem_union, Finset.mem_filter, Finset.mem_univ, true_and]
  omega

/-- The whole slot buffer is its four halves. -/
theorem split24 (c : Dev nD) (f : Buf (Elt F) (l24 c)) :
    (l24 c ↦{fullShare} f : sProp 𝕄) ⊢ iprop(((l24 c ↦[half2 c 0 0]{fullShare} f) ∗ (l24 c ↦[half2 c 0 1]{fullShare} f)) ∗ (l24 c ↦[half2 c 1 0]{fullShare} f) ∗ (l24 c ↦[half2 c 1 1]{fullShare} f)) := by
  rw [← cover24 c]
  iintro H
  ihave H := (pointsTo_union (slots_disj24 c)).1 $$ H
  icases H with ⟨HL, HR⟩
  ihave HL := (pointsTo_union (half2_disj c 0)).1 $$ HL
  ihave HR := (pointsTo_union (half2_disj c 1)).1 $$ HR
  isplitl [HL]; · iexact HL
  iexact HR

/-- Its four halves, whatever each holds, are the whole slot buffer. -/
theorem join24 (c : Dev nD) (f0 f1 f2 f3 : Buf (Elt F) (l24 c)) :
    iprop(((l24 c ↦[half2 c 0 0]{fullShare} f0) ∗ (l24 c ↦[half2 c 0 1]{fullShare} f1)) ∗ (l24 c ↦[half2 c 1 0]{fullShare} f2) ∗ (l24 c ↦[half2 c 1 1]{fullShare} f3))
      ⊢ (iprop(∃ f, l24 c ↦{fullShare} f) : sProp 𝕄) := by
  iintro ⟨HL, HR⟩
  ihave HL := (pointsTo_join (half2_disj c 0)) $$ HL
  ihave HR := (pointsTo_join (half2_disj c 1)) $$ HR
  ihave H := (pointsTo_join (slots_disj24 c)) $$ [HL HR]
  · isplitl [HL]; · iexact HL
    iexact HR
  iexists _
  rw [← cover24 c]
  iexact H

/-- A whole array at the full share is the four shares its transfers read at. -/
theorem shares {ℓ : Loc nD τ sig} (f : Buf (Elt F) ℓ) :
    (ℓ ↦{fullShare} f : sProp 𝕄) ⊣⊢ iprop(((ℓ ↦{qq 0 0} f) ∗ (ℓ ↦{qq 0 1} f)) ∗ (ℓ ↦{qq 1 0} f) ∗ (ℓ ↦{qq 1 1} f)) := by
  have h1 : qq 0 0 = PosShare.left (PosShare.left fullShare) := rfl
  have h2 : qq 0 1 = PosShare.right (PosShare.left fullShare) := rfl
  have h3 : qq 1 0 = PosShare.left (PosShare.right fullShare) := rfl
  have h4 : qq 1 1 = PosShare.right (PosShare.right fullShare) := rfl
  rw [h1, h2, h3, h4]
  constructor
  · iintro H
    ihave H := (pointsTo_share (PosShare.mem_left_op_right fullShare)).1 $$ H
    icases H with ⟨HL, HR⟩
    ihave HL := (pointsTo_share (PosShare.mem_left_op_right (PosShare.left fullShare))).1 $$ HL
    ihave HR := (pointsTo_share (PosShare.mem_left_op_right (PosShare.right fullShare))).1 $$ HR
    isplitl [HL]; · iexact HL
    iexact HR
  · iintro ⟨HL, HR⟩
    ihave HL := (pointsTo_share (PosShare.mem_left_op_right (PosShare.left fullShare))).2 $$ HL
    ihave HR := (pointsTo_share (PosShare.mem_left_op_right (PosShare.right fullShare))).2 $$ HR
    iapply (pointsTo_share (PosShare.mem_left_op_right fullShare)).2
    isplitl [HL]; · iexact HL
    iexact HR

/-! ## The kernel's own semaphores and the arrays its transfers read -/

abbrev osem0 : Fin 8 → SemLoc sig := fun j => (![SemLoc.dma 17, SemLoc.dma 18, SemLoc.dma 19, SemLoc.dma 20, SemLoc.dma 21, SemLoc.dma 22, SemLoc.dma 23, SemLoc.dma 24] : Fin 8 → SemLoc sig) j
theorem ownSemFacts0 : Pipeline.OwnSemFacts spec0 osem0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (cell 0 0)) 0 ∗ semVal ((c : Thread nD τ), .dma (cell 0 1)) 0 ∗ semVal ((c : Thread nD τ), .dma (cell 0 2)) 0 ∗ semVal ((c : Thread nD τ), .dma (cell 0 3)) 0
        ∗ semVal ((c : Thread nD τ), .dma (cell 1 0)) 0 ∗ semVal ((c : Thread nD τ), .dma (cell 1 1)) 0 ∗ semVal ((c : Thread nD τ), .dma (cell 1 2)) 0 ∗ semVal ((c : Thread nD τ), .dma (cell 1 3)) 0) := by
  rw [Pipeline.ownSems0_eq_of_list c osem0 [0, 1, 2, 3, 4, 5, 6, 7] (by decide) (by decide),
    show cell 0 0 = 17 by decide, show cell 0 1 = 18 by decide, show cell 0 2 = 19 by decide, show cell 0 3 = 20 by decide,
    show cell 1 0 = 21 by decide, show cell 1 1 = 22 by decide, show cell 1 2 = 23 by decide, show cell 1 3 = 24 by decide]
  rfl

abbrev H0 : Finset (Ref sig .tc) := {main_arg9, main_arg11}
theorem H0_sub : H0 ⊆ Pipeline.restRefs sig spec0 := by decide

theorem hbm_eq (c : Dev nD) :
    (bigSep H0 fun b => ((c : Thread nD τ).loc b) ↦{fullShare} V m c b : sProp 𝕄) = iprop((l8 c ↦{fullShare} wA m c) ∗ (l10 c ↦{fullShare} wB m c)) := by
  rw [BI.bigSep_eq_bigSepL_of_eq [main_arg9, main_arg11] (by decide) (by decide)]
  rfl

/-! ## Both slots at rest: what the launch hands over, and what it takes back -/

/-- From the weight slots, the expert arrays and the cells, all whole, both slots at rest. -/
theorem rest_in (c : Dev nD) (A : Buf (Elt F) (l8 c)) (B : Buf (Elt F) (l10 c)) (f : Buf (Elt F) (l23 c)) (g : Buf (Elt F) (l24 c)) :
    iprop((l23 c ↦{fullShare} f) ∗ (l24 c ↦{fullShare} g) ∗ ((l8 c ↦{fullShare} A) ∗ (l10 c ↦{fullShare} B)) ∗ Pipeline.ownSems0 (Ix := Unit) (Name := ℕ) (U := Pipeline.UD sig nD τ) (Lvl := ℕ) (Val := Elt F) (τ := τ) osem0 c)
      ⊢ (iprop(freeS c A B 0 ∗ freeS c A B 1) : sProp 𝕄) := by
  rw [ownSems_eq]
  iintro ⟨H23, H24, ⟨H8, H10⟩, S0, S1, S2, S3, S4, S5, S6, S7⟩
  ihave H23 := split23 c f $$ H23
  ihave H24 := split24 c g $$ H24
  ihave H8 := (shares A).1 $$ H8
  ihave H10 := (shares B).1 $$ H10
  icases H23 with ⟨⟨P0, P1⟩, P2, P3⟩
  icases H24 with ⟨⟨R0, R1⟩, R2, R3⟩
  icases H8 with ⟨⟨A0, A1⟩, A2, A3⟩
  icases H10 with ⟨⟨B0, B1⟩, B2, B3⟩
  unfold freeS free1 free2
  isplitl [P0 P1 R0 R1 A0 A1 B0 B1 S0 S1 S2 S3]
  · isplitl [P0 A0 S0]
    · isplitl [P0]; · iexists f; iexact P0
      isplitl [A0]; · iexact A0
      iexact S0
    isplitl [P1 A1 S1]
    · isplitl [P1]; · iexists f; iexact P1
      isplitl [A1]; · iexact A1
      iexact S1
    isplitl [R0 B0 S2]
    · isplitl [R0]; · iexists g; iexact R0
      isplitl [B0]; · iexact B0
      iexact S2
    isplitl [R1]; · iexists g; iexact R1
    isplitl [B1]; · iexact B1
    iexact S3
  · isplitl [P2 A2 S4]
    · isplitl [P2]; · iexists f; iexact P2
      isplitl [A2]; · iexact A2
      iexact S4
    isplitl [P3 A3 S5]
    · isplitl [P3]; · iexists f; iexact P3
      isplitl [A3]; · iexact A3
      iexact S5
    isplitl [R2 B2 S6]
    · isplitl [R2]; · iexists g; iexact R2
      isplitl [B2]; · iexact B2
      iexact S6
    isplitl [R3]; · iexists g; iexact R3
    isplitl [B3]; · iexact B3
    iexact S7

/-- And back. -/
theorem rest_out (c : Dev nD) (A : Buf (Elt F) (l8 c)) (B : Buf (Elt F) (l10 c)) :
    (iprop(freeS c A B 0 ∗ freeS c A B 1) : sProp 𝕄)
      ⊢ iprop((∃ f, l23 c ↦{fullShare} f) ∗ (∃ g, l24 c ↦{fullShare} g) ∗ ((l8 c ↦{fullShare} A) ∗ (l10 c ↦{fullShare} B)) ∗ Pipeline.ownSems0 (Ix := Unit) (Name := ℕ) (U := Pipeline.UD sig nD τ) (Lvl := ℕ) (Val := Elt F) (τ := τ) osem0 c) := by
  rw [ownSems_eq]
  unfold freeS free1 free2
  iintro ⟨⟨⟨⟨%f0, P0⟩, A0, S0⟩, ⟨⟨%f1, P1⟩, A1, S1⟩, ⟨⟨%g0, R0⟩, B0, S2⟩, ⟨⟨%g1, R1⟩, B1, S3⟩⟩, ⟨⟨⟨%f2, P2⟩, A2, S4⟩, ⟨⟨%f3, P3⟩, A3, S5⟩, ⟨⟨%g2, R2⟩, B2, S6⟩, ⟨⟨%g3, R3⟩, B3, S7⟩⟩⟩
  isplitl [P0 P1 P2 P3]
  · iapply join23 c f0 f1 f2 f3
    isplitl [P0 P1]
    · isplitl [P0]; · iexact P0
      iexact P1
    isplitl [P2]; · iexact P2
    iexact P3
  isplitl [R0 R1 R2 R3]
  · iapply join24 c g0 g1 g2 g3
    isplitl [R0 R1]
    · isplitl [R0]; · iexact R0
      iexact R1
    isplitl [R2]; · iexact R2
    iexact R3
  isplitl [A0 A1 A2 A3 B0 B1 B2 B3]
  · isplitl [A0 A1 A2 A3]
    · iapply (shares A).2
      isplitl [A0 A1]
      · isplitl [A0]; · iexact A0
        iexact A1
      isplitl [A2]; · iexact A2
      iexact A3
    · iapply (shares B).2
      isplitl [B0 B1]
      · isplitl [B0]; · iexact B0
        iexact B1
      isplitl [B2]; · iexact B2
      iexact B3
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

/-! ## The invariant's two ends -/

theorem rest_step (c : Dev nD) (m₀ : (ℓ : Loc nD τ sig) → Buf (Elt F) ℓ) : slotN c (wA m₀ c) (wB m₀ c) 8 = freeS c (wA m₀ c) (wB m₀ c) 0 := by
  unfold slotN
  rw [dif_neg (by decide)]
  exact freeS_mod c _ _ 8 0 rfl

theorem ends_in (c : Dev nD) : (Pipeline.ΦD osem0 spec0 H0 (V m) c : sProp 𝕄) ⊢ inv0 m c 0 := by
  rw [Pipeline.ΦD_eq, scopedRest0_eq, hbm_eq]
  unfold inv0
  rw [if_pos rfl]
  iintro ⟨⟨⟨%f17, H17⟩, ⟨%f18, H18⟩, ⟨%f19, H19⟩, ⟨%f21, H21⟩, ⟨%f22, H22⟩, ⟨%f23, H23⟩, ⟨%f24, H24⟩, ⟨%f20, H20⟩⟩, Hg, Hs, Hh⟩
  ihave HF := rest_in c (wA m c) (wB m c) f23 f24 $$ [H23 H24 Hh Hs]
  · isplitl [H23]; · iexact H23
    isplitl [H24]; · iexact H24
    isplitl [Hh]; · iexact Hh
    iexact Hs
  icases HF with ⟨HF0, HF1⟩
  isplitr [HF0 HF1 Hg]
  · iexists f17; iexists f18; iexists f19; iexists f20; iexists f21; iexists f22
    isplitr
    · ipureintro; exact ⟨fun h => absurd h (lt_irrefl 0), fun y hy => absurd hy (Nat.not_lt_zero _)⟩
    unfold holds
    rw [owns_whole, owns_whole, owns_whole, owns_whole, owns_whole, owns_whole]
    isplitl [H17]; · iexact H17
    isplitl [H18]; · iexact H18
    isplitl [H19]; · iexact H19
    isplitl [H20]; · iexact H20
    isplitl [H21]; · iexact H21
    iexact H22
  isplitl [HF0]; · iexact HF0
  isplitl [HF1]; · iexact HF1
  iexact Hg

theorem ends_out (c : Dev nD) : inv0 m c 8 ⊢ (Pipeline.ΦD osem0 spec0 H0 (V m) c : sProp 𝕄) := by
  rw [Pipeline.ΦD_eq, scopedRest0_eq, hbm_eq]
  unfold inv0
  rw [if_neg (by decide), rest_step, freeS_mod c (wA m c) (wB m c) (8 + 1) 1 rfl]
  unfold holds
  iintro ⟨⟨%d17, %d18, %d19, %d20, %d21, %d22, -, H17, H18, H19, H20, H21, H22⟩, HF0, HF1, Hg⟩
  ihave HR := rest_out c (wA m c) (wB m c) $$ [HF0 HF1]
  · isplitl [HF0]; · iexact HF0
    iexact HF1
  icases HR with ⟨H23, H24, Hh, Hs⟩
  ihave H17 := (Entails.of_eq (owns_whole _ _ _ _)) $$ H17
  ihave H18 := (Entails.of_eq (owns_whole _ _ _ _)) $$ H18
  ihave H19 := (Entails.of_eq (owns_whole _ _ _ _)) $$ H19
  ihave H20 := (Entails.of_eq (owns_whole _ _ _ _)) $$ H20
  ihave H21 := (Entails.of_eq (owns_whole _ _ _ _)) $$ H21
  ihave H22 := (Entails.of_eq (owns_whole _ _ _ _)) $$ H22
  isplitr [Hg Hs Hh]
  · isplitl [H17]; · iexists d17; iexact H17
    isplitl [H18]; · iexists d18; iexact H18
    isplitl [H19]; · iexists d19; iexact H19
    isplitl [H21]; · iexists d21; iexact H21
    isplitl [H22]; · iexists d22; iexact H22
    isplitl [H23]; · iexact H23
    isplitl [H24]; · iexact H24
    iexists d20; iexact H20
  isplitl [Hg]; · iexact Hg
  isplitl [Hs]; · iexact Hs
  iexact Hh

end Cert.KernelIdeal.Hand

end
-- ==== Proof.KernelIdeal.Points.lean ====
module

public import proofs.«01_k».proof.Proof.Gen.KernelIdeal.Frame
public import proofs.«01_k».proof.Proof.Gen.KernelIdeal.Skeleton
public import proofs.«01_k».proof.Proof.KernelIdeal.Ends

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at the first point, between the invariants there. -/
theorem body_0 (c : Dev nD) (t : Fin cfg0.N) (ht : t.val = 0) (W : Waits sig Unit) (x16 : Vec F S1x1 .f32) (Q : PUnit → sProp 𝕄) :
    iprop(inv0 m c t.val ∗ owes (c : Thread nD τ) 0 W ∗ holds c (win0_0.stage (cfg0.slots t 0)) (b0 m c t) ∗ holds c (win0_1.stage (cfg0.slots t 1)) (b1 m c t) ∗ holds c (win0_2.stage (cfg0.slots t 2)) (b2 m c t) ∗ holds c (win0_3.stage (cfg0.slots t 3)) (b3 m c t) ∗ holds c (win0_4.stage (cfg0.slots t 4)) (b4 m c t) ∗ holds c (win0_5.stage (cfg0.slots t 5)) (b5 m c t) ∗ holds c (win0_6.stage (cfg0.slots t 6)) (b6 m c t) ∗ holds c (win0_7.stage (cfg0.slots t 7)) (b7 m c t) ∗ holds c (win0_8.stage (cfg0.slots t 8)) (b8 m c t) ∗ holds c (win0_9.stage (cfg0.slots t 9)) (b9 m c t) ∗ holds c (win0_10.stage (cfg0.slots t 10)) (b10 m c t) ∗ holds c (win0_11.stage (cfg0.slots t 11)) (b11 m c t) ∗ holds c (win0_12.stage (cfg0.slots t 12)) (b12 m c t) ∗ holds c (win0_13.stage (cfg0.slots t 13)) x16
      ∗ ((inv0 m c (t.val + 1) ∗ (∃ W, owes (c : Thread nD τ) 0 W) ∗ holds c (win0_0.stage (cfg0.slots t 0)) (b0 m c t) ∗ holds c (win0_1.stage (cfg0.slots t 1)) (b1 m c t) ∗ holds c (win0_2.stage (cfg0.slots t 2)) (b2 m c t) ∗ holds c (win0_3.stage (cfg0.slots t 3)) (b3 m c t) ∗ holds c (win0_4.stage (cfg0.slots t 4)) (b4 m c t) ∗ holds c (win0_5.stage (cfg0.slots t 5)) (b5 m c t) ∗ holds c (win0_6.stage (cfg0.slots t 6)) (b6 m c t) ∗ holds c (win0_7.stage (cfg0.slots t 7)) (b7 m c t) ∗ holds c (win0_8.stage (cfg0.slots t 8)) (b8 m c t) ∗ holds c (win0_9.stage (cfg0.slots t 9)) (b9 m c t) ∗ holds c (win0_10.stage (cfg0.slots t 10)) (b10 m c t) ∗ holds c (win0_11.stage (cfg0.slots t 11)) (b11 m c t) ∗ holds c (win0_12.stage (cfg0.slots t 12)) (b12 m c t) ∗ holds c (win0_13.stage (cfg0.slots t 13)) x16) -∗ Q ⟨⟩))
      ⊢ wp frame (wpE (defs₀ (F := F)) Variants.none c none) Set.univ (bodyAt0 t) Q := by
  have hN : t.val < 8 := lt_of_lt_of_eq t.isLt N_0
  unfold inv0
  rw [if_pos ht, if_neg (Nat.succ_ne_zero _)]
  iintro ⟨⟨⟨%d17, %d18, %d19, %d20, %d21, %d22, %hk, H17, H18, H19, H20, H21, H22⟩, HS, HF, Hg⟩, HW, H0, H1, H2, H3, H4, H5, H6, H7, H8, H9, H10, H11, H12, H13, Hk⟩
  iapply (step_0 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) c (wA m c) (wB m c) t ht W (b0 m c t) (b1 m c t) (b2 m c t) (b3 m c t) (b4 m c t) (b5 m c t) (b6 m c t) (b7 m c t) (b8 m c t) (b9 m c t) (b10 m c t) (b11 m c t) (b12 m c t) x16 d17 d18 d19 d20 d21 d22 Q)
  isplitl [HS]; · iexact HS
  isplitl [HF]; · iexact HF
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H17]; · iexact H17
  isplitl [H18]; · iexact H18
  isplitl [H19]; · iexact H19
  isplitl [H20]; · iexact H20
  isplitl [H21]; · iexact H21
  isplitl [H22]; · iexact H22
  iintro ⟨HS, HF, H0, H1, H2, H3, H4, H5, H6, H7, H8, H9, H10, H11, H12, H13, H17, H18, H19, H20, H21, H22, HW⟩
  ihave HF := (Entails.of_eq (freeS_mod c (wA m c) (wB m c) t.val (t.val + 1 + 1) (by omega))) $$ HF
  iapply Hk
  isplitl [H17 H18 H19 H20 H21 H22 HS HF Hg]
  · isplitl [H17 H18 H19 H20 H21 H22]
    · iexists _; iexists _; iexists _; iexists _; iexists _; iexists _
      isplitr
      · ipureintro; exact known_zero m c t ht d22
      isplitl [H17]; · iexact H17
      isplitl [H18]; · iexact H18
      isplitl [H19]; · iexact H19
      isplitl [H20]; · iexact H20
      isplitl [H21]; · iexact H21
      iexact H22
    isplitl [HS]; · iexact HS
    isplitl [HF]; · iexact HF
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at the second and third points, between the invariants there. -/
theorem body_1 (c : Dev nD) (t : Fin cfg0.N) (h0 : 0 < t.val) (h3 : t.val < 3) (W : Waits sig Unit) (x16 : Vec F S1x1 .f32) (Q : PUnit → sProp 𝕄) :
    iprop(inv0 m c t.val ∗ owes (c : Thread nD τ) 0 W ∗ holds c (win0_0.stage (cfg0.slots t 0)) (b0 m c t) ∗ holds c (win0_1.stage (cfg0.slots t 1)) (b1 m c t) ∗ holds c (win0_2.stage (cfg0.slots t 2)) (b2 m c t) ∗ holds c (win0_3.stage (cfg0.slots t 3)) (b3 m c t) ∗ holds c (win0_4.stage (cfg0.slots t 4)) (b4 m c t) ∗ holds c (win0_5.stage (cfg0.slots t 5)) (b5 m c t) ∗ holds c (win0_6.stage (cfg0.slots t 6)) (b6 m c t) ∗ holds c (win0_7.stage (cfg0.slots t 7)) (b7 m c t) ∗ holds c (win0_8.stage (cfg0.slots t 8)) (b8 m c t) ∗ holds c (win0_9.stage (cfg0.slots t 9)) (b9 m c t) ∗ holds c (win0_10.stage (cfg0.slots t 10)) (b10 m c t) ∗ holds c (win0_11.stage (cfg0.slots t 11)) (b11 m c t) ∗ holds c (win0_12.stage (cfg0.slots t 12)) (b12 m c t) ∗ holds c (win0_13.stage (cfg0.slots t 13)) x16
      ∗ ((inv0 m c (t.val + 1) ∗ (∃ W, owes (c : Thread nD τ) 0 W) ∗ holds c (win0_0.stage (cfg0.slots t 0)) (b0 m c t) ∗ holds c (win0_1.stage (cfg0.slots t 1)) (b1 m c t) ∗ holds c (win0_2.stage (cfg0.slots t 2)) (b2 m c t) ∗ holds c (win0_3.stage (cfg0.slots t 3)) (b3 m c t) ∗ holds c (win0_4.stage (cfg0.slots t 4)) (b4 m c t) ∗ holds c (win0_5.stage (cfg0.slots t 5)) (b5 m c t) ∗ holds c (win0_6.stage (cfg0.slots t 6)) (b6 m c t) ∗ holds c (win0_7.stage (cfg0.slots t 7)) (b7 m c t) ∗ holds c (win0_8.stage (cfg0.slots t 8)) (b8 m c t) ∗ holds c (win0_9.stage (cfg0.slots t 9)) (b9 m c t) ∗ holds c (win0_10.stage (cfg0.slots t 10)) (b10 m c t) ∗ holds c (win0_11.stage (cfg0.slots t 11)) (b11 m c t) ∗ holds c (win0_12.stage (cfg0.slots t 12)) (b12 m c t) ∗ holds c (win0_13.stage (cfg0.slots t 13)) x16) -∗ Q ⟨⟩))
      ⊢ wp frame (wpE (defs₀ (F := F)) Variants.none c none) Set.univ (bodyAt0 t) Q := by
  have hN : t.val < 8 := lt_of_lt_of_eq t.isLt N_0
  unfold inv0
  rw [if_neg (by omega), if_neg (Nat.succ_ne_zero _)]
  rw [show slotN c (wA m c) (wB m c) t.val = flyS c (wA m c) (wB m c) t.val (te t) by unfold slotN; rw [dif_pos hN]; rfl]
  iintro ⟨⟨⟨%d17, %d18, %d19, %d20, %d21, %d22, %hk, H17, H18, H19, H20, H21, H22⟩, HS, HF, Hg⟩, HW, H0, H1, H2, H3, H4, H5, H6, H7, H8, H9, H10, H11, H12, H13, Hk⟩
  iapply (step_1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) c (wA m c) (wB m c) t h0 h3 W (b0 m c t) (b1 m c t) (b2 m c t) (b3 m c t) (b4 m c t) (b5 m c t) (b6 m c t) (b7 m c t) (b8 m c t) (b9 m c t) (b10 m c t) (b11 m c t) (b12 m c t) x16 d17 d18 d19 d20 d21 d22 Q)
  isplitl [HS]; · iexact HS
  isplitl [HF]; · iexact HF
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H17]; · iexact H17
  isplitl [H18]; · iexact H18
  isplitl [H19]; · iexact H19
  isplitl [H20]; · iexact H20
  isplitl [H21]; · iexact H21
  isplitl [H22]; · iexact H22
  iintro ⟨HS, HF, H0, H1, H2, H3, H4, H5, H6, H7, H8, H9, H10, H11, H12, H13, H17, H18, H19, H20, H21, H22, HW⟩
  ihave HF := (Entails.of_eq (freeS_mod c (wA m c) (wB m c) t.val (t.val + 1 + 1) (by omega))) $$ HF
  iapply Hk
  isplitl [H17 H18 H19 H20 H21 H22 HS HF Hg]
  · isplitl [H17 H18 H19 H20 H21 H22]
    · iexists _; iexists _; iexists _; iexists _; iexists _; iexists _
      isplitr
      · ipureintro; exact known_succ m c t h0 hk _ (known_put m c t h3 d22 hk.2)
      isplitl [H17]; · iexact H17
      isplitl [H18]; · iexact H18
      isplitl [H19]; · iexact H19
      isplitl [H20]; · iexact H20
      isplitl [H21]; · iexact H21
      iexact H22
    isplitl [HS]; · iexact HS
    isplitl [HF]; · iexact HF
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at the points four to seven, between the invariants there. -/
theorem body_2 (c : Dev nD) (t : Fin cfg0.N) (h0 : 0 < t.val) (h3 : ¬ t.val < 3) (h4 : t.val < 7) (W : Waits sig Unit) (x16 : Vec F S1x1 .f32) (Q : PUnit → sProp 𝕄) :
    iprop(inv0 m c t.val ∗ owes (c : Thread nD τ) 0 W ∗ holds c (win0_0.stage (cfg0.slots t 0)) (b0 m c t) ∗ holds c (win0_1.stage (cfg0.slots t 1)) (b1 m c t) ∗ holds c (win0_2.stage (cfg0.slots t 2)) (b2 m c t) ∗ holds c (win0_3.stage (cfg0.slots t 3)) (b3 m c t) ∗ holds c (win0_4.stage (cfg0.slots t 4)) (b4 m c t) ∗ holds c (win0_5.stage (cfg0.slots t 5)) (b5 m c t) ∗ holds c (win0_6.stage (cfg0.slots t 6)) (b6 m c t) ∗ holds c (win0_7.stage (cfg0.slots t 7)) (b7 m c t) ∗ holds c (win0_8.stage (cfg0.slots t 8)) (b8 m c t) ∗ holds c (win0_9.stage (cfg0.slots t 9)) (b9 m c t) ∗ holds c (win0_10.stage (cfg0.slots t 10)) (b10 m c t) ∗ holds c (win0_11.stage (cfg0.slots t 11)) (b11 m c t) ∗ holds c (win0_12.stage (cfg0.slots t 12)) (b12 m c t) ∗ holds c (win0_13.stage (cfg0.slots t 13)) x16
      ∗ ((inv0 m c (t.val + 1) ∗ (∃ W, owes (c : Thread nD τ) 0 W) ∗ holds c (win0_0.stage (cfg0.slots t 0)) (b0 m c t) ∗ holds c (win0_1.stage (cfg0.slots t 1)) (b1 m c t) ∗ holds c (win0_2.stage (cfg0.slots t 2)) (b2 m c t) ∗ holds c (win0_3.stage (cfg0.slots t 3)) (b3 m c t) ∗ holds c (win0_4.stage (cfg0.slots t 4)) (b4 m c t) ∗ holds c (win0_5.stage (cfg0.slots t 5)) (b5 m c t) ∗ holds c (win0_6.stage (cfg0.slots t 6)) (b6 m c t) ∗ holds c (win0_7.stage (cfg0.slots t 7)) (b7 m c t) ∗ holds c (win0_8.stage (cfg0.slots t 8)) (b8 m c t) ∗ holds c (win0_9.stage (cfg0.slots t 9)) (b9 m c t) ∗ holds c (win0_10.stage (cfg0.slots t 10)) (b10 m c t) ∗ holds c (win0_11.stage (cfg0.slots t 11)) (b11 m c t) ∗ holds c (win0_12.stage (cfg0.slots t 12)) (b12 m c t) ∗ holds c (win0_13.stage (cfg0.slots t 13)) x16) -∗ Q ⟨⟩))
      ⊢ wp frame (wpE (defs₀ (F := F)) Variants.none c none) Set.univ (bodyAt0 t) Q := by
  have hN : t.val < 8 := lt_of_lt_of_eq t.isLt N_0
  unfold inv0
  rw [if_neg (by omega), if_neg (Nat.succ_ne_zero _)]
  rw [show slotN c (wA m c) (wB m c) t.val = flyS c (wA m c) (wB m c) t.val (te t) by unfold slotN; rw [dif_pos hN]; rfl]
  iintro ⟨⟨⟨%d17, %d18, %d19, %d20, %d21, %d22, %hk, H17, H18, H19, H20, H21, H22⟩, HS, HF, Hg⟩, HW, H0, H1, H2, H3, H4, H5, H6, H7, H8, H9, H10, H11, H12, H13, Hk⟩
  iapply (step_2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) c (wA m c) (wB m c) t h0 h3 h4 W (b0 m c t) (b1 m c t) (b2 m c t) (b3 m c t) (b4 m c t) (b5 m c t) (b6 m c t) (b7 m c t) (b8 m c t) (b9 m c t) (b10 m c t) (b11 m c t) (b12 m c t) x16 d17 d18 d19 d20 d21 d22 Q)
  isplitl [HS]; · iexact HS
  isplitl [HF]; · iexact HF
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H17]; · iexact H17
  isplitl [H18]; · iexact H18
  isplitl [H19]; · iexact H19
  isplitl [H20]; · iexact H20
  isplitl [H21]; · iexact H21
  isplitl [H22]; · iexact H22
  iintro ⟨HS, HF, H0, H1, H2, H3, H4, H5, H6, H7, H8, H9, H10, H11, H12, H13, H17, H18, H19, H20, H21, H22, HW⟩
  ihave HF := (Entails.of_eq (freeS_mod c (wA m c) (wB m c) t.val (t.val + 1 + 1) (by omega))) $$ HF
  iapply Hk
  isplitl [H17 H18 H19 H20 H21 H22 HS HF Hg]
  · isplitl [H17 H18 H19 H20 H21 H22]
    · iexists _; iexists _; iexists _; iexists _; iexists _; iexists _
      isplitr
      · ipureintro; exact known_succ m c t h0 hk _ fun y hy => hk.2 y (by have : (y 0).val < 3 := (y 0).isLt; omega)
      isplitl [H17]; · iexact H17
      isplitl [H18]; · iexact H18
      isplitl [H19]; · iexact H19
      isplitl [H20]; · iexact H20
      isplitl [H21]; · iexact H21
      iexact H22
    isplitl [HS]; · iexact HS
    isplitl [HF]; · iexact HF
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at the last point, between the invariants there. -/
theorem body_3 (c : Dev nD) (t : Fin cfg0.N) (ht : t.val = 7) (W : Waits sig Unit) (x16 : Vec F S1x1 .f32) (Q : PUnit → sProp 𝕄) :
    iprop(inv0 m c t.val ∗ owes (c : Thread nD τ) 0 W ∗ holds c (win0_0.stage (cfg0.slots t 0)) (b0 m c t) ∗ holds c (win0_1.stage (cfg0.slots t 1)) (b1 m c t) ∗ holds c (win0_2.stage (cfg0.slots t 2)) (b2 m c t) ∗ holds c (win0_3.stage (cfg0.slots t 3)) (b3 m c t) ∗ holds c (win0_4.stage (cfg0.slots t 4)) (b4 m c t) ∗ holds c (win0_5.stage (cfg0.slots t 5)) (b5 m c t) ∗ holds c (win0_6.stage (cfg0.slots t 6)) (b6 m c t) ∗ holds c (win0_7.stage (cfg0.slots t 7)) (b7 m c t) ∗ holds c (win0_8.stage (cfg0.slots t 8)) (b8 m c t) ∗ holds c (win0_9.stage (cfg0.slots t 9)) (b9 m c t) ∗ holds c (win0_10.stage (cfg0.slots t 10)) (b10 m c t) ∗ holds c (win0_11.stage (cfg0.slots t 11)) (b11 m c t) ∗ holds c (win0_12.stage (cfg0.slots t 12)) (b12 m c t) ∗ holds c (win0_13.stage (cfg0.slots t 13)) x16
      ∗ ((inv0 m c (t.val + 1) ∗ (∃ W, owes (c : Thread nD τ) 0 W) ∗ holds c (win0_0.stage (cfg0.slots t 0)) (b0 m c t) ∗ holds c (win0_1.stage (cfg0.slots t 1)) (b1 m c t) ∗ holds c (win0_2.stage (cfg0.slots t 2)) (b2 m c t) ∗ holds c (win0_3.stage (cfg0.slots t 3)) (b3 m c t) ∗ holds c (win0_4.stage (cfg0.slots t 4)) (b4 m c t) ∗ holds c (win0_5.stage (cfg0.slots t 5)) (b5 m c t) ∗ holds c (win0_6.stage (cfg0.slots t 6)) (b6 m c t) ∗ holds c (win0_7.stage (cfg0.slots t 7)) (b7 m c t) ∗ holds c (win0_8.stage (cfg0.slots t 8)) (b8 m c t) ∗ holds c (win0_9.stage (cfg0.slots t 9)) (b9 m c t) ∗ holds c (win0_10.stage (cfg0.slots t 10)) (b10 m c t) ∗ holds c (win0_11.stage (cfg0.slots t 11)) (b11 m c t) ∗ holds c (win0_12.stage (cfg0.slots t 12)) (b12 m c t) ∗ holds c (win0_13.stage (cfg0.slots t 13)) (sOUT m c)) -∗ Q ⟨⟩))
      ⊢ wp frame (wpE (defs₀ (F := F)) Variants.none c none) Set.univ (bodyAt0 t) Q := by
  have hN : t.val < 8 := lt_of_lt_of_eq t.isLt N_0
  unfold inv0
  rw [if_neg (by omega), if_neg (Nat.succ_ne_zero _)]
  rw [show slotN c (wA m c) (wB m c) t.val = flyS c (wA m c) (wB m c) t.val (te t) by unfold slotN; rw [dif_pos hN]; rfl]
  iintro ⟨⟨⟨%d17, %d18, %d19, %d20, %d21, %d22, %hk, H17, H18, H19, H20, H21, H22⟩, HS, HF, Hg⟩, HW, H0, H1, H2, H3, H4, H5, H6, H7, H8, H9, H10, H11, H12, H13, Hk⟩
  iapply (step_3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) c (wA m c) (wB m c) t ht W (b0 m c t) (b1 m c t) (b2 m c t) (b3 m c t) (b4 m c t) (b5 m c t) (b6 m c t) (b7 m c t) (b8 m c t) (b9 m c t) (b10 m c t) (b11 m c t) (b12 m c t) x16 d17 d18 d19 d20 d21 d22 Q)
  isplitl [HS]; · iexact HS
  isplitl [HF]; · iexact HF
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H17]; · iexact H17
  isplitl [H18]; · iexact H18
  isplitl [H19]; · iexact H19
  isplitl [H20]; · iexact H20
  isplitl [H21]; · iexact H21
  isplitl [H22]; · iexact H22
  iintro ⟨HS, HF, H0, H1, H2, H3, H4, H5, H6, H7, H8, H9, H10, H11, H12, H13, H17, H18, H19, H20, H21, H22, HW⟩
  ihave HF := (Entails.of_eq (freeS_mod c (wA m c) (wB m c) t.val (t.val + 1 + 1) (by omega))) $$ HF
  obtain ⟨e17, e18, e19, e20, e21⟩ := hk.1 (by omega)
  have e22 : d22 = sT m c := funext fun y => hk.2 y (lt_of_lt_of_le (y 0).isLt (by rw [ht]; decide))
  have eo : vOUT d20 (vStep (BitVec.ofNat 32 ((grid0.coords t) 0).val) d17 (R1 c (wA m c) (te t)) (b7 m c t) (R2 c (wB m c) (te t)) (b8 m c t) d18 d19 d21) d22 (b10 m c t) (b11 m c t) (b12 m c t) (b1 m c t) = sOUT m c := by
    rw [e17, e18, e19, e20, e21, e22, ← sY_succ]
    obtain rfl : t = pt 7 (by decide) := Fin.ext ht
    rfl
  ihave H13 := (Entails.of_eq (congrArg (fun v => holds c (win0_13.stage (cfg0.slots t 13)) v) eo)) $$ H13
  iapply Hk
  isplitl [H17 H18 H19 H20 H21 H22 HS HF Hg]
  · isplitl [H17 H18 H19 H20 H21 H22]
    · iexists _; iexists _; iexists _; iexists _; iexists _; iexists _
      isplitr
      · ipureintro; exact known_succ m c t (by omega) hk _ fun y hy => hk.2 y (by have : (y 0).val < 3 := (y 0).isLt; omega)
      isplitl [H17]; · iexact H17
      isplitl [H18]; · iexact H18
      isplitl [H19]; · iexact H19
      isplitl [H20]; · iexact H20
      isplitl [H21]; · iexact H21
      iexact H22
    isplitl [HS]; · iexact HS
    isplitl [HF]; · iexact HF
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Hand

end
-- ==== Proof.KernelIdeal.Launch.lean ====
module

public import proofs.«01_k».proof.Proof.Gen.KernelIdeal.Frame
public import proofs.«01_k».proof.Proof.Gen.KernelIdeal.Skeleton
public import proofs.«01_k».proof.Proof.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body obligation -/

theorem idle_lo : ∀ t : Fin grid0.N, t.val < 7 → cfg0.idle 13 (cfg0.grid.coords t) = true := by decide
theorem idle_hi : ∀ t : Fin grid0.N, t.val = 7 → cfg0.idle 13 (cfg0.grid.coords t) = false := by decide

theorem leaves_lo (c : Dev nD) (t : Fin cfg0.N) (h : t.val < 7) : (dats m 0 c).leavesExact 13 t = iprop(∃ d, owns (c : Thread nD τ) (st0_13 t) fullShare ((dats m 0 c).before 13 t d)) :=
  Dat.leavesExact_idle _ 13 t (idle_lo t h) (by
    rcases hf : (cfg0.win 13).flush t with _ | _
    · rfl
    · have := (flush0_13 t).mp hf; omega)
theorem leaves_hi (c : Dev nD) (t : Fin cfg0.N) (h : t.val = 7) : (dats m 0 c).leavesExact 13 t = owns (c : Thread nD τ) (st0_13 t) fullShare (sOUT m c) := by
  unfold Dat.leavesExact
  rw [idle_hi t h]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ (dats m 0 c).leavesExact 13 t)

/-- The body at any point, whatever the output window is to hold after it. -/
theorem body_any (c : Dev nD) (t : Fin cfg0.N) (W : Waits sig Unit) (d) (Q : PUnit → sProp 𝕄) :
    iprop(inv0 m c t.val ∗ owes (c : Thread nD τ) 0 W ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ holds c (st0_13 t) ((dats m 0 c).before 13 t d)
      ∗ ((inv0 m c (t.val + 1) ∗ (∃ W, owes (c : Thread nD τ) 0 W) ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ (dats m 0 c).leavesExact 13 t) -∗ Q ⟨⟩))
      ⊢ wp frame (wpE (defs₀ (F := F)) Variants.none c none) Set.univ (bodyAt0 t) Q := by
  have hN : t.val < 8 := lt_of_lt_of_eq t.isLt N_0
  by_cases h7 : t.val = 7
  · rw [leaves_hi m c t h7]
    exact body_3 m c t h7 W _ Q
  · rw [leaves_lo m c t (by omega)]
    have step : (iprop((inv0 m c (t.val + 1) ∗ (∃ W, owes (c : Thread nD τ) 0 W) ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ (∃ d, owns (c : Thread nD τ) (st0_13 t) fullShare ((dats m 0 c).before 13 t d))) -∗ Q ⟨⟩) : sProp 𝕄)
        ⊢ iprop((inv0 m c (t.val + 1) ∗ (∃ W, owes (c : Thread nD τ) 0 W) ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ holds c (st0_13 t) ((dats m 0 c).before 13 t d)) -∗ Q ⟨⟩) := by
      iintro Hk ⟨HI, HW, H0, H1, H2, H3, H4, H5, H6, H7, H8, H9, H10, H11, H12, H13⟩
      iapply Hk
      isplitl [HI]; · iexact HI
      isplitl [HW]; · iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists d; iexact H13
    have low : iprop(inv0 m c t.val ∗ owes (c : Thread nD τ) 0 W ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ holds c (st0_13 t) ((dats m 0 c).before 13 t d)
      ∗ ((inv0 m c (t.val + 1) ∗ (∃ W, owes (c : Thread nD τ) 0 W) ∗ holds c (st0_0 t) (b0 m c t) ∗ holds c (st0_1 t) (b1 m c t) ∗ holds c (st0_2 t) (b2 m c t) ∗ holds c (st0_3 t) (b3 m c t) ∗ holds c (st0_4 t) (b4 m c t) ∗ holds c (st0_5 t) (b5 m c t) ∗ holds c (st0_6 t) (b6 m c t) ∗ holds c (st0_7 t) (b7 m c t) ∗ holds c (st0_8 t) (b8 m c t) ∗ holds c (st0_9 t) (b9 m c t) ∗ holds c (st0_10 t) (b10 m c t) ∗ holds c (st0_11 t) (b11 m c t) ∗ holds c (st0_12 t) (b12 m c t) ∗ holds c (st0_13 t) ((dats m 0 c).before 13 t d)) -∗ Q ⟨⟩))
      ⊢ wp frame (wpE (defs₀ (F := F)) Variants.none c none) Set.univ (bodyAt0 t) Q := by
      by_cases h0 : t.val = 0
      · exact body_0 m c t h0 W ((dats m 0 c).before 13 t d) Q
      · by_cases h3 : t.val < 3
        · exact body_1 m c t (by omega) h3 W ((dats m 0 c).before 13 t d) Q
        · exact body_2 m c t (by omega) h3 (by omega) W ((dats m 0 c).before 13 t d) Q
    refine BIBase.Entails.trans ?_ low
    iintro ⟨HI, HW, H0, H1, H2, H3, H4, H5, H6, H7, H8, H9, H10, H11, H12, H13, Hk⟩
    ihave Hk := step $$ Hk
    isplitl [HI]; · iexact HI
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact Hk

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = inv0 m c t.val from rfl, show (dats m 0 c).Φ t.succ = inv0 m c (t.val + 1) from rfl]
  unfold Dat.owesAt Pipeline.owesWithin
  rw [show (dats m 0 c).owed t.castSucc = 0 from rfl, show (dats m 0 c).owed t.succ = 0 from rfl]
  rw [after_0, after_1, after_2, after_3, after_4, after_5, after_6, after_7, after_8, after_9, after_10, after_11, after_12]
  simp only [before_0, before_1, before_2, before_3, before_4, before_5, before_6, before_7, before_8, before_9, before_10, before_11, before_12]
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_any m c t W d13 _)
  isplitl [HI]; · iexact HI
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨HI, ⟨%W', HW'⟩, H0, H1, H2, H3, H4, H5, H6, H7, H8, H9, H10, H11, H12, H13⟩
  isplitl [HI]; · iexact HI
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem tail_sub : ∀ ops ∈ ([hostOps1] : List (List (HloOp τ sig (Elt F)))), ∀ op ∈ ops, op.bufs ⊆ Pipeline.tailRefsBut sig Pipeline.Prefetch.none spec0 H0 := by
  intro ops hops op hop
  obtain rfl := List.mem_singleton.mp hops
  refine Pipeline.sub_tailRefsBut Pipeline.Prefetch.none spec0 H0 op ((List.forall_iff_forall_mem.mp hostOps1_sub) op hop) (fun k => k.elim0) ?_
  obtain rfl := List.mem_singleton.mp hop
  intro b hb
  rcases Finset.mem_insert.mp hb with rfl | hb
  · simp only [StableHlo.reshape_bufs, Finset.mem_insert, Finset.mem_singleton, not_or]
    exact ⟨StableHlo.devRef_ne_of_ne (by decide), StableHlo.devRef_ne_of_ne (by decide)⟩
  · obtain rfl := Finset.mem_singleton.mp hb
    simp only [StableHlo.reshape_bufs, Finset.mem_insert, Finset.mem_singleton, not_or]
    exact ⟨StableHlo.devRef_ne_of_ne (by decide), StableHlo.devRef_ne_of_ne (by decide)⟩

set_option maxHeartbeats 800000 in
theorem hmain_hand : Pipeline.HMainK (Ix := Unit) (Name := ℕ) (U := Pipeline.UD sig nD τ) (Lvl := ℕ) cfgs 0 (defs₀ (F := F)) Variants.none m (main (F := F)) (V m) (fun _ => Pipeline.chain ([hostOps1].map StableHlo.seq)) :=
  Pipeline.hmain_around cfgs 0 defs₀ Variants.none m main [hostOps0] [hostOps1] (by simp only [List.Forall]; exact hostOps0_sub) (by simp only [List.Forall]; exact hostOps0_fresh) main_chain

set_option maxHeartbeats 2000000 in
set_option backward.isDefEq.respectTransparency.types false in
/-- The program runs to its end; every array of the launch ends as the proof data say, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain_hand m) (hA := A_eq m) (hin := ends_in m) (hout := fun c => ends_out m c)
    (Q' := fun r => Pipeline.FramePost cfgs (dats m) 0 (Pipeline.afterTail₀ cfgs (dats m) 0 (V0 m) [hostOps1]) r ∧ r.2.sem = fun _ => 0) (hQ' := fun _ h => h)

/-- A buffer that no window stages and the last line does not write ends as the launch finds it. -/
theorem rest_kept {c : Dev nD} (b : Ref sig .tc) (hs : b.isScoped = false) (hw : ∀ w, Pipeline.arrRef spec0 w ≠ b) (hv : b ≠ main_v0) (hV : V m c b = m ((c : Thread nD τ).loc b)) {r : PUnit × MemSt nD τ sig (Elt F)}
    (h : Pipeline.FramePost cfgs (dats m) 0 (Pipeline.afterTail₀ cfgs (dats m) 0 (V0 m) [hostOps1]) r) :
    r.2.mem ((c : Thread nD τ).loc b) = m ((c : Thread nD τ).loc b) := by
  refine ((h c).2 b (Pipeline.mem_restRefs_of b hs hw)).trans (Eq.trans ?_ hV)
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hv)), Pipeline.withArrays_of_ne _ c (V0 m c) _ b hw]

/-- Every argument ends as the launch finds it. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨rest_kept m main_arg0 (by decide) (by decide) (by decide) (V_main_arg0 m c) h,
    rest_kept m main_arg1 (by decide) (by decide) (by decide) (V_main_arg1 m c) h,
    rest_kept m main_arg2 (by decide) (by decide) (by decide) (V_main_arg2 m c) h,
    rest_kept m main_arg3 (by decide) (by decide) (by decide) (V_main_arg3 m c) h,
    (h c).1 2 |>.trans (((dats m 0 c).arrAt_in 2 rfl _).trans ((A_eq m c 2).trans (V_main_arg4 m c))),
    rest_kept m main_arg5 (by decide) (by decide) (by decide) (V_main_arg5 m c) h,
    (h c).1 4 |>.trans (((dats m 0 c).arrAt_in 4 rfl _).trans ((A_eq m c 4).trans (V_main_arg6 m c))),
    rest_kept m main_arg7 (by decide) (by decide) (by decide) (V_main_arg7 m c) h,
    rest_kept m main_arg8 (by decide) (by decide) (by decide) (V_main_arg8 m c) h,
    rest_kept m main_arg9 (by decide) (by decide) (by decide) (V_main_arg9 m c) h,
    rest_kept m main_arg10 (by decide) (by decide) (by decide) (V_main_arg10 m c) h,
    rest_kept m main_arg11 (by decide) (by decide) (by decide) (V_main_arg11 m c) h,
    rest_kept m main_arg12 (by decide) (by decide) (by decide) (V_main_arg12 m c) h,
    (h c).1 9 |>.trans (((dats m 0 c).arrAt_in 9 rfl _).trans ((A_eq m c 9).trans (V_main_arg13 m c))),
    (h c).1 10 |>.trans (((dats m 0 c).arrAt_in 10 rfl _).trans ((A_eq m c 10).trans (V_main_arg14 m c))),
    rest_kept m main_arg15 (by decide) (by decide) (by decide) (V_main_arg15 m c) h,
    rest_kept m main_arg16 (by decide) (by decide) (by decide) (V_main_arg16 m c) h⟩

/-- THE FRAME: the program runs to its end without a fault, leaves every argument as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨args_kept m h.1, h.2⟩) (run_main m ρ)

end Cert.KernelIdeal.Hand

end
-- ==== Proof.Value.Top2.lean ====
module

public import Idealize.ShloMosaic.Lib.SortFacts
public import Idealize.ShloMosaic.Lib.Pointwise

@[expose] public section

set_option maxRecDepth 16384

noncomputable section

/-! # The two greatest of eight numbers -/

namespace Cert.Gating

open Idealize.ShloMosaic

/-- `a` is the first position of the greatest entry of `x`, `b` the first position of the greatest entry elsewhere. -/
structure Top2 (x : Fin 8 → EReal) (a b : Fin 8) : Prop where
  ne : b ≠ a
  fst : ∀ e, x e < x a ∨ (x e = x a ∧ a ≤ e)
  snd : ∀ e, e ≠ a → x e < x b ∨ (x e = x b ∧ b ≤ e)

/-- The exponential of the second entry below the first. -/
def tail (x : Fin 8 → EReal) (a b : Fin 8) : EReal := Ideal.exp (x b - x a)

/-- The gates: two positions get weights, in the proportion of the entries' exponentials, and the others nothing. -/
def gate (x : Fin 8 → EReal) (a b e : Fin 8) : EReal :=
  if e = a then Ideal.div 1 (1 + tail x a b) else if e = b then Ideal.div (tail x a b) (1 + tail x a b) else 0

section Sorting

variable (x : Fin 8 → EReal)

/-- Entry `k` is greater than entry `l`. -/
def gtB (k l : Fin 8) : Bool := decide (x l < x k)
/-- Entry `k` is greater than entry `l`, or equal and earlier. -/
def lexB (k l : Fin 8) : Bool := decide (x l < x k ∨ (x l = x k ∧ k < l))

/-- A stable sort of an increasing list does not change when ties are broken by place. -/
theorem stableSort_lex : ∀ l : List (Fin 8), l.Pairwise (· < ·) → stableSort (gtB x) l = stableSort (lexB x) l
  | [], _ => rfl
  | a :: l, h => by
    rw [List.pairwise_cons] at h
    unfold stableSort
    rw [stableSort_lex l h.2]
    refine insertBefore_congr _ _ a _ fun b hb => ?_
    have hb' : b ∈ l := (perm_stableSort _ l).mem_iff.mp hb
    have hab := h.1 b hb'
    unfold gtB lexB
    exact decide_eq_decide.2 ⟨Or.inl, fun h => h.resolve_right fun h' => absurd h'.2 (not_lt.2 hab.le)⟩

/-- So the sorted places are those of the order with ties broken. -/
theorem sorted_lex : sortedFrom (gtB x) = sortedFrom (lexB x) := by
  have : sortPositions 8 (gtB x) = sortPositions 8 (lexB x) := stableSort_lex x _ (List.pairwise_lt_finRange 8)
  funext k
  unfold sortedFrom
  rw [List.get_of_eq this]
  rfl

/-- No later place comes before an earlier one. -/
theorem no_inversion (i j : Fin 8) (h : i < j) : lexB x (sortedFrom (gtB x) j) (sortedFrom (gtB x) i) = false := by
  rw [sorted_lex]
  refine sortedFrom_noInversion (lexB x) (lexB x) (fun a b h => ?_) (fun _ _ h => h) (fun a b c h1 h2 => ?_) i j h
  · simp only [lexB, decide_eq_true_eq, decide_eq_false_iff_not, not_or, not_and, not_lt] at h ⊢
    rcases h with h | ⟨h, h'⟩
    · exact ⟨h.le, fun e => absurd (e ▸ h) (lt_irrefl _)⟩
    · exact ⟨h.le.trans' (le_refl _), fun _ => h'.le⟩
  · simp only [lexB, decide_eq_false_iff_not, not_or, not_and, not_lt] at h1 h2 ⊢
    refine ⟨h1.1.trans h2.1, fun e => ?_⟩
    have e1 : x b = x a := le_antisymm (by rw [← e]; exact h2.1) h1.1
    have e2 : x c = x b := by rw [e, e1]
    exact (h2.2 e2).trans (h1.2 e1)

/-- The first two positions of the stable sort by the greater entry are those of the two greatest entries. -/
theorem top2_sorted : Top2 x (sortedFrom (gtB x) 0) (sortedFrom (gtB x) 1) := by
  have hs := sortedFrom_surjective (gtB x)
  have hi := sortedFrom_injective (gtB x)
  refine ⟨fun h => absurd (hi h) (by decide), fun e => ?_, fun e he => ?_⟩
  · obtain ⟨j, rfl⟩ := hs e
    by_cases hj : j = 0
    · subst hj; exact Or.inr ⟨rfl, le_refl _⟩
    · have := no_inversion x 0 j (Fin.pos_iff_ne_zero.2 hj)
      simp only [lexB, decide_eq_false_iff_not, not_or, not_and, not_lt] at this
      rcases lt_or_eq_of_le this.1 with h | h
      · exact Or.inl h
      · exact Or.inr ⟨h, this.2 h.symm⟩
  · obtain ⟨j, rfl⟩ := hs e
    have hj0 : j ≠ 0 := fun h => he (by rw [h])
    by_cases hj : j = 1
    · subst hj; exact Or.inr ⟨rfl, le_refl _⟩
    · have := no_inversion x 1 j (by have : j.val ≠ 0 := fun h => hj0 (Fin.ext h); have : j.val ≠ 1 := fun h => hj (Fin.ext h); exact Fin.lt_def.2 (by show 1 < j.val; omega))
      simp only [lexB, decide_eq_false_iff_not, not_or, not_and, not_lt] at this
      rcases lt_or_eq_of_le this.1 with h | h
      · exact Or.inl h
      · exact Or.inr ⟨h, this.2 h.symm⟩

end Sorting

/-! ## The same by greatest entries and least positions -/

section Masks

variable {x : Fin 8 → EReal} {a b : Fin 8}

/-- The maximum of a family is its greatest entry. -/
theorem fold_max_eq (y : Fin 8 → EReal) (c : Fin 8) (h : ∀ e, y e ≤ y c) : Finset.univ.fold max ⊥ y = y c := by
  refine le_antisymm ((Finset.fold_max_le _).2 ⟨bot_le, fun e _ => h e⟩) ?_
  exact (Finset.le_fold_max _).2 (Or.inr ⟨c, Finset.mem_univ _, le_refl _⟩)

/-- No entry exceeds the first. -/
theorem Top2.le_fst (h : Top2 x a b) (e : Fin 8) : x e ≤ x a := (h.fst e).elim le_of_lt fun h => h.1.le

/-- The greatest entry. -/
theorem Top2.max_fst (h : Top2 x a b) : Finset.univ.fold max ⊥ x = x a := fold_max_eq x a h.le_fst

/-- The greatest entry once the first is struck out. -/
theorem Top2.max_snd (h : Top2 x a b) : (Finset.univ.fold max ⊥ fun e => if e = a then ⊥ else x e) = x b := by
  refine (fold_max_eq _ b fun e => ?_).trans (if_neg h.ne)
  rw [if_neg h.ne]
  by_cases he : e = a
  · rw [if_pos he]; exact bot_le
  · rw [if_neg he]; exact (h.snd e he).elim le_of_lt fun h => h.1.le

/-- The least of the places where a test holds, as a word. -/
theorem least_word : ∀ (p : Fin 8 → Bool) (c : Fin 8), p c = true → (∀ e, p e = true → c ≤ e) →
    (Finset.univ.fold IntOp.minsi 2147483647#32 fun e : Fin 8 => if p e = true then BitVec.ofNat 32 e.val else 8#32) = BitVec.ofNat 32 c.val := by
  decide +kernel

/-- The least position at which `P` holds, as a minimum of words. -/
theorem least_word' (P : Fin 8 → Prop) [DecidablePred P] (c : Fin 8) (hc : P c) (h : ∀ e, P e → c ≤ e) :
    (Finset.univ.fold IntOp.minsi 2147483647#32 fun e : Fin 8 => if P e then BitVec.ofNat 32 e.val else 8#32) = BitVec.ofNat 32 c.val := by
  have := least_word (fun e => decide (P e)) c (decide_eq_true hc) (fun e he => h e (of_decide_eq_true he))
  simpa only [decide_eq_true_eq] using this

/-- The least position of the greatest entry. -/
theorem Top2.word_fst (h : Top2 x a b) :
    (Finset.univ.fold IntOp.minsi 2147483647#32 fun e : Fin 8 => if x e = x a then BitVec.ofNat 32 e.val else 8#32) = BitVec.ofNat 32 a.val :=
  least_word' (fun e => x e = x a) a rfl fun e he => (h.fst e).elim (fun h' => absurd he h'.ne) fun h => h.2

/-- The least position of the greatest of the others, whose entry is not `-∞`. -/
theorem Top2.word_snd (h : Top2 x a b) (hb : x b ≠ ⊥) :
    (Finset.univ.fold IntOp.minsi 2147483647#32 fun e : Fin 8 => if (if e = a then ⊥ else x e) = x b then BitVec.ofNat 32 e.val else 8#32) = BitVec.ofNat 32 b.val := by
  refine least_word' (fun e => (if e = a then ⊥ else x e) = x b) b (if_neg h.ne) fun e he => ?_
  by_cases h' : e = a
  · have h2 : (if e = a then ⊥ else x e) = x b := he
    rw [if_pos h'] at h2; exact absurd h2.symm hb
  · have h2 : (if e = a then ⊥ else x e) = x b := he
    rw [if_neg h'] at h2
    exact (h.snd e h').elim (fun h'' => absurd h2 h''.ne) fun h => h.2

/-- Two places have one word only if they are one. -/
theorem word_eq_iff : ∀ e c : Fin 8, BitVec.ofNat 32 e.val = BitVec.ofNat 32 c.val ↔ e = c := by decide +kernel

/-- The gate as the sum of its two masked weights. -/
theorem gate_eq_sum (h : Top2 x a b) (e : Fin 8) :
    gate x a b e = (if e = a then Ideal.div 1 (1 + tail x a b) else 0) + (if e = b then Ideal.div (tail x a b) (1 + tail x a b) else 0) := by
  unfold gate
  by_cases h1 : e = a
  · rw [if_pos h1, if_pos h1, if_neg (fun h2 => h.ne (h2.symm.trans h1)), add_zero]
  · rw [if_neg h1, if_neg h1, zero_add]

end Masks

end Cert.Gating
-- ==== Proof.Value.Spec.lean ====
module
public import Idealize.ShloMosaic.Lib.Pointwise
public import proofs.«01_k».proof.Proof.Value.Top2
/-! The numbers both programs compute, as plain functions of positions. -/
@[expose] public section
noncomputable section
namespace Cert.Gating
open Idealize.ShloMosaic

/-- The squared coefficient of variation of eight numbers: the sample variance over the square of the mean. -/
def cvOf (w : Fin 8 → EReal) : EReal :=
  Ideal.div (Ideal.div (∑ e, (w e - Ideal.div (∑ e, w e) (Ideal.ofBits .f32 0x41000000#32)) * (w e - Ideal.div (∑ e, w e) (Ideal.ofBits .f32 0x41000000#32))) (Ideal.ofBits .f32 0x40E00000#32))
    (Ideal.div (∑ e, w e) (Ideal.ofBits .f32 0x41000000#32) * Ideal.div (∑ e, w e) (Ideal.ofBits .f32 0x41000000#32) + Ideal.ofBits .f32 0x2EDBE6FF#32)
/-- The balance loss of a task: that of the experts' importance and that of their load. -/
def auxOf (g : Fin 256 → Fin 8 → EReal) : EReal :=
  cvOf (fun e => ∑ n, g n e) + cvOf (fun e => ∑ n, if 0 < g n e then 1 else 0)

/-- The shared bottom: two layers with a positive part between. -/
def predOf (x : Fin 256 → Fin 768 → EReal) (w : Fin 768 → Fin 768 → EReal) (b : Fin 768 → EReal) (w' : Fin 768 → Fin 768 → EReal) (b' : Fin 768 → EReal) (n : Fin 256) (d : Fin 768) : EReal :=
  (∑ k, max ((∑ l, x n l * w l k) + b k) 0 * w' k d) + b' d
/-- The gating scores of one task. -/
def logitOf (p : Fin 256 → Fin 768 → EReal) (w : Fin 768 → Fin 8 → EReal) (n : Fin 256) (e : Fin 8) : EReal := ∑ d, p n d * w d e
/-- The output of one expert. -/
def expertOf (p : Fin 256 → Fin 768 → EReal) (w : Fin 768 → Fin 1024 → EReal) (b : Fin 1024 → EReal) (w' : Fin 1024 → Fin 768 → EReal) (b' : Fin 768 → EReal) (n : Fin 256) (o : Fin 768) : EReal :=
  (∑ h, max ((∑ d, p n d * w d h) + b h) 0 * w' h o) + b' o
/-- The mixture of the experts' outputs by the gates. -/
def mixOf (g : Fin 256 → Fin 8 → EReal) (eo : Fin 8 → Fin 256 → Fin 768 → EReal) (n : Fin 256) (o : Fin 768) : EReal := ∑ e, g n e * eo e n o
/-- The score a task's tower gives a row. -/
def towerOf (y : Fin 256 → Fin 768 → EReal) (w : Fin 768 → Fin 512 → EReal) (b : Fin 512 → EReal) (w' : Fin 512 → EReal) (b' : EReal) (n : Fin 256) : EReal :=
  (∑ h, max ((∑ d, y n d * w d h) + b h) 0 * w' h) + b'
/-- The cross entropy of a score against a label. -/
def bceOf (z l : EReal) : EReal := max z 0 - z * l + Ideal.log1p (Ideal.exp (-(max z (-z))))
/-- The label of a candidate: one where its score is the greatest of its row. -/
def labelOf (s : Fin 16 → EReal) (m : Fin 16) : EReal := if s m = Finset.univ.fold max ⊥ s then 1 else 0

end Cert.Gating
-- ==== Proof.Value.KGate.lean ====
module
public import Idealize.ShloMosaic.Lib.Pointwise
public import proofs.«01_k».proof.Proof.Value.Spec
public import proofs.«01_k».proof.Proof.Gen.KernelIdeal.Skeleton
public import proofs.«01_k».proof.Proof.KernelIdeal.P13
/-! How the kernel finds the gates of a task: the two greatest scores by two maxima, their places by two minima. -/
@[expose] public section
set_option maxRecDepth 16384
noncomputable section
namespace Cert.KernelIdeal.Value
open Cert.KernelIdeal Cert.KernelIdeal.Gen Cert.KernelIdeal.Hand
open Cert.Gating
open Idealize.ShloMosaic Idealize.ShloMosaic.TcCoe Idealize.SL.Sem

/-- The greatest score of each row. -/
def kV1 (lg : FVec Ideal S256x8 .f32) : FVec Ideal S256x1 .f32 :=
  shapeCast S256x1 (multiReduction .maximumf [1] S256 lg 0xFF800000#32 reduces_S256x8_S256 (.inl rfl) rfl) shapeCasts_S256_S256x1
/-- Its place. -/
def kI1 (lg : FVec Ideal S256x8 .f32) : IVec S256x1 32 :=
  shapeCast S256x1 (multiReductionI .minsi [1] S256 (select (cmpf .oeq lg (broadcastTo S256x8 (kV1 lg) broadcasts_S256x1_S256x8)) g194 (broadcast S256x8 8#32)) 2147483647#32 reduces_S256x8_S256 rfl) shapeCasts_S256_S256x1
/-- Its place, along the row. -/
def kB1 (lg : FVec Ideal S256x8 .f32) : IVec S256x8 32 := broadcastTo S256x8 (kI1 lg) broadcasts_S256x1_S256x8

variable (lg : FVec Ideal S256x8 .f32) (n : Fin 256) (a b : Fin 8)

/-- A selection by the equality of two places. -/
theorem select_word {α : Type} (e c : Fin 8) (x y : α) : Scalar.select (IntOp.cmpi .eq (BitVec.ofNat 32 e.val) (BitVec.ofNat 32 c.val)) x y = if e = c then x else y := by
  by_cases h : e = c
  · subst h; simp [Scalar.select, IntOp.cmpi]
  · have h' : ¬ BitVec.ofNat 32 e.val = BitVec.ofNat 32 c.val := fun hh => h ((word_eq_iff e c).1 hh)
    rw [if_neg h]
    have hb : (BitVec.ofNat 32 e.val == BitVec.ofNat 32 c.val) = false := beq_eq_false_iff_ne.2 h'
    simp only [Scalar.select, IntOp.cmpi, hb]; rfl

/-- The printed least element of a maximum. -/
theorem minf : Ideal.ofBits .f32 4286578688#32 = ⊥ := by simp [Ideal.ofBits, Ideal.ieee]

/-- The greatest score is the one at the first place. -/
theorem kV1_at (h : Top2 (fun e => lg (ix2 n e)) a b) : kV1 lg (ix2 n (0 : Fin 1)) = lg (ix2 n a) := by
  pointwise [kV1, minf]
  exact h.max_fst
/-- The place found is the first. -/
theorem kI1_at (h : Top2 (fun e => lg (ix2 n e)) a b) : kI1 lg (ix2 n (0 : Fin 1)) = BitVec.ofNat 32 a.val := by
  pointwise [kI1, g194]
  simp only [kV1_at lg n a b h]
  exact h.word_fst
/-- The same, along the row. -/
theorem kB1_at (h : Top2 (fun e => lg (ix2 n e)) a b) (e : Fin 8) : kB1 lg (ix2 n e) = BitVec.ofNat 32 a.val := by
  pointwise [kB1]
  exact kI1_at lg n a b h
/-- The row with its first place struck out. -/
theorem mask_at (h : Top2 (fun e => lg (ix2 n e)) a b) (e : Fin 8) : k0_pay9 g194 lg (kB1 lg) (ix2 n e) = if e = a then ⊥ else lg (ix2 n e) := by
  pointwise [k0_pay9, g194, minf]
  rw [kB1_at lg n a b h, select_word]
/-- The greatest score left is the one at the second place. -/
theorem kV2_at (h : Top2 (fun e => lg (ix2 n e)) a b) : k0_pay10 g194 lg (kB1 lg) (ix2 n (0 : Fin 1)) = lg (ix2 n b) := by
  pointwise [k0_pay10, minf]
  simp only [mask_at lg n a b h]
  exact h.max_snd
/-- The place found next is the second. -/
theorem kI2_at (h : Top2 (fun e => lg (ix2 n e)) a b) (hb : lg (ix2 n b) ≠ ⊥) : k0_pay11 g194 lg (kB1 lg) (ix2 n (0 : Fin 1)) = BitVec.ofNat 32 b.val := by
  unfold k0_pay11
  generalize hm : k0_pay9 g194 lg (kB1 lg) = msk
  generalize hv : k0_pay10 g194 lg (kB1 lg) = v2
  pointwise [g194]
  subst hm hv
  simp only [mask_at lg n a b h, kV2_at lg n a b h]
  exact h.word_snd hb
/-- The weight of the second place before scaling. -/
theorem kT_at (h : Top2 (fun e => lg (ix2 n e)) a b) : k0_pay12 g194 lg (kV1 lg) (kB1 lg) (ix2 n (0 : Fin 1)) = tail (fun e => lg (ix2 n e)) a b := by
  pointwise [k0_pay12]
  rw [kV2_at lg n a b h, kV1_at lg n a b h]; rfl
/-- The weight of the first place. -/
theorem kG1_at (h : Top2 (fun e => lg (ix2 n e)) a b) : k0_pay14 g194 lg (kV1 lg) (kB1 lg) (ix2 n (0 : Fin 1)) = Ideal.div 1 (1 + tail (fun e => lg (ix2 n e)) a b) := by
  pointwise [k0_pay14, k0_pay13]
  rw [kT_at lg n a b h]
/-- The weight of the second place. -/
theorem kG2_at (h : Top2 (fun e => lg (ix2 n e)) a b) : k0_pay15 g194 lg (kV1 lg) (kB1 lg) (ix2 n (0 : Fin 1)) = Ideal.div (tail (fun e => lg (ix2 n e)) a b) (1 + tail (fun e => lg (ix2 n e)) a b) := by
  pointwise [k0_pay15, k0_pay13]
  rw [kT_at lg n a b h]
/-- The gates the first step computes. -/
theorem kG_at (h : Top2 (fun e => lg (ix2 n e)) a b) (hb : lg (ix2 n b) ≠ ⊥) (e : Fin 8) :
    k0_pay16 g194 lg (kV1 lg) (kI1 lg) (kB1 lg) (ix2 n e) = gate (fun e => lg (ix2 n e)) a b e := by
  rw [gate_eq_sum h]
  unfold k0_pay16
  generalize h1 : k0_pay14 g194 lg (kV1 lg) (kB1 lg) = w1
  generalize h2 : k0_pay15 g194 lg (kV1 lg) (kB1 lg) = w2
  generalize h3 : k0_pay11 g194 lg (kB1 lg) = i2
  pointwise [g194]
  subst h1 h2 h3
  rw [kG1_at lg n a b h, kG2_at lg n a b h, kI2_at lg n a b h hb, kI1_at lg n a b h]
  rw [select_word, select_word]
/-- The two places the first step keeps. -/
theorem kGI_at (h : Top2 (fun e => lg (ix2 n e)) a b) (hb : lg (ix2 n b) ≠ ⊥) (k : Fin 2) :
    k0_pay17 g194 lg (kI1 lg) (kB1 lg) (ix3 (0 : Fin 1) n k) = BitVec.ofNat 32 (if k = 0 then a.val else b.val) := by
  have e1 := kI1_at lg n a b h
  have e2 := kI2_at lg n a b h hb
  pointwise [k0_pay17]
  fin_cases k
  · exact e1
  · exact e2
/-- The two weights the first step keeps. -/
theorem kGV_at (h : Top2 (fun e => lg (ix2 n e)) a b) (k : Fin 2) :
    k0_pay18 g194 lg (kV1 lg) (kB1 lg) (ix3 (0 : Fin 1) n k) = if k = 0 then Ideal.div 1 (1 + tail (fun e => lg (ix2 n e)) a b) else Ideal.div (tail (fun e => lg (ix2 n e)) a b) (1 + tail (fun e => lg (ix2 n e)) a b) := by
  have e1 := kG1_at lg n a b h
  have e2 := kG2_at lg n a b h
  pointwise [k0_pay18]
  fin_cases k
  · exact e1
  · exact e2

section Tasks
variable (x1 : Vec Ideal S256x768 .f32) (x3 : Vec Ideal S768x768 .f32) (x4 : Vec Ideal S1x768 .f32) (x5 : Vec Ideal S768x768 .f32) (x6 : Vec Ideal S1x768 .f32) (x7 : Vec Ideal S768x24 .f32)
/-- The logits of one task. -/
def kLG : Fin 3 → FVec Ideal S256x8 .f32
  | 0 => extractStridedSlice S256x8 ![0, 0] (k0_pay4 x1 x3 x4 x5 x6 x7) slices_S256x24_o0_0_S256x8
  | 1 => extractStridedSlice S256x8 ![0, 8] (k0_pay4 x1 x3 x4 x5 x6 x7) slices_S256x24_o0_8_S256x8
  | 2 => extractStridedSlice S256x8 ![0, 16] (k0_pay4 x1 x3 x4 x5 x6 x7) slices_S256x24_o0_16_S256x8
/-- The places of each task come from its scores by one function. -/
theorem vGI_eq (j : Fin 3) : vGI x1 x3 x4 x5 x6 x7 j = k0_pay17 g194 (kLG x1 x3 x4 x5 x6 x7 j) (kI1 (kLG x1 x3 x4 x5 x6 x7 j)) (kB1 (kLG x1 x3 x4 x5 x6 x7 j)) := by
  fin_cases j <;> rfl
/-- The weights of each task come from its scores by one function. -/
theorem vGV_eq (j : Fin 3) : vGV x1 x3 x4 x5 x6 x7 j = k0_pay18 g194 (kLG x1 x3 x4 x5 x6 x7 j) (kV1 (kLG x1 x3 x4 x5 x6 x7 j)) (kB1 (kLG x1 x3 x4 x5 x6 x7 j)) := by
  fin_cases j <;> rfl
/-- The balance loss of each task comes from its scores by one function. -/
theorem vAUX_eq (j : Fin 3) : vAUX x1 x3 x4 x5 x6 x7 j = k0_pay53 (k0_pay16 g194 (kLG x1 x3 x4 x5 x6 x7 j) (kV1 (kLG x1 x3 x4 x5 x6 x7 j)) (kI1 (kLG x1 x3 x4 x5 x6 x7 j)) (kB1 (kLG x1 x3 x4 x5 x6 x7 j))) := by
  fin_cases j <;> rfl
end Tasks

/-- The load-balance term of a table of gates. -/
theorem sitofp_bit (p : Prop) [Decidable p] : FloatOps.sitofp (F := Ideal) FTy.f32 (BitVec.setWidth 32 (BitVec.ofBool (decide p))) = (if p then 1 else 0 : EReal) := by
  by_cases h : p
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp
/-- The balance loss of an array of gates. -/
theorem kAux_at (g : FVec Ideal S256x8 .f32) : k0_pay53 g = auxOf fun n e => g (ix2 n e) := by
  pointwise [k0_pay53, sitofp_bit]
  simp only [Finset.univ_unique, Finset.sum_singleton]
  rfl
end Cert.KernelIdeal.Value
-- ==== Proof.Value.KExpert.lean ====
module
public import Idealize.ShloMosaic.Lib.Pointwise
public import proofs.«01_k».proof.Proof.Value.KGate
public import proofs.«01_k».proof.Proof.KernelIdeal.Data
/-! The kernel's experts and mixtures: what a step adds, and what eight steps hold. -/
@[expose] public section
set_option maxRecDepth 16384
noncomputable section
namespace Cert.KernelIdeal.Value
open Cert.KernelIdeal Cert.KernelIdeal.Gen Cert.KernelIdeal.Hand
open Cert.Gating
open Idealize.ShloMosaic Idealize.ShloMosaic.TcCoe Idealize.SL.Sem

/-- Three planes laid one after the other, at an index. -/
theorem rows_at {α : Type} {A B : ℕ} (w : Fin 3 → (⟨3, ![1, A, B]⟩ : Shape).Idx → α) (j : Fin 3) (i : Fin A) (k : Fin B) :
    rows w (ix3 j i k) = w j (ix3 (0 : Fin 1) i k) :=
  congrArg (w j) (funext fun a => by fin_cases a <;> rfl)

/-- A window of a rank-three array, at an index. -/
theorem window3_at {α : Type} {A B C s0 s1 s2 a b c : ℕ} (d : (⟨3, ![A, B, C]⟩ : Shape).Idx → α) (inb) (x : Fin s0) (y : Fin s1) (z : Fin s2) :
    VecWindow.window d ![a, b, c] ![s0, s1, s2] inb (ix3 x y z)
      = d (ix3 ⟨a + x.val, by have h := inb 0; have : a + s0 ≤ A := h; omega⟩ ⟨b + y.val, by have h := inb 1; have : b + s1 ≤ B := h; omega⟩ ⟨c + z.val, by have h := inb 2; have : c + s2 ≤ C := h; omega⟩) := by
  refine congrArg d (funext fun i => Fin.ext ?_)
  fin_cases i
  · show a + 1 * x.val = a + x.val; omega
  · show b + 1 * y.val = b + y.val; omega
  · show c + 1 * z.val = c + z.val; omega
/-- A selection by the equality of two words. -/
theorem select_eq {α : Type} (x y : BitVec 32) (u v : α) : Scalar.select (IntOp.cmpi .eq x y) u v = if x = y then u else v := by
  unfold Scalar.select IntOp.cmpi
  by_cases h : x = y
  · simp [h]
  · have hb : (x == y) = false := beq_eq_false_iff_ne.2 h
    simp [h, hb]

section Bottom
variable (x1 : Vec Ideal S256x768 .f32) (x3 : Vec Ideal S768x768 .f32) (x4 : Vec Ideal S1x768 .f32) (x5 : Vec Ideal S768x768 .f32) (x6 : Vec Ideal S1x768 .f32) (x7 : Vec Ideal S768x24 .f32)
/-- The shared bottom at a row and a column. -/
theorem kBottom_at (n : Fin 256) (d : Fin 768) : k0_pay2 x1 x3 x4 x5 x6 (ix2 n d)
    = predOf (fun n d => x1 (ix2 n d)) (fun l k => x3 (ix2 l k)) (fun k => x4 (ix2 0 k)) (fun k d => x5 (ix2 k d)) (fun d => x6 (ix2 0 d)) n d := by
  pointwise [k0_pay2]
  rfl
/-- The first step's shared bottom, as it is kept. -/
theorem kP_at (n : Fin 256) (d : Fin 768) : vP x1 x3 x4 x5 x6 (ix2 n d)
    = predOf (fun n d => x1 (ix2 n d)) (fun l k => x3 (ix2 l k)) (fun k => x4 (ix2 0 k)) (fun k d => x5 (ix2 k d)) (fun d => x6 (ix2 0 d)) n d := by
  pointwise [vP, k0_pay3]
  exact kBottom_at x1 x3 x4 x5 x6 n d
/-- The gating scores of one task: its eight columns of one product. -/
theorem kLG_at (j : Fin 3) (n : Fin 256) (e : Fin 8) : kLG x1 x3 x4 x5 x6 x7 j (ix2 n e)
    = logitOf (fun n d => vP x1 x3 x4 x5 x6 (ix2 n d)) (fun d e => x7 (ix2 d ⟨8 * j.val + e.val, by omega⟩)) n e := by
  unfold logitOf
  simp only [kP_at, ← kBottom_at]
  generalize hp : k0_pay2 x1 x3 x4 x5 x6 = p
  match j with
  | 0 => unfold kLG k0_pay4; rw [hp]; pointwise
  | 1 => unfold kLG k0_pay4; rw [hp]; pointwise
  | 2 => unfold kLG k0_pay4; rw [hp]; pointwise
end Bottom

section Step
variable (a : BitVec 32) (p : Vec Ideal S256x768 .bf16) (w1 : Vec Ideal S1x768x1024 .f32) (x9 : Vec Ideal S1x1x1024 .f32) (w2 : Vec Ideal S1x1024x768 .f32) (x11 : Vec Ideal S1x1x768 .f32)
  (gi : Vec Ideal S3x256x2 .i32) (gv : Vec Ideal S3x256x2 .f32) (Y : Vec Ideal S3x256x768 .bf16)

/-- An expert's output: the two halves of its hidden layer add up. -/
theorem kEO_at (n : Fin 256) (o : Fin 768) : vEO p w1 x9 w2 x11 (ix2 n o)
    = expertOf (fun n d => p (ix2 n d)) (fun d h => w1 (ix3 0 d h)) (fun h => x9 (ix3 0 0 h)) (fun h o => w2 (ix3 0 h o)) (fun o => x11 (ix3 0 0 o)) n o := by
  unfold expertOf
  rw [Fin.sum_univ_two_halves 512 512 rfl]
  pointwise [vEO, k0_pay71, k0_pay70, k0_pay69, k0_pay68, k0_pay67]

/-- What one step adds to a mixture: the output of its expert, by the weights of the rows that chose it. -/
theorem kStep_at (j : Fin 3) (n : Fin 256) (o : Fin 768) : vStep a p w1 x9 w2 x11 gi gv Y (ix3 j n o)
    = Y (ix3 j n o) + ((if gi (ix3 j n 0) = a then gv (ix3 j n 0) else 0) + (if gi (ix3 j n 1) = a then gv (ix3 j n 1) else 0)) * vEO p w1 x9 w2 x11 (ix2 n o) := by
  unfold vStep
  rw [rows_at]
  match j with
  | 0 =>
    unfold vRow
    pointwise [k0_pay72, k0_pay73, k0_pay74, k0_pay75, k0_pay76]
    simp only [window3_at, select_eq, Nat.zero_add, Fin.eta]
    rfl
  | 1 =>
    unfold vRow
    pointwise [k0_pay77, k0_pay78]
    simp only [window3_at, select_eq, Nat.zero_add, Fin.eta]
    rfl
  | 2 =>
    unfold vRow
    pointwise [k0_pay79]
    simp only [window3_at, select_eq, Nat.zero_add, Fin.eta]
    rfl
end Step

section Mixture
variable (m : (ℓ : Loc nD τ sig) → Buf (Elt Ideal) ℓ) (c : Dev nD)
/-- The factor by which expert `e` enters row `n` of task `j`. -/
def kGate (j : Fin 3) (n : Fin 256) (e : Fin 8) : EReal :=
  (if sGI (F := Ideal) m c (ix3 j n 0) = BitVec.ofNat 32 e.val then sGV (F := Ideal) m c (ix3 j n 0) else 0)
    + (if sGI (F := Ideal) m c (ix3 j n 1) = BitVec.ofNat 32 e.val then sGV (F := Ideal) m c (ix3 j n 1) else 0)
/-- The output of expert `e`. -/
def kExpert (e : Fin 8) : FVec Ideal S256x768 .bf16 :=
  vEO (sP m c) (R1 c (wA m c) e) (b7 m c (pt e.val e.isLt)) (R2 c (wB m c) e) (b8 m c (pt e.val e.isLt))
/-- A sum over the entries below `k + 1` is that below `k` and entry `k`. -/
theorem sum_step (f : Fin 8 → EReal) (k : ℕ) (h : k < 8) :
    (∑ e : Fin 8, if e.val < k + 1 then f e else 0) = (∑ e : Fin 8, if e.val < k then f e else 0) + f ⟨k, h⟩ := by
  have h1 : f ⟨k, h⟩ = ∑ e : Fin 8, if e = ⟨k, h⟩ then f e else 0 := by simp
  rw [h1, ← Finset.sum_add_distrib]
  refine Finset.sum_congr rfl fun e _ => ?_
  by_cases h2 : e = ⟨k, h⟩
  · subst h2; simp
  · have h3 : e.val ≠ k := fun hh => h2 (Fin.ext hh)
    rw [if_neg h2, add_zero]
    refine if_congr ⟨fun _ => by omega, fun _ => by omega⟩ rfl rfl
/-- The running mixture before step `k` holds the experts below `k`. -/
theorem kY_at (j : Fin 3) (n : Fin 256) (o : Fin 768) (k : ℕ) (hk : k ≤ 8) :
    sY (F := Ideal) m c k (ix3 j n o) = ∑ e : Fin 8, if e.val < k then kGate m c j n e * kExpert m c e (ix2 n o) else 0 := by
  induction k with
  | zero =>
    unfold sY
    pointwise [k0_pay65]
    simp
  | succ k ih =>
    have h : k < 8 := hk
    rw [sum_step _ k h, ← ih (by omega)]
    have hs : sY (F := Ideal) m c (k + 1) = vStep (BitVec.ofNat 32 k) (sP m c) (R1 c (wA m c) ⟨k, h⟩) (b7 m c (pt k h)) (R2 c (wB m c) ⟨k, h⟩) (b8 m c (pt k h)) (sGI m c) (sGV m c) (sY m c k) := by
      rw [sY]; exact dif_pos h
    rw [hs, kStep_at]
    rfl
/-- After eight steps the mixture holds all experts. -/
theorem kMix_at (j : Fin 3) (n : Fin 256) (o : Fin 768) :
    sY (F := Ideal) m c 8 (ix3 j n o) = mixOf (kGate m c j) (fun e n o => kExpert m c e (ix2 n o)) n o :=
  (kY_at m c j n o 8 (le_refl _)).trans (Finset.sum_congr rfl fun e _ => if_pos e.isLt)
end Mixture
end Cert.KernelIdeal.Value
-- ==== Proof.Value.KLoss.lean ====
module
public import Idealize.ShloMosaic.Lib.Pointwise
public import proofs.«01_k».proof.Proof.Value.KExpert
/-! The kernel's last step: the towers' scores, the labels and the sum. -/
@[expose] public section
set_option maxRecDepth 16384
noncomputable section
namespace Cert.KernelIdeal.Value
open Cert.KernelIdeal Cert.KernelIdeal.Gen Cert.KernelIdeal.Hand
open Cert.Gating
open Idealize.ShloMosaic Idealize.ShloMosaic.TcCoe Idealize.SL.Sem

/-- The table that keeps the column a row stands at within its item. -/
theorem kCol_at (n : Fin 256) (k : Fin 16) : k0_pay54 (F := Ideal) (ix2 n k) = if n.val % 16 = k.val then 1 else 0 := by
  pointwise [k0_pay54]
  refine (congrArg (FloatOps.sitofp (F := Ideal) FTy.f32) ?_).trans (sitofp_bit (n.val % 16 = k.val))
  revert n k
  decide +kernel
/-- The table that keeps the item a row belongs to. -/
theorem kItem_at (n : Fin 256) (i : Fin 16) : k0_pay56 (F := Ideal) (iota .tc S16x256 32 [0] iota_S16x256_d0_w32) k0_pay55 (ix2 i n) = if n.val / 16 = i.val then 1 else 0 := by
  pointwise [k0_pay55, k0_pay56]
  refine (congrArg (FloatOps.sitofp (F := Ideal) FTy.f32) ?_).trans (sitofp_bit (n.val / 16 = i.val))
  revert n i
  decide +kernel

section Tower
variable (Y : Vec Ideal S1x256x768 .bf16) (w : Vec Ideal S1x768x512 .f32) (b : Vec Ideal S1x512 .f32) (w' : Vec Ideal S512x1 .f32) (b' : Vec Ideal S1x1 .f32)
/-- The score of the first task at a row. -/
theorem kTower0_at (n : Fin 256) : k0_pay57 Y w b w' b' (ix2 n 0) = towerOf (fun n d => Y (ix3 0 n d)) (fun d h => w (ix3 0 d h)) (fun h => b (ix2 0 h)) (fun h => w' (ix2 h 0)) (b' (ix2 0 0)) n := by
  pointwise [k0_pay57]
  rfl
/-- The score of the second task at a row. -/
theorem kTower1_at (n : Fin 256) : k0_pay59 Y w b w' b' (ix2 n 0) = towerOf (fun n d => Y (ix3 0 n d)) (fun d h => w (ix3 0 d h)) (fun h => b (ix2 0 h)) (fun h => w' (ix2 h 0)) (b' (ix2 0 0)) n := by
  pointwise [k0_pay59]
  rfl
/-- The three scores side by side. -/
theorem kTowers_at (u v : FVec Ideal S256x1 .f32) (n : Fin 256) (j : Fin 3) : k0_pay62 u v (k0_pay61 Y) w b w' b' (ix2 n j)
    = if j = 0 then u (ix2 n 0) else if j = 1 then v (ix2 n 0) else towerOf (fun n d => Y (ix3 0 n d)) (fun d h => w (ix3 0 d h)) (fun h => b (ix2 0 h)) (fun h => w' (ix2 h 0)) (b' (ix2 0 0)) n := by
  pointwise [k0_pay62, k0_pay61]
  fin_cases j <;> rfl
/-- The absolute value of a score. -/
theorem kAbs_at (u v : FVec Ideal S256x1 .f32) (x : FVec Ideal S256x768 .bf16) (n : Fin 256) (j : Fin 3) : k0_pay64 u v x w b w' b' (ix2 n j) = max (k0_pay62 u v x w b w' b' (ix2 n j)) (-k0_pay62 u v x w b w' b' (ix2 n j)) := by
  pointwise [k0_pay64]
  rfl
end Tower

section Label
variable (q : FVec Ideal S256x16 .f32) (r : FVec Ideal S16x256 .f32) (s : Vec Ideal S1x16x16 .f32)
/-- A label carried to its row: the item by one product, the candidate by another. -/
def pick (q : FVec Ideal S256x16 .f32) (r : FVec Ideal S16x256 .f32) (s : Vec Ideal S1x16x16 .f32) (n : Fin 256) : EReal := ∑ k : Fin 16, (∑ i : Fin 16, r (ix2 i n) * labelOf (fun m => s (ix3 0 i m)) k) * q (ix2 n k)
/-- The labels of the first task, carried to the rows. -/
theorem kLab0_at (a b) (n : Fin 256) : k0_pay58 q a b s (ix2 n 0) = pick q (k0_pay56 (F := Ideal) a b) s n := by
  unfold pick labelOf
  generalize hr : k0_pay56 (F := Ideal) a b = r
  unfold k0_pay58
  rw [hr]
  pointwise [sitofp_bit, minf]
/-- The labels of the second task, carried to the rows. -/
theorem kLab1_at (n : Fin 256) : k0_pay60 q r s (ix2 n 0) = pick q r s n := by
  unfold pick labelOf
  pointwise [k0_pay60, sitofp_bit, minf]
/-- The part of the cross entropy that does not need the absolute value. -/
theorem kTerm_at (a b c d : FVec Ideal S256x1 .f32) (v288) (v289) (v293) (v300) (v305) (n : Fin 256) (j : Fin 3) : k0_pay63 q r a b c d v288 v289 v293 v300 v305 s (ix2 n j)
    = max (k0_pay62 a c v288 v289 v293 v300 v305 (ix2 n j)) 0 - k0_pay62 a c v288 v289 v293 v300 v305 (ix2 n j) * (if j = 0 then b (ix2 n 0) else if j = 1 then d (ix2 n 0) else pick q r s n) := by
  unfold pick labelOf
  pointwise [k0_pay63, sitofp_bit, minf]
  fin_cases j <;> rfl
end Label
/-- The loss from the terms and the balance losses. -/
theorem kSum_at (a b : FVec Ideal S256x3 .f32) (x y z : EReal) (u : S1x1.Idx) : k0_pay1 (F := Ideal) a b (Scalar.ofBits .f32 0x00000000#32) x y z u
    = Ideal.div (∑ n : Fin 256, ∑ j : Fin 3, (a (ix2 n j) + Ideal.log1p (Ideal.exp (-b (ix2 n j))))) (Ideal.ofBits .f32 0x41800000#32) + Ideal.ofBits .f32 0x3C23D70A#32 * (x + y + z) := by
  pointwise [k0_pay1]
  simp only [zero_sub]
/-- The two tables keep one label: that of the row's own item and candidate. -/
theorem pick_at (q : FVec Ideal S256x16 .f32) (r : FVec Ideal S16x256 .f32) (s : Vec Ideal S1x16x16 .f32) (n : Fin 256)
    (hq : ∀ k : Fin 16, q (ix2 n k) = if n.val % 16 = k.val then 1 else 0) (hr : ∀ i : Fin 16, r (ix2 i n) = if n.val / 16 = i.val then 1 else 0) :
    pick q r s n = labelOf (fun m => s (ix3 0 ⟨n.val / 16, by omega⟩ m)) ⟨n.val % 16, by omega⟩ := by
  have h1 : ∀ i : Fin 16, (n.val / 16 = i.val) ↔ (⟨n.val / 16, by omega⟩ : Fin 16) = i := fun i => (Fin.ext_iff (a := (⟨n.val / 16, by omega⟩ : Fin 16)) (b := i)).symm
  have h2 : ∀ k : Fin 16, (n.val % 16 = k.val) ↔ (⟨n.val % 16, by omega⟩ : Fin 16) = k := fun k => (Fin.ext_iff (a := (⟨n.val % 16, by omega⟩ : Fin 16)) (b := k)).symm
  unfold pick
  simp only [hq, hr, h1, h2, ite_mul, one_mul, zero_mul, mul_ite, mul_one, mul_zero, Finset.sum_ite_eq, Finset.mem_univ, if_true]

section Out
variable (ax : Vec Ideal S3 .f32) (Y : Vec Ideal S3x256x768 .bf16) (st : Vec Ideal S3x768x512 .f32) (x13 : Vec Ideal S3x512 .f32) (x14 : Vec Ideal S512x3 .f32) (x15 : Vec Ideal S1x3 .f32) (x2 : Vec Ideal S3x16x16 .f32)
/-- The score of task `j` at row `n`. -/
def kScore (j : Fin 3) (n : Fin 256) : EReal :=
  towerOf (fun n d => Y (ix3 j n d)) (fun d h => st (ix3 j d h)) (fun h => x13 (ix2 j h)) (fun h => x14 (ix2 h j)) (x15 (ix2 0 j)) n
/-- A window of a rank-two array, at an index. -/
theorem window2_at {α : Type} {A B s0 s1 a b : ℕ} (d : (⟨2, ![A, B]⟩ : Shape).Idx → α) (inb) (x : Fin s0) (y : Fin s1) :
    VecWindow.window d ![a, b] ![s0, s1] inb (ix2 x y)
      = d (ix2 ⟨a + x.val, by have h := inb 0; have : a + s0 ≤ A := h; omega⟩ ⟨b + y.val, by have h := inb 1; have : b + s1 ≤ B := h; omega⟩) := by
  refine congrArg d (funext fun i => Fin.ext ?_)
  fin_cases i
  · show a + 1 * x.val = a + x.val; omega
  · show b + 1 * y.val = b + y.val; omega
/-- A one-element window of a rank-one array. -/
theorem window1_at (d : S3.Idx → EReal) (k : Fin 3) (inb) (y : S1.Idx) : VecWindow.window d ![k.val] S1.size inb y = d (ix1 k) := by
  refine congrArg d (funext fun i => Fin.ext ?_)
  fin_cases i
  have h0 : (y 0).val < 1 := (y 0).isLt
  show k.val + 1 * (y 0).val = k.val
  omega
/-- A choice among three values is the value at the chosen place. -/
theorem scalar_sum (f : Fin 3 → EReal) (a b c : EReal) (h0 : f 0 = a) (h1 : f 1 = b) (h2 : f 2 = c) (j : Fin 3) : (if j = 0 then a else if j = 1 then b else c) = f j := by
  match j with
  | 0 => exact h0.symm
  | 1 => exact h1.symm
  | 2 => exact h2.symm
/-- The loss the last step stores. -/
theorem kOUT_at (u : S1x1.Idx) : vOUT ax Y st x13 x14 x15 x2 u
    = Ideal.div (∑ n : Fin 256, ∑ j : Fin 3, bceOf (kScore Y st x13 x14 x15 j n) (labelOf (fun m => x2 (ix3 j ⟨n.val / 16, by omega⟩ m)) ⟨n.val % 16, by omega⟩)) (Ideal.ofBits .f32 0x41800000#32)
      + Ideal.ofBits .f32 0x3C23D70A#32 * (ax (ix1 0) + ax (ix1 1) + ax (ix1 2)) := by
  unfold vOUT
  refine (kSum_at _ _ _ _ _ u).trans ?_
  refine congrArg₂ (· + ·) (congrArg (fun t => Ideal.div t _) (Finset.sum_congr rfl fun n _ => Finset.sum_congr rfl fun j _ => ?_)) ?_
  · rw [kTerm_at, kAbs_at]
    rw [kTowers_at, scalar_sum (fun j => kScore Y st x13 x14 x15 j n), scalar_sum (fun j => labelOf (fun m => x2 (ix3 j ⟨n.val / 16, by omega⟩ m)) ⟨n.val % 16, by omega⟩)]
    · rfl
    · refine Eq.trans ?_ ((kLab0_at _ _ _ _ n).trans (pick_at _ _ _ n (kCol_at n) (kItem_at n))).symm
      simp only [window3_at, Nat.zero_add, Fin.eta]; rfl
    · refine Eq.trans ?_ ((kLab1_at _ _ _ n).trans (pick_at _ _ _ n (kCol_at n) (kItem_at n))).symm
      simp only [window3_at, Nat.zero_add, Fin.eta]; rfl
    · refine Eq.trans ?_ (pick_at _ _ _ n (kCol_at n) (kItem_at n)).symm
      simp only [window3_at, Nat.zero_add, Fin.eta]; rfl
    · refine Eq.trans ?_ (kTower0_at _ _ _ _ _ n).symm
      simp only [window3_at, window2_at, Nat.zero_add, Fin.eta]; rfl
    · refine Eq.trans ?_ (kTower1_at _ _ _ _ _ n).symm
      simp only [window3_at, window2_at, Nat.zero_add, Fin.eta]; rfl
    · simp only [window3_at, window2_at, Nat.zero_add, Fin.eta]; rfl
  · exact congrArg (Ideal.ofBits .f32 0x3C23D70A#32 * ·) (congrArg₂ (· + ·) (congrArg₂ (· + ·) (window1_at ax 0 _ _) (window1_at ax 1 _ _)) (window1_at ax 2 _ _))
end Out
end Cert.KernelIdeal.Value
-- ==== Proof.Value.KBlocks.lean ====
module
public import Idealize.ShloMosaic.Lib.Pointwise
public import Idealize.ShloMosaic.Lib.Pipeline.ValueKit
public import Idealize.ShloMosaic.Lib.StableHlo.ReadAt
public import proofs.«01_k».proof.Proof.KernelIdeal.Data
/-! What each window of the kernel holds, read off the arguments. -/
@[expose] public section
set_option maxRecDepth 16384
noncomputable section
namespace Cert.KernelIdeal.Value
open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- Where each operand's block stands at each point: the experts' biases move with the point, the tower's weights over the first three. -/
theorem idx : ∀ t : Fin cfg0.N, win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] ∧ win0_9.index t = ![min t.val 2, 0, 0] ∧ win0_10.index t = ![0, 0] ∧ win0_11.index t = ![0, 0] ∧ win0_12.index t = ![0, 0] ∧ win0_13.index t = ![0, 0] :=
  (by decide +kernel : ∀ t : Fin grid0.N, _)

/-- Window 0's block: the candidates, item after item. -/
theorem b0_at (t : Fin cfg0.N) (n : Fin 256) (d : Fin 768) : b0 m c t (ix2 n d) = m ((c.tc : Thread nD τ).loc main_arg1) (ix3 (⟨n.val / 16, by omega⟩ : Fin 16) (⟨n.val % 16, by omega⟩ : Fin 16) d) := by
  unfold b0
  trans V m c main_call0_v0 (ix2 n d)
  · blk_ext [iblk, idx t]
  · unfold V V0
    simp only [List.flatten_cons, List.flatten_nil, List.append_nil]
    unfold hostOps0
    after_reads_at
/-- Window 1's block: the scores, task first. -/
theorem b1_at (t : Fin cfg0.N) (j : Fin 3) (i k : Fin 16) : b1 m c t (ix3 j i k) = m ((c.tc : Thread nD τ).loc main_arg3) (ix3 i j k) := by
  unfold b1
  trans V m c main_call0_v1 (ix3 j i k)
  · blk_ext [iblk, idx t]
  · unfold V V0
    simp only [List.flatten_cons, List.flatten_nil, List.append_nil]
    unfold hostOps0
    after_reads_at
/-- Window 2's block: the shared bottom's first weights. -/
theorem b2_at (t : Fin cfg0.N) (d k : Fin 768) : b2 m c t (ix2 d k) = m ((c.tc : Thread nD τ).loc main_arg4) (ix2 d k) := by
  unfold b2
  blk_ext [iblk, V, idx t]
/-- Window 3's block: its first bias. -/
theorem b3_at (t : Fin cfg0.N) (k : Fin 768) : b3 m c t (ix2 (0 : Fin 1) k) = m ((c.tc : Thread nD τ).loc main_arg5) (ix1 k) := by
  unfold b3
  trans V m c main_call0_v10 (ix2 (0 : Fin 1) k)
  · blk_ext [iblk, idx t]
  · unfold V V0
    simp only [List.flatten_cons, List.flatten_nil, List.append_nil]
    unfold hostOps0
    after_reads_at
/-- Window 4's block: its second weights. -/
theorem b4_at (t : Fin cfg0.N) (d k : Fin 768) : b4 m c t (ix2 d k) = m ((c.tc : Thread nD τ).loc main_arg6) (ix2 d k) := by
  unfold b4
  blk_ext [iblk, V, idx t]
/-- Window 5's block: its second bias. -/
theorem b5_at (t : Fin cfg0.N) (k : Fin 768) : b5 m c t (ix2 (0 : Fin 1) k) = m ((c.tc : Thread nD τ).loc main_arg7) (ix1 k) := by
  unfold b5
  trans V m c main_call0_v11 (ix2 (0 : Fin 1) k)
  · blk_ext [iblk, idx t]
  · unfold V V0
    simp only [List.flatten_cons, List.flatten_nil, List.append_nil]
    unfold hostOps0
    after_reads_at
/-- Window 6's block: the gating weights of the three tasks side by side. -/
theorem b6_at (t : Fin cfg0.N) (d : Fin 768) (j : Fin 3) (e : Fin 8) : b6 m c t (ix2 d (⟨8 * j.val + e.val, by omega⟩ : Fin 24)) = m ((c.tc : Thread nD τ).loc main_arg8) (ix3 j d e) := by
  unfold b6
  trans V m c main_call0_v3 (ix2 d (⟨8 * j.val + e.val, by omega⟩ : Fin 24))
  · blk_ext [iblk, idx t]
  · unfold V V0
    simp only [List.flatten_cons, List.flatten_nil, List.append_nil]
    unfold hostOps0
    after_reads_at
/-- Window 7's block: at point `e`, expert `e`'s first bias. -/
theorem b7_at (t : Fin cfg0.N) (e : Fin 8) (he : t.val = e.val) (h : Fin 1024) : b7 m c t (ix3 (0 : Fin 1) (0 : Fin 1) h) = m ((c.tc : Thread nD τ).loc main_arg10) (ix2 e h) := by
  unfold b7
  trans V m c main_call0_v12 (ix3 e (0 : Fin 1) h)
  · blk_ext [iblk, idx t]
  · unfold V V0
    simp only [List.flatten_cons, List.flatten_nil, List.append_nil]
    unfold hostOps0
    after_reads_at
/-- Window 8's block: at point `e`, expert `e`'s second bias. -/
theorem b8_at (t : Fin cfg0.N) (e : Fin 8) (he : t.val = e.val) (h : Fin 768) : b8 m c t (ix3 (0 : Fin 1) (0 : Fin 1) h) = m ((c.tc : Thread nD τ).loc main_arg12) (ix2 e h) := by
  unfold b8
  trans V m c main_call0_v13 (ix3 e (0 : Fin 1) h)
  · blk_ext [iblk, idx t]
  · unfold V V0
    simp only [List.flatten_cons, List.flatten_nil, List.append_nil]
    unfold hostOps0
    after_reads_at
/-- Window 9's block: at point `j`, the first weights of tower `j`. -/
theorem b9_at (t : Fin cfg0.N) (j : Fin 3) (hj : t.val = j.val) (d : Fin 768) (h : Fin 512) : b9 m c t (ix3 (0 : Fin 1) d h) = m ((c.tc : Thread nD τ).loc main_arg13) (ix3 j d h) := by
  unfold b9
  blk_ext [iblk, V, idx t]
/-- Window 10's block: the towers' first biases. -/
theorem b10_at (t : Fin cfg0.N) (j : Fin 3) (h : Fin 512) : b10 m c t (ix2 j h) = m ((c.tc : Thread nD τ).loc main_arg14) (ix2 j h) := by
  unfold b10
  blk_ext [iblk, V, idx t]
/-- Window 11's block: the towers' second weights, first output only. -/
theorem b11_at (t : Fin cfg0.N) (j : Fin 3) (h : Fin 512) : b11 m c t (ix2 h j) = m ((c.tc : Thread nD τ).loc main_arg15) (ix3 j h (0 : Fin 2)) := by
  unfold b11
  trans V m c main_call0_v6 (ix2 h j)
  · blk_ext [iblk, idx t]
  · unfold V V0
    simp only [List.flatten_cons, List.flatten_nil, List.append_nil]
    unfold hostOps0
    after_reads_at
/-- Window 12's block: the towers' second biases, first output only. -/
theorem b12_at (t : Fin cfg0.N) (j : Fin 3) : b12 m c t (ix2 (0 : Fin 1) j) = m ((c.tc : Thread nD τ).loc main_arg16) (ix2 j (0 : Fin 2)) := by
  unfold b12
  trans V m c main_call0_v9 (ix2 (0 : Fin 1) j)
  · blk_ext [iblk, idx t]
  · unfold V V0
    simp only [List.flatten_cons, List.flatten_nil, List.append_nil]
    unfold hostOps0
    after_reads_at
end Cert.KernelIdeal.Value
-- ==== Proof.Value.Total.lean ====
module
public import proofs.«01_k».proof.Proof.Value.Spec
/-! The whole loss as a plain function of the arguments, and the two orders in which the programs add it up. -/
@[expose] public section
noncomputable section
namespace Cert.Gating
open Idealize.ShloMosaic

/-- The arguments the loss depends on, read at positions. -/
structure Args where
  /-- the candidates' vectors -/
  cand : Fin 16 → Fin 16 → Fin 768 → EReal
  /-- the candidates' scores, per item and task -/
  scores : Fin 16 → Fin 3 → Fin 16 → EReal
  /-- the shared bottom's two layers -/
  w1 : Fin 768 → Fin 768 → EReal
  b1 : Fin 768 → EReal
  w2 : Fin 768 → Fin 768 → EReal
  b2 : Fin 768 → EReal
  /-- the gating weights of each task -/
  wg : Fin 3 → Fin 768 → Fin 8 → EReal
  /-- the experts' two layers -/
  e1 : Fin 8 → Fin 768 → Fin 1024 → EReal
  f1 : Fin 8 → Fin 1024 → EReal
  e2 : Fin 8 → Fin 1024 → Fin 768 → EReal
  f2 : Fin 8 → Fin 768 → EReal
  /-- the towers' two layers, of which only the first output is used -/
  t1 : Fin 3 → Fin 768 → Fin 512 → EReal
  u1 : Fin 3 → Fin 512 → EReal
  t2 : Fin 3 → Fin 512 → EReal
  u2 : Fin 3 → EReal

namespace Args
variable (A : Args)
/-- Row `n` of the 256 rows is candidate `n % 16` of item `n / 16`. -/
def row (n : Fin 256) (d : Fin 768) : EReal := A.cand ⟨n.val / 16, by omega⟩ ⟨n.val % 16, by omega⟩ d
/-- The shared bottom's output. -/
def preds : Fin 256 → Fin 768 → EReal := predOf A.row A.w1 A.b1 A.w2 A.b2
/-- The gating scores of task `j`. -/
def logits (j : Fin 3) : Fin 256 → Fin 8 → EReal := logitOf A.preds (A.wg j)
/-- The place of the greatest gating score, and of the next. -/
def top (j : Fin 3) (n : Fin 256) (k : Fin 2) : Fin 8 := sortedFrom (gtB (A.logits j n)) (Fin.castLE (by decide) k)
/-- The gates of task `j`. -/
def gates (j : Fin 3) (n : Fin 256) (e : Fin 8) : EReal := gate (A.logits j n) (A.top j n 0) (A.top j n 1) e
/-- The output of expert `e`. -/
def expert (e : Fin 8) : Fin 256 → Fin 768 → EReal := expertOf A.preds (A.e1 e) (A.f1 e) (A.e2 e) (A.f2 e)
/-- The score task `j` gives row `n`. -/
def score (j : Fin 3) (n : Fin 256) : EReal := towerOf (mixOf (A.gates j) A.expert) (A.t1 j) (A.u1 j) (A.t2 j) (A.u2 j) n
/-- The cross entropy of task `j` at row `n`. -/
def term (j : Fin 3) (n : Fin 256) : EReal :=
  bceOf (A.score j n) (labelOf (A.scores ⟨n.val / 16, by omega⟩ j) ⟨n.val % 16, by omega⟩)
/-- The balance loss of task `j`. -/
def aux (j : Fin 3) : EReal := auxOf (A.gates j)
/-- The loss as the kernel adds it up: all rows and tasks, then the mean's divisor, then the balance losses. -/
def total : EReal :=
  Ideal.div (∑ n : Fin 256, ∑ j : Fin 3, A.term j n) (Ideal.ofBits .f32 0x41800000#32)
    + Ideal.ofBits .f32 0x3C23D70A#32 * (A.aux 0 + A.aux 1 + A.aux 2)
/-- The cross entropy of task `j` as the reference adds it up: item by item a mean over the candidates. -/
def part (j : Fin 3) : EReal :=
  ∑ i : Fin 16, Ideal.div (∑ m : Fin 16, A.term j ⟨i.val * 16 + m.val, by omega⟩) (Ideal.ofBits .f32 0x41800000#32)
/-- Every gating score is a real number. -/
def Tame : Prop := ∀ j n e, A.logits j n e ≠ ⊤ ∧ A.logits j n e ≠ ⊥

/-- The places are those of the two greatest scores. -/
theorem top2 (j : Fin 3) (n : Fin 256) : Top2 (A.logits j n) (A.top j n 0) (A.top j n 1) := top2_sorted _
end Args

/-- The mean's divisor is the real sixteen. -/
theorem sixteen : Ideal.ofBits .f32 0x41800000#32 = ((16 : ℝ) : EReal) := by
  simp only [Ideal.ofBits, Ideal.ieee]; simp [← EReal.coe_mul]; norm_num
/-- The balance coefficient is a nonnegative real number. -/
theorem coefficient : ∃ r : ℝ, 0 ≤ r ∧ Ideal.ofBits .f32 0x3C23D70A#32 = (r : EReal) := by
  refine ⟨_, ?_, by simp [Ideal.ofBits, Ideal.ieee]; rfl⟩
  positivity
/-- Dividing by the real sixteen is multiplying by a nonnegative real number. -/
theorem div_sixteen (x : EReal) : Ideal.div x (Ideal.ofBits .f32 0x41800000#32) = x * ((16⁻¹ : ℝ) : EReal) := by
  rw [sixteen]
  simp [Ideal.div, EReal.div_eq_inv_mul, mul_comm, EReal.coe_inv]
/-- A nonnegative real factor distributes over a sum. -/
theorem mul_real_add (r : ℝ) (h : 0 ≤ r) (x y : EReal) : (r : EReal) * (x + y) = r * x + r * y :=
  EReal.left_distrib_of_nonneg_of_ne_top (by exact_mod_cast h) (EReal.coe_ne_top r) x y
/-- A nonnegative real factor distributes over any finite sum. -/
theorem sum_mul_real {ι : Type} (s : Finset ι) (f : ι → EReal) (r : ℝ) (h : 0 ≤ r) : (∑ i ∈ s, f i) * (r : EReal) = ∑ i ∈ s, f i * r := by
  classical
  induction s using Finset.induction_on with
  | empty => simp
  | insert a s ha ih => rw [Finset.sum_insert ha, Finset.sum_insert ha, mul_comm, mul_real_add r h, mul_comm, ← ih, mul_comm (r : EReal)]
/-- A sum over the 256 rows, item by item and candidate by candidate. -/
theorem sum_rows (f : Fin 256 → EReal) : ∑ n, f n = ∑ i : Fin 16, ∑ m : Fin 16, f ⟨i.val * 16 + m.val, by omega⟩ := by
  rw [← Fintype.sum_prod_type' (f := fun (i m : Fin 16) => f ⟨i.val * 16 + m.val, by omega⟩)]
  refine (Fintype.sum_equiv (finProdFinEquiv (m := 16) (n := 16)) _ _ fun p => ?_).symm
  refine congrArg f (Fin.ext ?_)
  simp [finProdFinEquiv]; omega
/-- THE EQUATION: the two ways of adding up agree. -/
theorem total_eq (A : Args) :
    A.total = ((A.part 0 + Ideal.ofBits .f32 0x3C23D70A#32 * A.aux 0) + A.part 1 + Ideal.ofBits .f32 0x3C23D70A#32 * A.aux 1) + A.part 2 + Ideal.ofBits .f32 0x3C23D70A#32 * A.aux 2 := by
  have h16 : (0 : ℝ) ≤ 16⁻¹ := by norm_num
  have hp : Ideal.div (∑ n : Fin 256, ∑ j : Fin 3, A.term j n) (Ideal.ofBits .f32 0x41800000#32) = A.part 0 + A.part 1 + A.part 2 := by
    have one (j : Fin 3) : A.part j = (((16⁻¹ : ℝ) : EReal)) * ∑ n, A.term j n := by
      unfold Args.part
      simp only [div_sixteen]
      rw [← sum_mul_real _ _ _ h16, ← sum_rows, mul_comm]
    rw [Finset.sum_comm, Fin.sum_univ_three, div_sixteen, mul_comm, mul_real_add _ h16, mul_real_add _ h16, one, one, one]
  obtain ⟨r, h0, hr⟩ := coefficient
  unfold Args.total
  rw [hp, hr, mul_real_add r h0, mul_real_add r h0]
  abel
end Cert.Gating
-- ==== Proof.Value.KTotal.lean ====
module
public import proofs.«01_k».proof.Proof.Value.KExpert
public import proofs.«01_k».proof.Proof.Value.KLoss
public import proofs.«01_k».proof.Proof.Value.KBlocks
public import proofs.«01_k».proof.Proof.Value.Total
/-! The number the kernel stores is the loss, read off the arguments. -/
@[expose] public section
set_option maxRecDepth 16384
noncomputable section
namespace Cert.KernelIdeal.Value
open Cert.KernelIdeal Cert.KernelIdeal.Gen Cert.KernelIdeal.Hand Cert.Gating
open Idealize.ShloMosaic Idealize.ShloMosaic.TcCoe Idealize.SL.Sem
variable (m : (ℓ : Loc nD τ sig) → Buf (Elt Ideal) ℓ) (c : Dev nD)

/-- The kernel's argument arrays, read at positions. -/
def args : Args where
  cand i k d := m ((c.tc : Thread nD τ).loc main_arg1) (ix3 i k d)
  scores i j k := m ((c.tc : Thread nD τ).loc main_arg3) (ix3 i j k)
  w1 l k := m ((c.tc : Thread nD τ).loc main_arg4) (ix2 l k)
  b1 k := m ((c.tc : Thread nD τ).loc main_arg5) (ix1 k)
  w2 k d := m ((c.tc : Thread nD τ).loc main_arg6) (ix2 k d)
  b2 d := m ((c.tc : Thread nD τ).loc main_arg7) (ix1 d)
  wg j d e := m ((c.tc : Thread nD τ).loc main_arg8) (ix3 j d e)
  e1 e d h := m ((c.tc : Thread nD τ).loc main_arg9) (ix3 e d h)
  f1 e h := m ((c.tc : Thread nD τ).loc main_arg10) (ix2 e h)
  e2 e h o := m ((c.tc : Thread nD τ).loc main_arg11) (ix3 e h o)
  f2 e o := m ((c.tc : Thread nD τ).loc main_arg12) (ix2 e o)
  t1 j d h := m ((c.tc : Thread nD τ).loc main_arg13) (ix3 j d h)
  u1 j h := m ((c.tc : Thread nD τ).loc main_arg14) (ix2 j h)
  t2 j h := m ((c.tc : Thread nD τ).loc main_arg15) (ix3 j h (0 : Fin 2))
  u2 j := m ((c.tc : Thread nD τ).loc main_arg16) (ix2 j (0 : Fin 2))

/-- The kernel's gating scores of task `j`. -/
def sLG (j : Fin 3) : FVec Ideal S256x8 .f32 :=
  kLG (b0 m c (pt 0 (by decide))) (b2 m c (pt 0 (by decide))) (b3 m c (pt 0 (by decide))) (b4 m c (pt 0 (by decide))) (b5 m c (pt 0 (by decide))) (b6 m c (pt 0 (by decide))) j

/-- The first step's shared bottom. -/
theorem preds_at (n : Fin 256) (d : Fin 768) : sP (F := Ideal) m c (ix2 n d) = (args m c).preds n d := by
  unfold sP
  rw [kP_at]
  simp only [b0_at, b2_at, b3_at, b4_at, b5_at]
  rfl
/-- The first step's gating scores. -/
theorem logits_at (j : Fin 3) (n : Fin 256) (e : Fin 8) : sLG m c j (ix2 n e) = (args m c).logits j n e := by
  have hp := preds_at m c
  unfold sP at hp
  unfold sLG
  rw [kLG_at]
  simp only [hp, b6_at]
  rfl
/-- The same, a row at a time. -/
theorem logits_row (j : Fin 3) (n : Fin 256) : (fun e => sLG m c j (ix2 n e)) = (args m c).logits j n := funext fun e => logits_at m c j n e

variable (ht : (args m c).Tame)
include ht

/-- The two places the first step finds. -/
theorem places_at (j : Fin 3) (n : Fin 256) (k : Fin 2) : sGI (F := Ideal) m c (ix3 j n k) = BitVec.ofNat 32 ((args m c).top j n k).val := by
  have h := (args m c).top2 j n
  have hb := (ht j n ((args m c).top j n 1)).2
  rw [← logits_row] at h
  rw [← logits_at] at hb
  unfold sGI
  rw [rows_at, vGI_eq]
  refine (kGI_at (sLG m c j) n _ _ h hb k).trans ?_
  fin_cases k <;> rfl
omit ht in
/-- The two weights the first step computes. -/
theorem weights_at (j : Fin 3) (n : Fin 256) (k : Fin 2) : sGV (F := Ideal) m c (ix3 j n k)
    = if k = 0 then Ideal.div 1 (1 + tail ((args m c).logits j n) ((args m c).top j n 0) ((args m c).top j n 1)) else Ideal.div (tail ((args m c).logits j n) ((args m c).top j n 0) ((args m c).top j n 1)) (1 + tail ((args m c).logits j n) ((args m c).top j n 0) ((args m c).top j n 1)) := by
  have h := (args m c).top2 j n
  rw [← logits_row] at h ⊢
  unfold sGV
  rw [rows_at, vGV_eq]
  exact kGV_at (sLG m c j) n _ _ h k
/-- The factor by which an expert enters a mixture is its gate. -/
theorem gates_at (j : Fin 3) (n : Fin 256) (e : Fin 8) : kGate m c j n e = (args m c).gates j n e := by
  unfold kGate Args.gates
  rw [places_at m c ht, places_at m c ht, weights_at, weights_at, gate_eq_sum ((args m c).top2 j n)]
  simp only [word_eq_iff, eq_comm (a := e)]
  rfl
/-- The balance losses. -/
theorem aux_at (j : Fin 3) : sAX (F := Ideal) m c (ix1 j) = (args m c).aux j := by
  have hg (n : Fin 256) (e : Fin 8) : k0_pay16 g194 (sLG m c j) (kV1 (sLG m c j)) (kI1 (sLG m c j)) (kB1 (sLG m c j)) (ix2 n e) = (args m c).gates j n e := by
    have h := (args m c).top2 j n
    have hb := (ht j n ((args m c).top j n 1)).2
    rw [← logits_row] at h
    rw [← logits_at] at hb
    rw [kG_at (sLG m c j) n _ _ h hb e, logits_row]
    rfl
  show vAUX _ _ _ _ _ _ j = _
  rw [vAUX_eq, kAux_at]
  unfold Args.aux
  exact congrArg auxOf (funext fun n => funext fun e => hg n e)
omit ht in
/-- The output of each expert. -/
theorem expert_at (e : Fin 8) (n : Fin 256) (o : Fin 768) : kExpert m c e (ix2 n o) = (args m c).expert e n o := by
  unfold kExpert
  rw [kEO_at]
  have h7 (h : Fin 1024) := b7_at m c (pt e.val e.isLt) e rfl h
  have h8 (h : Fin 768) := b8_at m c (pt e.val e.isLt) e rfl h
  have h1 (d : Fin 768) (h : Fin 1024) : R1 c (wA m c) e (ix3 0 d h) = (args m c).e1 e d h := by
    unfold R1 wA
    rw [V_main_arg9]
    exact congrArg (m ((c.tc : Thread nD τ).loc main_arg9)) (funext fun a => by fin_cases a <;> rfl)
  have h2 (h : Fin 1024) (d : Fin 768) : R2 c (wB m c) e (ix3 0 h d) = (args m c).e2 e h d := by
    unfold R2 wB
    rw [V_main_arg11]
    exact congrArg (m ((c.tc : Thread nD τ).loc main_arg11)) (funext fun a => by fin_cases a <;> rfl)
  simp only [preds_at, h7, h8, h1, h2]
  rfl
/-- The score of each task at each row. -/
theorem score_at (j : Fin 3) (n : Fin 256) :
    kScore (sY (F := Ideal) m c 8) (sT m c) (b10 m c (pt 7 (by decide))) (b11 m c (pt 7 (by decide))) (b12 m c (pt 7 (by decide))) j n = (args m c).score j n := by
  have hm (n : Fin 256) (d : Fin 768) : sY (F := Ideal) m c 8 (ix3 j n d) = mixOf ((args m c).gates j) (args m c).expert n d := by
    rw [kMix_at]
    unfold mixOf
    simp only [gates_at m c ht, expert_at]
  have hT (d : Fin 768) (h : Fin 512) : sT (F := Ideal) m c (ix3 j d h) = (args m c).t1 j d h := by
    unfold sT
    rw [rows_at]
    pointwise [k0_pay66]
    exact b9_at m c _ j rfl d h
  unfold kScore
  simp only [hm, hT, b10_at, b11_at, b12_at]
  rfl
/-- THE KERNEL'S NUMBER is the loss. -/
theorem out_at (u : S1x1.Idx) : sOUT (F := Ideal) m c u = (args m c).total := by
  unfold sOUT
  rw [kOUT_at]
  simp only [aux_at m c ht, score_at m c ht, b1_at]
  rfl
end Cert.KernelIdeal.Value
-- ==== Proof.Value.KResult.lean ====
module
public import Idealize.ShloMosaic.Lib.Pointwise
public import Idealize.ShloMosaic.Lib.Pipeline.ValueKit
public import Idealize.ShloMosaic.Lib.StableHlo.ReadAt
public import proofs.«01_k».proof.Proof.KernelIdeal.Launch
/-! What the kernel's result holds when the program ends: the one number of the last grid point's block. -/
@[expose] public section
set_option maxRecDepth 16384
noncomputable section
namespace Cert.KernelIdeal.Value
open Cert.KernelIdeal Cert.KernelIdeal.Gen Cert.KernelIdeal.Hand
open Idealize.ShloMosaic Idealize.ShloMosaic.TcCoe Idealize.SL.Sem
variable (m : (ℓ : Loc nD τ sig) → Buf (Elt Ideal) ℓ) (c : Dev nD)

/-- The result window's block index is zero at every point. -/
theorem idx13 : ∀ t : Fin cfg0.N, win0_13.index t = ![0, 0] := (by decide +kernel : ∀ t : Fin grid0.N, _)

/-- An array of one element reads the same at all of its positions. -/
theorem one_by_one (v : Vec Ideal S1x1 .f32) (i j : S1x1.Idx) : v i = v j := by
  congr 1; funext a; exact Fin.ext (by have := (i a).isLt; have := (j a).isLt; fin_cases a <;> simp_all [S1x1] <;> omega)

/-- After all points the result window's array holds the last point's block. -/
theorem final (i : S1x1.Idx) : (dats m 0 c).arrAt 13 cfg0.N = fun _ => sOUT m c i := by
  refine (dats m 0 c).arrAt_eq_of_after_last 13 (pt 7 (by decide)) (by decide +kernel) _ fun j => ?_
  blk_simp
  exact one_by_one (sOUT m c) j i

/-- What the program's result holds at its end. -/
theorem result_at {r : PUnit × MemSt nD τ sig (Elt Ideal)}
    (h : Pipeline.FramePost cfgs (dats m) 0 (Pipeline.afterTail₀ cfgs (dats m) 0 (V0 m) [hostOps1]) r) (i : S1x1.Idx) :
    r.2.mem ((c : Thread nD τ).loc main_v0) = fun _ => sOUT m c i := by
  refine ((h c).2 main_v0 (Pipeline.mem_restRefs_of main_v0 (by decide) (by decide))).trans ?_
  unfold Pipeline.afterTail₀
  funext u
  simp only [List.flatten_cons, List.flatten_nil, List.append_nil]
  unfold hostOps1
  after_reads_at
  have e : Pipeline.withArrays (cfgs (0 : Fin 1)).spec c (V0 m c) (fun w => (dats m 0 c).arrAt w (cfgs (0 : Fin 1)).N) (Proc.devRef .tc main_call0_v14) = fun _ => sOUT m c i :=
    (Pipeline.withArrays_arr _ launch0.win.arr_inj c (V0 m c) _ 13).trans (final m c i)
  exact congrFun e _

end Cert.KernelIdeal.Value
-- ==== Proof.Value.RGate.lean ====
module
public import Idealize.ShloMosaic.Lib.Pointwise
public import proofs.«01_k».proof.Proof.Gen.ReferenceIdeal.Read
public import Idealize.ShloMosaic.Lib.ScatterToDense.RefScatter
public import proofs.«01_k».proof.Proof.Value.Spec
/-! The reference's gates: a sort, a softmax of the two greatest scores, and a scatter. -/
@[expose] public section
set_option maxRecDepth 16384
noncomputable section
namespace Cert.ReferenceIdeal.Tasks
open Cert.ReferenceIdeal Cert.ReferenceIdeal.Gen Cert.Gating Cert.ReferenceIdeal.Read
open Idealize.ShloMosaic Idealize.ShloMosaic.TcCoe Idealize.SL.Sem

variable (lg : FVec Ideal S256x8 .f32)
/-- The two greatest scores of each row. -/
def rVal : FVec Ideal S256x2 .f32 := (Host.topK S256x2 1 (FloatOps.cmpfTotal .gt) lg sliceFits_S256x8_S256x2).1
/-- Their places. -/
def rInd : IVec S256x2 32 := (Host.topK S256x2 1 (FloatOps.cmpfTotal .gt) lg sliceFits_S256x8_S256x2).2
/-- The greatest of the two. -/
def rMax : FVec Ideal S256 .f32 :=
  maximumf (val_main_v19 (F := Ideal)) (Host.reduce FloatOps.maximumf (rVal lg) (val_main_cst_0 (F := Ideal)) reducesTo_S256x2_S256_d1 h_S_)
/-- Their exponentials, less the greatest. -/
def rExp : FVec Ideal S256x2 .f32 :=
  Host.exp (subf (rVal lg) (broadcastInDim S256x2 ![0, 1] bcast_S256x1_S256x2_0_1 (broadcastInDim S256x1 ![0] bcast_S256_S256x1_0 (rMax lg))))
/-- The two weights. -/
def rSoft : FVec Ideal S256x2 .f32 :=
  Host.divf (rExp lg) (broadcastInDim S256x2 ![0, 1] bcast_S256x1_S256x2_0_1 (broadcastInDim S256x1 ![0] bcast_S256_S256x1_0 (Host.reduceAdd (rExp lg) (val_main_cst_2 (F := Ideal)) reducesTo_S256x2_S256_d1 h_S_)))
/-- The places, a negative one counted from the end. -/
def rCol : IVec S256x2 32 :=
  select (cmpi .slt (rInd lg) (val_main_v37 (F := Ideal))) (addi (rInd lg) (val_main_v39 (F := Ideal))) (rInd lg)
/-- The positions the weights go to. -/
def rPos : IVec S256x2x2 32 :=
  concatenate S256x2x2 2 [⟨S256x2x1, (val_main_v43 (F := Ideal))⟩, ⟨S256x2x1, broadcastInDim S256x2x1 ![0, 1] bcast_S256x2_S256x2x1_0_1 (rCol lg)⟩] concatenates_S256x2x1_S256x2x1_S256x2x2_d2
/-- The gates: the weights put at their positions, and zero elsewhere. -/
def rGate : FVec Ideal S256x8 .f32 :=
  Host.scatter scatter_S256x8_S256x2x2_S256x2_n_01_01_2 (fun _ b => b) (val_main_v29 (F := Ideal)) (rPos lg) (rSoft lg)

section
variable (x1 : FVec Ideal S16x16x768 .f32) (x4 : FVec Ideal S768x768 .f32) (x5 : FVec Ideal S768 .f32) (x6 : FVec Ideal S768x768 .f32) (x7 : FVec Ideal S768 .f32) (x8 : FVec Ideal S3x768x8 .f32)
/-- The gates of the first task. -/
theorem g0 : val_main_v46 (F := Ideal) x1 x4 x5 x6 x7 x8 = rGate (val_main_v17 (F := Ideal) x1 x4 x5 x6 x7 x8) := rfl
/-- The gates of the second task. -/
theorem g1 : val_main_v145 (F := Ideal) x1 x4 x5 x6 x7 x8 = rGate (val_main_v116 (F := Ideal) x1 x4 x5 x6 x7 x8) := rfl
/-- The gates of the third task. -/
theorem g2 : val_main_v244 (F := Ideal) x1 x4 x5 x6 x7 x8 = rGate (val_main_v215 (F := Ideal) x1 x4 x5 x6 x7 x8) := rfl
end
variable (n : Fin 256)
/-- The `k`-th greatest position of row `n`. -/
def pos (k : Fin 2) : Fin 8 := sortedFrom (gtB fun e => lg (ix2 n e)) (Fin.castLE (by decide) k)

/-- The order the places are sorted by. -/
theorem cmp_gt (k l : Fin 8) (y : Fin 8 → EReal) : (FloatOps.cmpfTotal (F := Ideal) (φ := .f32) .gt (y k) (y l) == 1#1) = gtB y k l := by
  unfold gtB
  show (Ideal.cmp .ogt (y k) (y l) == 1#1) = decide (y l < y k)
  unfold Ideal.cmp
  by_cases h : y l < y k
  · simp [h]
  · simp [h]
/-- A row index moved along its row. -/
theorem along_eq (k : Fin 2) (h : k.val < 8) (e : Fin 8) : (ix2 n (⟨k.val, h⟩ : Fin 8) : S256x8.Idx).along 1 e = ix2 n e := by
  funext a; fin_cases a <;> rfl
/-- The greatest scores are those at the sorted places. -/
theorem rVal_at (k : Fin 2) : rVal lg (ix2 n k) = lg (ix2 n (pos lg n k)) := by
  unfold rVal Host.topK Host.sort2
  pointwise
  simp only [along_eq]
  simp only [cmp_gt _ _ fun e => lg (ix2 n e)]
  rfl
/-- The places are the sorted ones. -/
theorem rInd_at (k : Fin 2) : rInd lg (ix2 n k) = BitVec.ofNat 32 (pos lg n k).val := by
  unfold rInd Host.topK Host.sort2
  pointwise
  simp only [along_eq]
  simp only [cmp_gt _ _ fun e => lg (ix2 n e)]
  rfl
/-- The printed least element of a maximum. -/
theorem minf : Ideal.ofBits .f32 4286578688#32 = ⊥ := by simp [Ideal.ofBits, Ideal.ieee]
/-- The sorted places are those of the two greatest scores. -/
theorem top2_pos : Top2 (fun e => lg (ix2 n e)) (pos lg n 0) (pos lg n 1) := top2_sorted _
/-- The greatest is the score at the first place. -/
theorem rMax_at : rMax lg (ix1 n) = lg (ix2 n (pos lg n 0)) := by
  pointwise [rMax, val_main_v19, val_main_cst_1, val_main_cst_0, minf]
  simp only [rVal_at]
  rw [show (fun x : Fin 2 => lg (ix2 n (pos lg n x))) = fun x => lg (ix2 n (pos lg n x)) from rfl]
  refine le_antisymm (max_le bot_le ((Finset.fold_max_le _).2 ⟨bot_le, fun k _ => (top2_pos lg n).le_fst (pos lg n k)⟩)) ?_
  exact le_max_of_le_right ((Finset.le_fold_max _).2 (Or.inr ⟨0, Finset.mem_univ _, le_refl _⟩))
/-- Row `n` of the logits holds numbers. -/
def Finite (y : Fin 8 → EReal) : Prop := ∀ e, y e ≠ ⊤ ∧ y e ≠ ⊥
variable (hf : Finite fun e => lg (ix2 n e))
include hf
/-- The exponentials: one, and that of the difference. -/
theorem rExp_at (k : Fin 2)  : rExp lg (ix2 n k) = if k = 0 then 1 else tail (fun e => lg (ix2 n e)) (pos lg n 0) (pos lg n 1) := by
  pointwise [rExp]
  rw [rVal_at, rMax_at]
  fin_cases k
  · show Ideal.exp (lg (ix2 n (pos lg n 0)) - lg (ix2 n (pos lg n 0))) = 1
    rw [EReal.sub_self (hf _).1 (hf _).2]
    rw [← EReal.coe_zero]; show ((Real.exp 0 : ℝ) : EReal) = 1; simp
  · rfl
/-- A weight is the gate at its place. -/
theorem rSoft_at (k : Fin 2)  : rSoft lg (ix2 n k) = gate (fun e => lg (ix2 n e)) (pos lg n 0) (pos lg n 1) (pos lg n k) := by
  pointwise [rSoft, val_main_cst_2]
  simp only [Fin.sum_univ_two, rExp_at lg n hf, zero_add]
  have := (top2_pos lg n).ne
  fin_cases k
  · simp [gate]
  · simp [gate, this]
omit hf
/-- No place is negative. -/
theorem neg_word : ∀ c : Fin 8, IntOp.cmpi CmpIPredicate.slt (BitVec.ofNat 32 c.val) 0#32 = 0#1 := by decide +kernel
/-- So a place stays as it is. -/
theorem rCol_at (k : Fin 2)  : rCol lg (ix2 n k) = BitVec.ofNat 32 (pos lg n k).val := by
  pointwise [rCol, val_main_v37, val_main_c_5, val_main_v39, val_main_c_6]
  rw [rInd_at]
  rw [neg_word]; rfl
/-- No row is negative. -/
theorem neg_row : ∀ c : Fin 256, IntOp.cmpi CmpIPredicate.slt (BitVec.ofNat 32 c.val) 0#32 = 0#1 := by decide +kernel
/-- A position is a row and a place. -/
theorem rPos_at (k l : Fin 2)  : rPos lg (ix3 n k l) = if l = 0 then BitVec.ofNat 32 n.val else BitVec.ofNat 32 (pos lg n k).val := by
  pointwise [rPos, val_main_v43, val_main_v42, val_main_v36, val_main_v31, val_main_v30, val_main_v33, val_main_v32, val_main_c, val_main_v35, val_main_v34, val_main_c_4]
  rw [rCol_at, neg_row]
  fin_cases l
  · rfl
  · rfl
open Idealize.ShloMosaic.ScatterToDense in
/-- The reference's gates are the gates of the scores. -/
theorem rGate_at (hf : Finite fun e => lg (ix2 n e)) (e : Fin 8) : rGate lg (ix2 n e) = gate (fun e => lg (ix2 n e)) (pos lg n 0) (pos lg n 1) e := by
  unfold rGate
  refine (scatter_eq_dense (T := 256) (C := 8) (K := 2) (by decide) scatter_S256x8_S256x2x2_S256x2_n_01_01_2 rfl rfl rfl (by decide) (by decide) _ (rPos lg) (rSoft lg) (rCol lg) (rSoft lg) 0 (fun ι => ?_) (fun i k => ?_) (fun i k c hc => ?_) (fun _ _ => rfl) (ix2 n e)).trans ?_
  · idx_vars ι
    pointwise [val_main_v29, val_main_cst_3]
  · exact (rPos_at lg i k 0).trans rfl
  · have h1 := rPos_at lg i k 1
    refine Iff.of_eq (congrArg (fun w : BitVec 32 => c = w.toNat) (h1.trans (rCol_at lg i k).symm))
  · show (if e.val = (rCol lg (ix2 n (1 : Fin 2))).toNat then rSoft lg (ix2 n (1 : Fin 2)) else if e.val = (rCol lg (ix2 n (0 : Fin 2))).toNat then rSoft lg (ix2 n (0 : Fin 2)) else 0) = _
    rw [rCol_at, rCol_at, rSoft_at lg n hf, rSoft_at lg n hf]
    have hv : ∀ e c : Fin 8, (e.val = (BitVec.ofNat 32 c.val).toNat) = (e = c) := by decide +kernel
    simp only [hv]
    by_cases h1 : e = pos lg n 1
    · rw [if_pos h1, h1]
    · rw [if_neg h1]
      by_cases h0 : e = pos lg n 0
      · rw [if_pos h0, h0]
      · rw [if_neg h0]; unfold gate; rw [if_neg h0, if_neg h1]
end Cert.ReferenceIdeal.Tasks
-- ==== Proof.Value.RTask.lean ====
module
public import proofs.«01_k».proof.Proof.Value.RGate
/-! The reference task by task: one function of the gating scores, the experts and the tower, three times. -/
@[expose] public section
set_option maxRecDepth 16384
noncomputable section
namespace Cert.ReferenceIdeal.Tasks
open Cert.ReferenceIdeal Cert.ReferenceIdeal.Gen Cert.Gating Cert.ReferenceIdeal.Read
open Idealize.ShloMosaic Idealize.ShloMosaic.TcCoe Idealize.SL.Sem

/-- The experts' outputs. -/
def rEO (p : FVec Ideal S256x768 .f32) (x9 : FVec Ideal S8x768x1024 .f32) (x10 : FVec Ideal S8x1024 .f32) (x11 : FVec Ideal S8x1024x768 .f32) (x12 : FVec Ideal S8x768 .f32) : FVec Ideal S256x8x768 .f32 :=
  addf (transpose S256x8x768 [2, 0, 1] (Host.dotGeneral dot_S8x1024x768_S256x8x1024_S8x768x256_1_2_2_0_0_1 none x11
    (maximumf (addf (Host.dotGeneral dot_S256x768_S8x768x1024_S256x8x1024_1_1_0_02_n_n none p x9) (val_main_v49 (F := Ideal) x10)) (val_main_call1_v0 (F := Ideal)))) transposes_S8x768x256_S256x8x768_2_0_1) (val_main_v55 (F := Ideal) x12)
/-- The mixture. -/
def rMix (g : FVec Ideal S256x8 .f32) (eo : FVec Ideal S256x8x768 .f32) : FVec Ideal S256x768 .f32 :=
  Host.dotGeneral dot_S256x8_S256x8x768_S256x768_1_1_n_2_0_0 none g eo
/-- A tower's scores. -/
def rTower (y : FVec Ideal S256x768 .f32) (w : FVec Ideal S768x512 .f32) (b : FVec Ideal S512 .f32) (w' : FVec Ideal S512x2 .f32) (b' : FVec Ideal S2 .f32) : FVec Ideal S16x16 .f32 :=
  shapeCast _ (shapeCast _ (extractStridedSlice S256x1 ![0, 0]
    (addf (Host.dotGeneral dot_S256x512_S512x2_S256x2_1_0_0_1_n_n none (maximumf (addf (Host.dotGeneral dot_S256x768_S768x512_S256x512_1_0_0_1_n_n none y w) (broadcastInDim S256x512 ![0, 1] bcast_S1x512_S256x512_0_1 (broadcastInDim S1x512 ![1] bcast_S512_S1x512_1 b))) (val_main_call4_v0 (F := Ideal))) w')
      (broadcastInDim S256x2 ![0, 1] bcast_S1x2_S256x2_0_1 (broadcastInDim S1x2 ![1] bcast_S2_S1x2_1 b')))
    slices_S256x2_S256x1_0_0) shapeCasts_S256x1_S256) shapeCasts_S256_S16x16
/-- The cross entropy: a mean per item, then a sum. -/
def rBce (z lab : FVec Ideal S16x16 .f32) : FVec Ideal S_ .f32 :=
  Host.reduceAdd (Host.divf (Host.reduceAdd (addf (subf (maximumf z (val_main_v98 (F := Ideal))) (mulf z lab)) (Host.log1p (Host.exp (Host.negf (Host.absf z))))) (val_main_cst_19 (F := Ideal)) reducesTo_S16x16_S16_d1 h_S_) (val_main_v108 (F := Ideal))) (val_main_cst_21 (F := Ideal)) reducesTo_S16_S_d0 h_S_
/-- The sample variance of eight numbers. -/
def rVar (w : FVec Ideal S8 .f32) : FVec Ideal S_ .f32 :=
  let d := subf w (broadcastInDim S8 ![0] bcast_S1_S8_0 (Host.divf (broadcastInDim S1 ![] bcast_S_S1 (Host.reduceAdd w (val_main_call2_cst (F := Ideal)) reducesTo_S8_S_d0 h_S_)) (val_main_call2_v2 (F := Ideal))))
  select (val_main_call2_v11 (F := Ideal)) (Host.divf (Host.reduceAdd (mulf d d) (val_main_call2_cst_2 (F := Ideal)) reducesTo_S8_S_d0 h_S_) (val_main_call2_v8 (F := Ideal))) (val_main_call2_call0_v0 (F := Ideal))
/-- The squared coefficient of variation. -/
def rCv (w : FVec Ideal S8 .f32) : FVec Ideal S_ .f32 :=
  let q := Host.divf (Host.reduceAdd w (val_main_cst_11 (F := Ideal)) reducesTo_S8_S_d0 h_S_) (val_main_cst_12 (F := Ideal))
  Host.divf (rVar w) (addf (mulf q q) (val_main_cst_13 (F := Ideal)))
/-- The balance loss of an array of gates. -/
def rAux (g : FVec Ideal S256x8 .f32) : FVec Ideal S_ .f32 :=
  addf (rCv (Host.reduceAdd g (val_main_cst_7 (F := Ideal)) reducesTo_S256x8_S8_d0 h_S_)) (rCv (Host.reduceAdd (uitofp .f32 (cmpf .ogt g (val_main_v59 (F := Ideal)))) (val_main_cst_9 (F := Ideal)) reducesTo_S256x8_S8_d0 h_S_))

/-- The experts' outputs, at an index. -/
theorem rEO_at (p : FVec Ideal S256x768 .f32) (x9 : FVec Ideal S8x768x1024 .f32) (x10 : FVec Ideal S8x1024 .f32) (x11 : FVec Ideal S8x1024x768 .f32) (x12 : FVec Ideal S8x768 .f32) (n : Fin 256) (e : Fin 8) (o : Fin 768) :
    rEO p x9 x10 x11 x12 (ix3 n e o) = expertOf (fun n d => p (ix2 n d)) (fun d h => x9 (ix3 e d h)) (fun h => x10 (ix2 e h)) (fun h o => x11 (ix3 e h o)) (fun o => x12 (ix2 e o)) n o := by
  pointwise [rEO, val_main_v49, val_main_v48, val_main_v55, val_main_v54, val_main_call1_v0, val_main_call1_cst]
  unfold expertOf
  simp only [mul_comm]
/-- The mixture, at an index. -/
theorem rMix_at (g : FVec Ideal S256x8 .f32) (eo : FVec Ideal S256x8x768 .f32) (n : Fin 256) (o : Fin 768) :
    rMix g eo (ix2 n o) = mixOf (fun n e => g (ix2 n e)) (fun e n o => eo (ix3 n e o)) n o := by
  pointwise [rMix]
  rfl
/-- A tower's score of a candidate of an item. -/
theorem rTower_at (y : FVec Ideal S256x768 .f32) (w : FVec Ideal S768x512 .f32) (b : FVec Ideal S512 .f32) (w' : FVec Ideal S512x2 .f32) (b' : FVec Ideal S2 .f32) (i m : Fin 16) :
    rTower y w b w' b' (ix2 i m) = towerOf (fun n d => y (ix2 n d)) (fun d h => w (ix2 d h)) (fun h => b (ix1 h)) (fun h => w' (ix2 h 0)) (b' (ix1 0)) ⟨i.val * 16 + m.val, by omega⟩ := by
  pointwise [rTower, val_main_call4_v0, val_main_call4_cst]
  rfl
/-- The cross entropy, as sums. -/
theorem rBce_at (z lab : FVec Ideal S16x16 .f32) (u : S_.Idx) :
    rBce z lab u = ∑ i : Fin 16, Ideal.div (∑ m : Fin 16, bceOf (z (ix2 i m)) (lab (ix2 i m))) (Ideal.ofBits .f32 0x41800000#32) := by
  pointwise [rBce, val_main_v98, val_main_cst_18, val_main_cst_19, val_main_v108, val_main_cst_20, val_main_cst_21]
  rfl
/-- A bit as a number. -/
theorem uitofp_bit (p : Prop) [Decidable p] : FloatOps.uitofp (F := Ideal) FTy.f32 (BitVec.ofBool (decide p)) = (if p then 1 else 0 : EReal) := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp
/-- One less than eight is seven. -/
theorem seven : Ideal.ofBits .f32 1090519040#32 - FloatOps.sitofp (F := Ideal) FTy.f32 1#32 = Ideal.ofBits .f32 0x40E00000#32 := by
  show Ideal.ofBits .f32 1090519040#32 - (((1#32).toInt : ℝ) : EReal) = _
  simp [Ideal.ofBits, Ideal.ieee]
  norm_cast
  norm_num
/-- Seven is positive. -/
theorem seven_pos : 0 < Ideal.ofBits .f32 0x40E00000#32 := by
  simp [Ideal.ofBits, Ideal.ieee]
  rw [← EReal.coe_mul]
  exact EReal.coe_pos.2 (by norm_num)
/-- The squared coefficient of variation, as sums. -/
theorem rCv_at (w : FVec Ideal S8 .f32) (u : S_.Idx) : rCv w u = cvOf fun e => w (ix1 e) := by
  pointwise [rCv, rVar, val_main_call2_cst, val_main_call2_v2, val_main_call2_cst_0, val_main_call2_v11, val_main_call2_v8, val_main_call2_cst_1, val_main_call2_v7, val_main_c_10, val_main_call2_cst_3, val_main_call2_cst_2, val_main_cst_11, val_main_cst_12, val_main_cst_13]
  rw [seven, if_pos seven_pos]
  rfl
/-- The balance loss, as sums. -/
theorem rAux_at (g : FVec Ideal S256x8 .f32) (u : S_.Idx) : rAux g u = auxOf fun n e => g (ix2 n e) := by
  pointwise [rAux, rCv_at, uitofp_bit, val_main_cst_7, val_main_v59, val_main_cst_8, val_main_cst_9]
  rfl

section
variable (x1 : FVec Ideal S16x16x768 .f32) (x3 : FVec Ideal S16x3x16 .f32) (x4 : FVec Ideal S768x768 .f32) (x5 : FVec Ideal S768 .f32) (x6 : FVec Ideal S768x768 .f32) (x7 : FVec Ideal S768 .f32) (x8 : FVec Ideal S3x768x8 .f32) (x9 : FVec Ideal S8x768x1024 .f32) (x10 : FVec Ideal S8x1024 .f32) (x11 : FVec Ideal S8x1024x768 .f32) (x12 : FVec Ideal S8x768 .f32) (x13 : FVec Ideal S3x768x512 .f32) (x14 : FVec Ideal S3x512 .f32) (x15 : FVec Ideal S3x512x2 .f32) (x16 : FVec Ideal S3x2 .f32)
/-- The balance loss of the first task. -/
theorem aux0 : val_main_v75 (F := Ideal) x1 x4 x5 x6 x7 x8 = rAux (val_main_v46 (F := Ideal) x1 x4 x5 x6 x7 x8) := rfl
/-- The cross entropy of the first task. -/
theorem bce0 : val_main_v110 (F := Ideal) x1 x3 x4 x5 x6 x7 x8 x9 x10 x11 x12 x13 x14 x15 x16 = rBce (rTower (rMix (val_main_v46 (F := Ideal) x1 x4 x5 x6 x7 x8) (rEO (val_main_v14 (F := Ideal) x1 x4 x5 x6 x7) x9 x10 x11 x12)) (val_main_v77 (F := Ideal) x13) (val_main_v80 (F := Ideal) x14) (val_main_v86 (F := Ideal) x15) (val_main_v89 (F := Ideal) x16)) (val_main_v97 (F := Ideal) x3) := rfl
/-- The gating scores of the first task. -/
theorem lg0 (n : Fin 256) (e : Fin 8) : val_main_v17 (F := Ideal) x1 x4 x5 x6 x7 x8 (ix2 n e) = logitOf (fun n d => (val_main_v14 (F := Ideal) x1 x4 x5 x6 x7) (ix2 n d)) (fun d e => x8 (ix3 0 d e)) n e := by
  pointwise [val_main_v17, val_main_v16, val_main_v15]
  rfl
/-- The labels of the first task. -/
theorem lab0 (i m : Fin 16) : val_main_v97 (F := Ideal) x3 (ix2 i m) = labelOf (fun m => x3 (ix3 i 0 m)) m := by
  pointwise [val_main_v97, val_main_v96, val_main_v4, val_main_v3, val_main_v2, val_main_v1, val_main_v0, val_main_cst, uitofp_bit, minf]
  rfl
/-- The first tower's first weights. -/
theorem tw0 (d : Fin 768) (h : Fin 512) : val_main_v77 (F := Ideal) x13 (ix2 d h) = x13 (ix3 0 d h) := by
  pointwise [val_main_v77, val_main_v76]
/-- The first tower's first bias. -/
theorem tb0 (h : Fin 512) : val_main_v80 (F := Ideal) x14 (ix1 h) = x14 (ix2 0 h) := by
  pointwise [val_main_v80, val_main_v79]
/-- The first tower's second weights. -/
theorem tv0 (h : Fin 512) : val_main_v86 (F := Ideal) x15 (ix2 h 0) = x15 (ix3 0 h 0) := by
  pointwise [val_main_v86, val_main_v85]
/-- The first tower's second bias. -/
theorem tc0 : val_main_v89 (F := Ideal) x16 (ix1 0) = x16 (ix2 0 0) := by
  pointwise [val_main_v89, val_main_v88]
/-- The balance loss of the second task. -/
theorem aux1 : val_main_v174 (F := Ideal) x1 x4 x5 x6 x7 x8 = rAux (val_main_v145 (F := Ideal) x1 x4 x5 x6 x7 x8) := rfl
/-- The cross entropy of the second task. -/
theorem bce1 : val_main_v209 (F := Ideal) x1 x3 x4 x5 x6 x7 x8 x9 x10 x11 x12 x13 x14 x15 x16 = rBce (rTower (rMix (val_main_v145 (F := Ideal) x1 x4 x5 x6 x7 x8) (rEO (val_main_v14 (F := Ideal) x1 x4 x5 x6 x7) x9 x10 x11 x12)) (val_main_v176 (F := Ideal) x13) (val_main_v179 (F := Ideal) x14) (val_main_v185 (F := Ideal) x15) (val_main_v188 (F := Ideal) x16)) (val_main_v196 (F := Ideal) x3) := rfl
/-- The gating scores of the second task. -/
theorem lg1 (n : Fin 256) (e : Fin 8) : val_main_v116 (F := Ideal) x1 x4 x5 x6 x7 x8 (ix2 n e) = logitOf (fun n d => (val_main_v14 (F := Ideal) x1 x4 x5 x6 x7) (ix2 n d)) (fun d e => x8 (ix3 1 d e)) n e := by
  pointwise [val_main_v116, val_main_v115, val_main_v114]
  rfl
/-- The labels of the second task. -/
theorem lab1 (i m : Fin 16) : val_main_v196 (F := Ideal) x3 (ix2 i m) = labelOf (fun m => x3 (ix3 i 1 m)) m := by
  pointwise [val_main_v196, val_main_v195, val_main_v4, val_main_v3, val_main_v2, val_main_v1, val_main_v0, val_main_cst, uitofp_bit, minf]
  rfl
/-- The second tower's first weights. -/
theorem tw1 (d : Fin 768) (h : Fin 512) : val_main_v176 (F := Ideal) x13 (ix2 d h) = x13 (ix3 1 d h) := by
  pointwise [val_main_v176, val_main_v175]
/-- The second tower's first bias. -/
theorem tb1 (h : Fin 512) : val_main_v179 (F := Ideal) x14 (ix1 h) = x14 (ix2 1 h) := by
  pointwise [val_main_v179, val_main_v178]
/-- The second tower's second weights. -/
theorem tv1 (h : Fin 512) : val_main_v185 (F := Ideal) x15 (ix2 h 0) = x15 (ix3 1 h 0) := by
  pointwise [val_main_v185, val_main_v184]
/-- The second tower's second bias. -/
theorem tc1 : val_main_v188 (F := Ideal) x16 (ix1 0) = x16 (ix2 1 0) := by
  pointwise [val_main_v188, val_main_v187]
/-- The balance loss of the third task. -/
theorem aux2 : val_main_v273 (F := Ideal) x1 x4 x5 x6 x7 x8 = rAux (val_main_v244 (F := Ideal) x1 x4 x5 x6 x7 x8) := rfl
/-- The cross entropy of the third task. -/
theorem bce2 : val_main_v308 (F := Ideal) x1 x3 x4 x5 x6 x7 x8 x9 x10 x11 x12 x13 x14 x15 x16 = rBce (rTower (rMix (val_main_v244 (F := Ideal) x1 x4 x5 x6 x7 x8) (rEO (val_main_v14 (F := Ideal) x1 x4 x5 x6 x7) x9 x10 x11 x12)) (val_main_v275 (F := Ideal) x13) (val_main_v278 (F := Ideal) x14) (val_main_v284 (F := Ideal) x15) (val_main_v287 (F := Ideal) x16)) (val_main_v295 (F := Ideal) x3) := rfl
/-- The gating scores of the third task. -/
theorem lg2 (n : Fin 256) (e : Fin 8) : val_main_v215 (F := Ideal) x1 x4 x5 x6 x7 x8 (ix2 n e) = logitOf (fun n d => (val_main_v14 (F := Ideal) x1 x4 x5 x6 x7) (ix2 n d)) (fun d e => x8 (ix3 2 d e)) n e := by
  pointwise [val_main_v215, val_main_v214, val_main_v213]
  rfl
/-- The labels of the third task. -/
theorem lab2 (i m : Fin 16) : val_main_v295 (F := Ideal) x3 (ix2 i m) = labelOf (fun m => x3 (ix3 i 2 m)) m := by
  pointwise [val_main_v295, val_main_v294, val_main_v4, val_main_v3, val_main_v2, val_main_v1, val_main_v0, val_main_cst, uitofp_bit, minf]
  rfl
/-- The third tower's first weights. -/
theorem tw2 (d : Fin 768) (h : Fin 512) : val_main_v275 (F := Ideal) x13 (ix2 d h) = x13 (ix3 2 d h) := by
  pointwise [val_main_v275, val_main_v274]
/-- The third tower's first bias. -/
theorem tb2 (h : Fin 512) : val_main_v278 (F := Ideal) x14 (ix1 h) = x14 (ix2 2 h) := by
  pointwise [val_main_v278, val_main_v277]
/-- The third tower's second weights. -/
theorem tv2 (h : Fin 512) : val_main_v284 (F := Ideal) x15 (ix2 h 0) = x15 (ix3 2 h 0) := by
  pointwise [val_main_v284, val_main_v283]
/-- The third tower's second bias. -/
theorem tc2 : val_main_v287 (F := Ideal) x16 (ix1 0) = x16 (ix2 2 0) := by
  pointwise [val_main_v287, val_main_v286]
/-- The shared bottom, at an index. -/
theorem preds_at (n : Fin 256) (d : Fin 768) : val_main_v14 (F := Ideal) x1 x4 x5 x6 x7 (ix2 n d) = predOf (fun n d => val_main_v5 (F := Ideal) x1 (ix2 n d)) (fun l k => x4 (ix2 l k)) (fun k => x5 (ix1 k)) (fun k d => x6 (ix2 k d)) (fun d => x7 (ix1 d)) n d := by
  pointwise [val_main_v14, val_main_v13, val_main_v12, val_main_v11, val_main_v10, val_main_v9, val_main_v8, val_main_v7, val_main_v6, val_main_call0_v0, val_main_call0_cst]
  rfl
/-- The result is the three tasks' parts, added in turn. -/
theorem total_at (u : S_.Idx) : val_main_v311 (F := Ideal) x1 x3 x4 x5 x6 x7 x8 x9 x10 x11 x12 x13 x14 x15 x16 u
    = ((val_main_v110 (F := Ideal) x1 x3 x4 x5 x6 x7 x8 x9 x10 x11 x12 x13 x14 x15 x16 u + Ideal.ofBits .f32 0x3C23D70A#32 * val_main_v75 (F := Ideal) x1 x4 x5 x6 x7 x8 u)
      + val_main_v209 (F := Ideal) x1 x3 x4 x5 x6 x7 x8 x9 x10 x11 x12 x13 x14 x15 x16 u + Ideal.ofBits .f32 0x3C23D70A#32 * val_main_v174 (F := Ideal) x1 x4 x5 x6 x7 x8 u)
      + val_main_v308 (F := Ideal) x1 x3 x4 x5 x6 x7 x8 x9 x10 x11 x12 x13 x14 x15 x16 u + Ideal.ofBits .f32 0x3C23D70A#32 * val_main_v273 (F := Ideal) x1 x4 x5 x6 x7 x8 u := by
  pointwise [val_main_v311, val_main_v310, val_main_v309, val_main_v212, val_main_v211, val_main_v210, val_main_v113, val_main_v112, val_main_v111, val_main_cst_22, val_main_cst_23, val_main_cst_49, val_main_cst_75]
  try rfl
end
end Cert.ReferenceIdeal.Tasks
-- ==== Proof.Value.RTotal.lean ====
module
public import proofs.«01_k».proof.Proof.Value.RTask
public import proofs.«01_k».proof.Proof.Value.Total
/-! The number the reference computes is the loss, read off the arguments. -/
@[expose] public section
set_option maxRecDepth 16384
noncomputable section
namespace Cert.ReferenceIdeal.Tasks
open Cert.ReferenceIdeal Cert.ReferenceIdeal.Read Cert.Gating
open Idealize.ShloMosaic Idealize.ShloMosaic.TcCoe
variable (x1 : FVec Ideal S16x16x768 .f32) (x3 : FVec Ideal S16x3x16 .f32) (x4 : FVec Ideal S768x768 .f32) (x5 : FVec Ideal S768 .f32) (x6 : FVec Ideal S768x768 .f32) (x7 : FVec Ideal S768 .f32) (x8 : FVec Ideal S3x768x8 .f32)
  (x9 : FVec Ideal S8x768x1024 .f32) (x10 : FVec Ideal S8x1024 .f32) (x11 : FVec Ideal S8x1024x768 .f32) (x12 : FVec Ideal S8x768 .f32)
  (x13 : FVec Ideal S3x768x512 .f32) (x14 : FVec Ideal S3x512 .f32) (x15 : FVec Ideal S3x512x2 .f32) (x16 : FVec Ideal S3x2 .f32)

/-- The reference's arguments, read at positions. -/
def args : Args where
  cand i k d := x1 (ix3 i k d)
  scores i j k := x3 (ix3 i j k)
  w1 l k := x4 (ix2 l k)
  b1 k := x5 (ix1 k)
  w2 k d := x6 (ix2 k d)
  b2 d := x7 (ix1 d)
  wg j d e := x8 (ix3 j d e)
  e1 e d h := x9 (ix3 e d h)
  f1 e h := x10 (ix2 e h)
  e2 e h o := x11 (ix3 e h o)
  f2 e o := x12 (ix2 e o)
  t1 j d h := x13 (ix3 j d h)
  u1 j h := x14 (ix2 j h)
  t2 j h := x15 (ix3 j h (0 : Fin 2))
  u2 j := x16 (ix2 j (0 : Fin 2))

/-- A row of the reshaped candidates. -/
theorem row_at (n : Fin 256) (d : Fin 768) : val_main_v5 (F := Ideal) x1 (ix2 n d) = x1 (ix3 (⟨n.val / 16, by omega⟩ : Fin 16) (⟨n.val % 16, by omega⟩ : Fin 16) d) := by
  pointwise [val_main_v5]
/-- The shared bottom's output. -/
theorem bottom_at (n : Fin 256) (d : Fin 768) : val_main_v14 (F := Ideal) x1 x4 x5 x6 x7 (ix2 n d) = (args x1 x3 x4 x5 x6 x7 x8 x9 x10 x11 x12 x13 x14 x15 x16).preds n d := by
  rw [preds_at]
  simp only [row_at]
  rfl
/-- What is known of the arrays of task `j`: the gating scores `lg`, the towers' slices and the labels `lab`. -/
structure Slices (j : Fin 3) (lg : FVec Ideal S256x8 .f32) (w : FVec Ideal S768x512 .f32) (b : FVec Ideal S512 .f32) (w' : FVec Ideal S512x2 .f32) (b' : FVec Ideal S2 .f32) (lab : FVec Ideal S16x16 .f32) : Prop where
  score : ∀ n e, lg (ix2 n e) = logitOf (fun n d => val_main_v14 (F := Ideal) x1 x4 x5 x6 x7 (ix2 n d)) (fun d e => x8 (ix3 j d e)) n e
  first : ∀ d h, w (ix2 d h) = x13 (ix3 j d h)
  bias : ∀ h, b (ix1 h) = x14 (ix2 j h)
  second : ∀ h, w' (ix2 h 0) = x15 (ix3 j h 0)
  last : b' (ix1 0) = x16 (ix2 j 0)
  label : ∀ i k, lab (ix2 i k) = labelOf (fun k => x3 (ix3 i j k)) k

section Task
variable (ht : (args x1 x3 x4 x5 x6 x7 x8 x9 x10 x11 x12 x13 x14 x15 x16).Tame) (j : Fin 3) (lg : FVec Ideal S256x8 .f32) (w : FVec Ideal S768x512 .f32) (b : FVec Ideal S512 .f32) (w' : FVec Ideal S512x2 .f32) (b' : FVec Ideal S2 .f32) (lab : FVec Ideal S16x16 .f32)
  (hs : Slices x1 x3 x4 x5 x6 x7 x8 x13 x14 x15 x16 j lg w b w' b' lab)
include ht hs

/-- A task's gates. -/
theorem gates_at (n : Fin 256) (e : Fin 8) : rGate lg (ix2 n e) = (args x1 x3 x4 x5 x6 x7 x8 x9 x10 x11 x12 x13 x14 x15 x16).gates j n e := by
  have hl : (fun e => lg (ix2 n e)) = (args x1 x3 x4 x5 x6 x7 x8 x9 x10 x11 x12 x13 x14 x15 x16).logits j n := by
    funext e
    rw [hs.score]
    simp only [bottom_at x1 x3 x4 x5 x6 x7 x8 x9 x10 x11 x12 x13 x14 x15 x16]
    rfl
  have hf : Finite fun e => lg (ix2 n e) := by rw [hl]; exact fun e => ht j n e
  rw [rGate_at lg n hf, hl]
  unfold pos
  rw [hl]
  rfl
/-- A task's balance loss. -/
theorem aux_at (u : S_.Idx) : rAux (rGate lg) u = (args x1 x3 x4 x5 x6 x7 x8 x9 x10 x11 x12 x13 x14 x15 x16).aux j := by
  rw [rAux_at]
  unfold Args.aux
  exact congrArg auxOf (funext fun n => funext fun e => gates_at x1 x3 x4 x5 x6 x7 x8 x9 x10 x11 x12 x13 x14 x15 x16 ht j lg w b w' b' lab hs n e)
/-- A task's cross entropy. -/
theorem part_at (u : S_.Idx) : rBce (rTower (rMix (rGate lg) (rEO (val_main_v14 (F := Ideal) x1 x4 x5 x6 x7) x9 x10 x11 x12)) w b w' b') lab u = (args x1 x3 x4 x5 x6 x7 x8 x9 x10 x11 x12 x13 x14 x15 x16).part j := by
  have hg := gates_at x1 x3 x4 x5 x6 x7 x8 x9 x10 x11 x12 x13 x14 x15 x16 ht j lg w b w' b' lab hs
  have he (e : Fin 8) (n : Fin 256) (o : Fin 768) : rEO (val_main_v14 (F := Ideal) x1 x4 x5 x6 x7) x9 x10 x11 x12 (ix3 n e o) = (args x1 x3 x4 x5 x6 x7 x8 x9 x10 x11 x12 x13 x14 x15 x16).expert e n o := by
    rw [rEO_at]
    simp only [bottom_at x1 x3 x4 x5 x6 x7 x8 x9 x10 x11 x12 x13 x14 x15 x16]
    rfl
  rw [rBce_at]
  unfold Args.part
  refine Finset.sum_congr rfl fun i _ => ?_
  refine congrArg₂ Ideal.div (Finset.sum_congr rfl fun k _ => ?_) rfl
  have hi : (i.val * 16 + k.val) / 16 = i.val := by omega
  have hk : (i.val * 16 + k.val) % 16 = k.val := by omega
  rw [rTower_at, hs.label]
  simp only [rMix_at, hg, he, hs.first, hs.bias, hs.second, hs.last]
  unfold Args.term
  simp only [hi, hk, Fin.eta]
  rfl
end Task

/-- THE REFERENCE'S NUMBER is the loss. -/
theorem out_at (ht : (args x1 x3 x4 x5 x6 x7 x8 x9 x10 x11 x12 x13 x14 x15 x16).Tame) (u : S_.Idx) : val_main_v311 (F := Ideal) x1 x3 x4 x5 x6 x7 x8 x9 x10 x11 x12 x13 x14 x15 x16 u = (args x1 x3 x4 x5 x6 x7 x8 x9 x10 x11 x12 x13 x14 x15 x16).total := by
  have s0 : Slices x1 x3 x4 x5 x6 x7 x8 x13 x14 x15 x16 0 _ _ _ _ _ _ := ⟨lg0 x1 x4 x5 x6 x7 x8, tw0 x13, tb0 x14, tv0 x15, tc0 x16, lab0 x3⟩
  have s1 : Slices x1 x3 x4 x5 x6 x7 x8 x13 x14 x15 x16 1 _ _ _ _ _ _ := ⟨lg1 x1 x4 x5 x6 x7 x8, tw1 x13, tb1 x14, tv1 x15, tc1 x16, lab1 x3⟩
  have s2 : Slices x1 x3 x4 x5 x6 x7 x8 x13 x14 x15 x16 2 _ _ _ _ _ _ := ⟨lg2 x1 x4 x5 x6 x7 x8, tw2 x13, tb2 x14, tv2 x15, tc2 x16, lab2 x3⟩
  have a0 := aux_at x1 x3 x4 x5 x6 x7 x8 x9 x10 x11 x12 x13 x14 x15 x16 ht 0 _ _ _ _ _ _ s0 u
  have a1 := aux_at x1 x3 x4 x5 x6 x7 x8 x9 x10 x11 x12 x13 x14 x15 x16 ht 1 _ _ _ _ _ _ s1 u
  have a2 := aux_at x1 x3 x4 x5 x6 x7 x8 x9 x10 x11 x12 x13 x14 x15 x16 ht 2 _ _ _ _ _ _ s2 u
  have p0 := part_at x1 x3 x4 x5 x6 x7 x8 x9 x10 x11 x12 x13 x14 x15 x16 ht 0 _ _ _ _ _ _ s0 u
  have p1 := part_at x1 x3 x4 x5 x6 x7 x8 x9 x10 x11 x12 x13 x14 x15 x16 ht 1 _ _ _ _ _ _ s1 u
  have p2 := part_at x1 x3 x4 x5 x6 x7 x8 x9 x10 x11 x12 x13 x14 x15 x16 ht 2 _ _ _ _ _ _ s2 u
  rw [total_at, bce0, bce1, bce2, aux0, aux1, aux2, g0, g1, g2, a0, a1, a2, p0, p1, p2]
  exact (total_eq _).symm
end Cert.ReferenceIdeal.Tasks
-- ==== Proof.Value.Tame.lean ====
module
public import proofs.«01_k».proof.Proof.Value.Total
/-! Where the arrays that the gating scores are computed from hold real numbers, so do the gating scores. -/
@[expose] public section
noncomputable section
namespace Cert.Gating
open Idealize.ShloMosaic

/-- A number that is neither infinity. -/
def Real' (x : EReal) : Prop := x ≠ ⊤ ∧ x ≠ ⊥

/-- Such a number is a real number. -/
theorem Real'.lift {x : EReal} (h : Real' x) : ∃ r : ℝ, x = r := ⟨x.toReal, (EReal.coe_toReal h.1 h.2).symm⟩
/-- A real number is neither infinity. -/
theorem real_coe (r : ℝ) : Real' (r : EReal) := ⟨EReal.coe_ne_top r, EReal.coe_ne_bot r⟩
/-- Real numbers add to real numbers. -/
theorem Real'.add {x y : EReal} (hx : Real' x) (hy : Real' y) : Real' (x + y) := by
  obtain ⟨a, rfl⟩ := hx.lift; obtain ⟨b, rfl⟩ := hy.lift
  rw [← EReal.coe_add]; exact real_coe _
/-- Real numbers multiply to real numbers. -/
theorem Real'.mul {x y : EReal} (hx : Real' x) (hy : Real' y) : Real' (x * y) := by
  obtain ⟨a, rfl⟩ := hx.lift; obtain ⟨b, rfl⟩ := hy.lift
  rw [← EReal.coe_mul]; exact real_coe _
/-- The positive part of a real number is real. -/
theorem Real'.pos {x : EReal} (hx : Real' x) : Real' (max x 0) := by
  rcases max_choice x 0 with h | h <;> rw [h]
  · exact hx
  · exact real_coe 0
/-- A sum of real numbers is real. -/
theorem Real'.sum {ι : Type} (s : Finset ι) (f : ι → EReal) (h : ∀ i, Real' (f i)) : Real' (∑ i ∈ s, f i) := by
  classical
  induction s using Finset.induction_on with
  | empty => rw [Finset.sum_empty]; exact real_coe 0
  | insert a s ha ih => rw [Finset.sum_insert ha]; exact (h a).add ih

/-- The gating scores are real numbers where the arrays they are computed from hold real numbers. -/
theorem Args.tame (A : Args) (hx : ∀ i k d, Real' (A.cand i k d)) (hw : ∀ l k, Real' (A.w1 l k)) (hb : ∀ k, Real' (A.b1 k))
    (hw' : ∀ k d, Real' (A.w2 k d)) (hb' : ∀ d, Real' (A.b2 d)) (hg : ∀ j d e, Real' (A.wg j d e)) : A.Tame := by
  intro j n e
  have hp (n : Fin 256) (d : Fin 768) : Real' (A.preds n d) := by
    refine Real'.add (Real'.sum _ _ fun k => Real'.mul (Real'.pos (Real'.add (Real'.sum _ _ fun l => Real'.mul ?_ (hw _ _)) (hb _))) (hw' _ _)) (hb' _)
    exact hx _ _ _
  have hl : Real' (∑ d, A.preds n d * A.wg j d e) := Real'.sum _ _ fun d => Real'.mul (hp _ _) (hg _ _ _)
  exact hl

/-- A number whose absolute value is below infinity is real. -/
theorem real_of_abs {x : EReal} (h : max x (-x) < ⊤) : Real' x := by
  refine ⟨fun hx => ?_, fun hx => ?_⟩ <;> simp [hx] at h
end Cert.Gating
-- ==== Proof.Value.Pre.lean ====
module
public import Idealize.ShloMosaic.Lib.Pointwise
public import proofs.«01_k».proof.Pre_gating_is_finite
public import proofs.«01_k».proof.Proof.Value.Tame
/-! What the precondition says: the arrays that the gating scores are computed from hold real numbers. -/
@[expose] public section
set_option maxRecDepth 16384
noncomputable section
namespace Cert.Pre_gating_is_finite
open Cert.Gating
open Idealize.ShloMosaic

/-- The side conditions of the precondition's operations. -/
theorem facts : Facts where
  reducesTo_S16x16x768_S_d0_1_2 := by decide
  h_S_ := by decide
  reducesTo_S768x768_S_d0_1 := by decide
  reducesTo_S768_S_d0 := by decide
  reducesTo_S3x768x8_S_d0_1_2 := by decide

section Tests
variable (h' : 0 < S_.numel) (u : S_.Idx)
/-- The printed bound. -/
theorem bound : Ideal.ofBits .f32 2139095040#32 = ⊤ := by simp [Ideal.ofBits, Ideal.ieee]
/-- WHAT ONE COMPARISON SAYS: an array whose greatest absolute value is below infinity holds real numbers. -/
theorem real_of_max {s : Shape} {axes : List (Fin s.rank)} (x : FVec Ideal s .f32) (h : s.ReducesTo axes S_)
    (e : cmpf .olt (Host.reduce FloatOps.maximumf (Host.absf x) (constant S_ .f32 0xFF800000#32) h h') (constant S_ .f32 0x7F800000#32) u = 1#1) (i : s.Idx) : Real' (x i) := by
  have hr : Host.reduce (FloatOps.maximumf (F := Ideal) (φ := .f32)) (Host.absf x) (constant S_ .f32 0xFF800000#32) h h' u
      = (Finset.univ.filter fun i => h.drop i = u).fold max (Ideal.ofBits .f32 0xFF800000#32) (fun i => max (x i) (-(x i))) :=
    Host.reduce_eq_fold (fun a b : EReal => max a b) (fun i => max (x i) (-(x i))) (fun _ => Ideal.ofBits .f32 0xFF800000#32) h h' u
  have e' : BitVec.ofBool (decide (Host.reduce (FloatOps.maximumf (F := Ideal) (φ := .f32)) (Host.absf x) (constant S_ .f32 0xFF800000#32) h h' u < Ideal.ofBits .f32 0x7F800000#32)) = 1#1 := e
  rw [hr, bound] at e'
  have hlt : (Finset.univ.filter fun i => h.drop i = u).fold max (Ideal.ofBits .f32 0xFF800000#32) (fun i => max (x i) (-(x i))) < (⊤ : EReal) := by
    by_contra hn
    rw [decide_eq_false hn] at e'
    exact absurd e' (by decide)
  refine real_of_abs (lt_of_le_of_lt ((Finset.le_fold_max _).2 (Or.inr ⟨i, ?_, le_refl _⟩)) hlt)
  exact Finset.mem_filter.2 ⟨Finset.mem_univ _, funext fun a => a.elim0⟩
end Tests
/-- A conjunction of bits is one where both are. -/
theorem and_one : ∀ a b : BitVec 1, IntOp.andi a b = 1#1 → a = 1#1 ∧ b = 1#1 := by decide

variable [hF : Facts]
/-- THE PRECONDITION, decoded: six arrays hold real numbers. -/
theorem decoded (x0 : FVec Ideal S16x768 .f32) (x1 : FVec Ideal S16x16x768 .f32) (x2 : FVec Ideal S16x16 .f32) (x3 : FVec Ideal S16x3x16 .f32) (x4 : FVec Ideal S768x768 .f32) (x5 : FVec Ideal S768 .f32) (x6 : FVec Ideal S768x768 .f32) (x7 : FVec Ideal S768 .f32) (x8 : FVec Ideal S3x768x8 .f32)
    (x9 : FVec Ideal S8x768x1024 .f32) (x10 : FVec Ideal S8x1024 .f32) (x11 : FVec Ideal S8x1024x768 .f32) (x12 : FVec Ideal S8x768 .f32)
    (x13 : FVec Ideal S3x768x512 .f32) (x14 : FVec Ideal S3x512 .f32) (x15 : FVec Ideal S3x512x2 .f32) (x16 : FVec Ideal S3x2 .f32)
    (e : fn x0 x1 x2 x3 x4 x5 x6 x7 x8 x9 x10 x11 x12 x13 x14 x15 x16 = fun _ => 1#1) :
    (∀ i k d, Real' (x1 (ix3 i k d))) ∧ (∀ k l, Real' (x4 (ix2 k l))) ∧ (∀ k, Real' (x5 (ix1 k))) ∧ (∀ k l, Real' (x6 (ix2 k l)))
      ∧ (∀ k, Real' (x7 (ix1 k))) ∧ (∀ j d k, Real' (x8 (ix3 j d k))) := by
  let u : S_.Idx := fun a => a.elim0
  have e5 := and_one _ _ (congrFun e u)
  have e4 := and_one _ _ e5.1
  have e3 := and_one _ _ e4.1
  have e2 := and_one _ _ e3.1
  have e1 := and_one _ _ e2.1
  exact ⟨fun _ _ _ => real_of_max _ u x1 _ e1.1 _, fun _ _ => real_of_max _ u x4 _ e1.2 _, fun _ => real_of_max _ u x5 _ e2.2 _,
    fun _ _ => real_of_max _ u x6 _ e3.2 _, fun _ => real_of_max _ u x7 _ e4.2 _, fun _ _ _ => real_of_max _ u x8 _ e5.2 _⟩
end Cert.Pre_gating_is_finite
-- ==== Proof.Value.Loss.lean ====
module
public import proofs.«01_k».proof.Defs
public import proofs.«01_k».proof.Proof.Value.KTotal
public import proofs.«01_k».proof.Proof.Value.KResult
public import proofs.«01_k».proof.Proof.Value.RTotal
public import proofs.«01_k».proof.Proof.Value.Pre
/-! The value claim: under the precondition the kernel and the reference return the same loss. -/
@[expose] public section
noncomputable section
namespace Cert.Proof
open Idealize.ShloMosaic Idealize.SL.Sem Cert.Gating
open Idealize.ShloMosaic.TcCoe

/-- The side conditions of the printed programs, as instances. -/
local instance : Cert.Pre_gating_is_finite.Facts := Cert.Pre_gating_is_finite.facts

/-- Under the precondition the gating scores are real numbers. -/
theorem tame (m : (ℓ : Loc Cert.KernelIdeal.nD Cert.KernelIdeal.τ Cert.KernelIdeal.sig) → Buf (Elt Ideal) ℓ) (h : Cert.Pre_KernelIdeal_gating_is_finite m)
    (c : Dev Cert.KernelIdeal.nD) : (Cert.KernelIdeal.Value.args m c).Tame := by
  obtain ⟨hx, hw, hb, hw', hb', hg⟩ := Cert.Pre_gating_is_finite.decoded _ _ _ _ _ _ _ _ _ _ _ _ _ _ _ _ _ (h c)
  exact Args.tame _ hx hw hb hw' hb' hg

/-- THE VALUE CLAIM: both programs end, leave their arguments as they were, and return the same number. -/
theorem algebraic : Cert.algebraic_KernelIdeal_ReferenceIdeal_pre_gating_is_finite := by
  intro m g m' g' hpre hargs
  refine ⟨fun c _ => (Cert.KernelIdeal.Value.args m c).total, ?_, ?_⟩
  · refine (θ_run _ _ _).mono (fun r h c => ⟨?_, Cert.KernelIdeal.Hand.args_kept m h.1 c⟩) (Cert.KernelIdeal.Hand.run_main m g)
    let i : Cert.KernelIdeal.S1x1.Idx := ValueIdx.ix2 (0 : Fin 1) (0 : Fin 1)
    refine (Cert.KernelIdeal.Value.result_at m c h.1 i).trans (funext fun _ => ?_)
    exact Cert.KernelIdeal.Value.out_at m c (tame m hpre c) i
  · refine (θ_run _ _ _).mono (fun r h c => ⟨(h c).1.trans ?_, (h c).2⟩) (Cert.ReferenceIdeal.Value.run m' g')
    obtain ⟨h0, h1, h2, h3, h4, h5, h6, h7, h8, h9, h10, h11, h12, h13, h14, h15, h16⟩ := hargs c
    have ha : Cert.ReferenceIdeal.Tasks.args (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = Cert.KernelIdeal.Value.args m c := by
      rw [h1, h3, h4, h5, h6, h7, h8, h9, h10, h11, h12, h13, h14, h15, h16]
      rfl
    have ht := tame m hpre c
    rw [← ha] at ht
    refine funext fun u => Eq.trans ?_ (congrArg Args.total ha)
    exact Cert.ReferenceIdeal.Tasks.out_at _ _ _ _ _ _ _ _ _ _ _ _ _ _ _ ht u
end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Loss
public import Idealize.ShloMosaic.Adequacy
public import Idealize.ShloMosaic.Init

@[expose] public section

noncomputable section

namespace Cert.Proof

open Idealize.ShloMosaic Idealize.SL.Sem Cert.Kernel

/-- Everything this certificate claims. -/
theorem claim : Cert.Claim := ⟨Cert.Kernel.Gen.facts, Cert.KernelIdeal.Gen.facts, Cert.ReferenceIdeal.Gen.facts, Cert.Pre_gating_is_finite.facts, by
  refine ⟨fun m ρ _ => Cert.Kernel.Hand.frame m ρ, fun m ρ _ => Cert.KernelIdeal.Hand.frame m ρ, fun m ρ _ => Cert.KernelIdeal.Hand.frame m ρ,
    fun m ρ _ => ?_, fun m ρ _ => ?_, trivial, algebraic⟩
  all_goals exact (θ_run _ _ _).mono (fun r h => ⟨fun c => (h c).2, sem_eq_zero_of_no_sems rfl r.2⟩) (Cert.ReferenceIdeal.Value.run m ρ)⟩

end Cert.Proof

end
